-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_inputs [hPre_finite_inputs : Cert.Pre_finite_inputs.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_inputs.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11))).1 = (fun _ => 1#1)
    ∧ (Cert.Pre_finite_inputs.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11))).2.1 = (fun _ => 1#1)
    ∧ (Cert.Pre_finite_inputs.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11))).2.2.1 = (fun _ => 1#1)
    ∧ (Cert.Pre_finite_inputs.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11))).2.2.2.1 = (fun _ => 1#1)
    ∧ (Cert.Pre_finite_inputs.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11))).2.2.2.2.1 = (fun _ => 1#1)
    ∧ (Cert.Pre_finite_inputs.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11))).2.2.2.2.2.1 = (fun _ => 1#1)
    ∧ (Cert.Pre_finite_inputs.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11))).2.2.2.2.2.2.1 = (fun _ => 1#1)
    ∧ (Cert.Pre_finite_inputs.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11))).2.2.2.2.2.2.2.1 = (fun _ => 1#1)
    ∧ (Cert.Pre_finite_inputs.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11))).2.2.2.2.2.2.2.2.1 = (fun _ => 1#1)
    ∧ (Cert.Pre_finite_inputs.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11))).2.2.2.2.2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_inputs [hPre_finite_inputs : Cert.Pre_finite_inputs.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_inputs.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11))).1 = (fun _ => 1#1)
    ∧ (Cert.Pre_finite_inputs.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11))).2.1 = (fun _ => 1#1)
    ∧ (Cert.Pre_finite_inputs.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11))).2.2.1 = (fun _ => 1#1)
    ∧ (Cert.Pre_finite_inputs.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11))).2.2.2.1 = (fun _ => 1#1)
    ∧ (Cert.Pre_finite_inputs.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11))).2.2.2.2.1 = (fun _ => 1#1)
    ∧ (Cert.Pre_finite_inputs.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11))).2.2.2.2.2.1 = (fun _ => 1#1)
    ∧ (Cert.Pre_finite_inputs.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11))).2.2.2.2.2.2.1 = (fun _ => 1#1)
    ∧ (Cert.Pre_finite_inputs.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11))).2.2.2.2.2.2.2.1 = (fun _ => 1#1)
    ∧ (Cert.Pre_finite_inputs.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11))).2.2.2.2.2.2.2.2.1 = (fun _ => 1#1)
    ∧ (Cert.Pre_finite_inputs.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11))).2.2.2.2.2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_inputs_first [hPre_finite_inputs_first : Cert.Pre_finite_inputs_first.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_inputs_first.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13)) (m ((c.tc : Thread Cert.Kernel3Ideal.nD Cert.Kernel3Ideal.τ).loc Cert.Kernel3Ideal.main_arg14)) (m ((c.tc : Thread Cert.Kernel3Ideal.nD Cert.Kernel3Ideal.τ).loc Cert.Kernel3Ideal.main_arg15)) (m ((c.tc : Thread Cert.Kernel3Ideal.nD Cert.Kernel3Ideal.τ).loc Cert.Kernel3Ideal.main_arg16))).1 = (fun _ => 1#1)
    ∧ (Cert.Pre_finite_inputs_first.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13)) (m ((c.tc : Thread Cert.Kernel3Ideal.nD Cert.Kernel3Ideal.τ).loc Cert.Kernel3Ideal.main_arg14)) (m ((c.tc : Thread Cert.Kernel3Ideal.nD Cert.Kernel3Ideal.τ).loc Cert.Kernel3Ideal.main_arg15)) (m ((c.tc : Thread Cert.Kernel3Ideal.nD Cert.Kernel3Ideal.τ).loc Cert.Kernel3Ideal.main_arg16))).2.1 = (fun _ => 1#1)
    ∧ (Cert.Pre_finite_inputs_first.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13)) (m ((c.tc : Thread Cert.Kernel3Ideal.nD Cert.Kernel3Ideal.τ).loc Cert.Kernel3Ideal.main_arg14)) (m ((c.tc : Thread Cert.Kernel3Ideal.nD Cert.Kernel3Ideal.τ).loc Cert.Kernel3Ideal.main_arg15)) (m ((c.tc : Thread Cert.Kernel3Ideal.nD Cert.Kernel3Ideal.τ).loc Cert.Kernel3Ideal.main_arg16))).2.2.1 = (fun _ => 1#1)
    ∧ (Cert.Pre_finite_inputs_first.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13)) (m ((c.tc : Thread Cert.Kernel3Ideal.nD Cert.Kernel3Ideal.τ).loc Cert.Kernel3Ideal.main_arg14)) (m ((c.tc : Thread Cert.Kernel3Ideal.nD Cert.Kernel3Ideal.τ).loc Cert.Kernel3Ideal.main_arg15)) (m ((c.tc : Thread Cert.Kernel3Ideal.nD Cert.Kernel3Ideal.τ).loc Cert.Kernel3Ideal.main_arg16))).2.2.2.1 = (fun _ => 1#1)
    ∧ (Cert.Pre_finite_inputs_first.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13)) (m ((c.tc : Thread Cert.Kernel3Ideal.nD Cert.Kernel3Ideal.τ).loc Cert.Kernel3Ideal.main_arg14)) (m ((c.tc : Thread Cert.Kernel3Ideal.nD Cert.Kernel3Ideal.τ).loc Cert.Kernel3Ideal.main_arg15)) (m ((c.tc : Thread Cert.Kernel3Ideal.nD Cert.Kernel3Ideal.τ).loc Cert.Kernel3Ideal.main_arg16))).2.2.2.2.1 = (fun _ => 1#1)
    ∧ (Cert.Pre_finite_inputs_first.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13)) (m ((c.tc : Thread Cert.Kernel3Ideal.nD Cert.Kernel3Ideal.τ).loc Cert.Kernel3Ideal.main_arg14)) (m ((c.tc : Thread Cert.Kernel3Ideal.nD Cert.Kernel3Ideal.τ).loc Cert.Kernel3Ideal.main_arg15)) (m ((c.tc : Thread Cert.Kernel3Ideal.nD Cert.Kernel3Ideal.τ).loc Cert.Kernel3Ideal.main_arg16))).2.2.2.2.2.1 = (fun _ => 1#1)
    ∧ (Cert.Pre_finite_inputs_first.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13)) (m ((c.tc : Thread Cert.Kernel3Ideal.nD Cert.Kernel3Ideal.τ).loc Cert.Kernel3Ideal.main_arg14)) (m ((c.tc : Thread Cert.Kernel3Ideal.nD Cert.Kernel3Ideal.τ).loc Cert.Kernel3Ideal.main_arg15)) (m ((c.tc : Thread Cert.Kernel3Ideal.nD Cert.Kernel3Ideal.τ).loc Cert.Kernel3Ideal.main_arg16))).2.2.2.2.2.2.1 = (fun _ => 1#1)
    ∧ (Cert.Pre_finite_inputs_first.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13)) (m ((c.tc : Thread Cert.Kernel3Ideal.nD Cert.Kernel3Ideal.τ).loc Cert.Kernel3Ideal.main_arg14)) (m ((c.tc : Thread Cert.Kernel3Ideal.nD Cert.Kernel3Ideal.τ).loc Cert.Kernel3Ideal.main_arg15)) (m ((c.tc : Thread Cert.Kernel3Ideal.nD Cert.Kernel3Ideal.τ).loc Cert.Kernel3Ideal.main_arg16))).2.2.2.2.2.2.2.1 = (fun _ => 1#1)
    ∧ (Cert.Pre_finite_inputs_first.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13)) (m ((c.tc : Thread Cert.Kernel3Ideal.nD Cert.Kernel3Ideal.τ).loc Cert.Kernel3Ideal.main_arg14)) (m ((c.tc : Thread Cert.Kernel3Ideal.nD Cert.Kernel3Ideal.τ).loc Cert.Kernel3Ideal.main_arg15)) (m ((c.tc : Thread Cert.Kernel3Ideal.nD Cert.Kernel3Ideal.τ).loc Cert.Kernel3Ideal.main_arg16))).2.2.2.2.2.2.2.2.1 = (fun _ => 1#1)
    ∧ (Cert.Pre_finite_inputs_first.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13)) (m ((c.tc : Thread Cert.Kernel3Ideal.nD Cert.Kernel3Ideal.τ).loc Cert.Kernel3Ideal.main_arg14)) (m ((c.tc : Thread Cert.Kernel3Ideal.nD Cert.Kernel3Ideal.τ).loc Cert.Kernel3Ideal.main_arg15)) (m ((c.tc : Thread Cert.Kernel3Ideal.nD Cert.Kernel3Ideal.τ).loc Cert.Kernel3Ideal.main_arg16))).2.2.2.2.2.2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_inputs_first [hPre_finite_inputs_first : Cert.Pre_finite_inputs_first.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_inputs_first.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13)) (m ((c.tc : Thread Cert.Reference3Ideal.nD Cert.Reference3Ideal.τ).loc Cert.Reference3Ideal.main_arg14)) (m ((c.tc : Thread Cert.Reference3Ideal.nD Cert.Reference3Ideal.τ).loc Cert.Reference3Ideal.main_arg15)) (m ((c.tc : Thread Cert.Reference3Ideal.nD Cert.Reference3Ideal.τ).loc Cert.Reference3Ideal.main_arg16))).1 = (fun _ => 1#1)
    ∧ (Cert.Pre_finite_inputs_first.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13)) (m ((c.tc : Thread Cert.Reference3Ideal.nD Cert.Reference3Ideal.τ).loc Cert.Reference3Ideal.main_arg14)) (m ((c.tc : Thread Cert.Reference3Ideal.nD Cert.Reference3Ideal.τ).loc Cert.Reference3Ideal.main_arg15)) (m ((c.tc : Thread Cert.Reference3Ideal.nD Cert.Reference3Ideal.τ).loc Cert.Reference3Ideal.main_arg16))).2.1 = (fun _ => 1#1)
    ∧ (Cert.Pre_finite_inputs_first.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13)) (m ((c.tc : Thread Cert.Reference3Ideal.nD Cert.Reference3Ideal.τ).loc Cert.Reference3Ideal.main_arg14)) (m ((c.tc : Thread Cert.Reference3Ideal.nD Cert.Reference3Ideal.τ).loc Cert.Reference3Ideal.main_arg15)) (m ((c.tc : Thread Cert.Reference3Ideal.nD Cert.Reference3Ideal.τ).loc Cert.Reference3Ideal.main_arg16))).2.2.1 = (fun _ => 1#1)
    ∧ (Cert.Pre_finite_inputs_first.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13)) (m ((c.tc : Thread Cert.Reference3Ideal.nD Cert.Reference3Ideal.τ).loc Cert.Reference3Ideal.main_arg14)) (m ((c.tc : Thread Cert.Reference3Ideal.nD Cert.Reference3Ideal.τ).loc Cert.Reference3Ideal.main_arg15)) (m ((c.tc : Thread Cert.Reference3Ideal.nD Cert.Reference3Ideal.τ).loc Cert.Reference3Ideal.main_arg16))).2.2.2.1 = (fun _ => 1#1)
    ∧ (Cert.Pre_finite_inputs_first.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13)) (m ((c.tc : Thread Cert.Reference3Ideal.nD Cert.Reference3Ideal.τ).loc Cert.Reference3Ideal.main_arg14)) (m ((c.tc : Thread Cert.Reference3Ideal.nD Cert.Reference3Ideal.τ).loc Cert.Reference3Ideal.main_arg15)) (m ((c.tc : Thread Cert.Reference3Ideal.nD Cert.Reference3Ideal.τ).loc Cert.Reference3Ideal.main_arg16))).2.2.2.2.1 = (fun _ => 1#1)
    ∧ (Cert.Pre_finite_inputs_first.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13)) (m ((c.tc : Thread Cert.Reference3Ideal.nD Cert.Reference3Ideal.τ).loc Cert.Reference3Ideal.main_arg14)) (m ((c.tc : Thread Cert.Reference3Ideal.nD Cert.Reference3Ideal.τ).loc Cert.Reference3Ideal.main_arg15)) (m ((c.tc : Thread Cert.Reference3Ideal.nD Cert.Reference3Ideal.τ).loc Cert.Reference3Ideal.main_arg16))).2.2.2.2.2.1 = (fun _ => 1#1)
    ∧ (Cert.Pre_finite_inputs_first.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13)) (m ((c.tc : Thread Cert.Reference3Ideal.nD Cert.Reference3Ideal.τ).loc Cert.Reference3Ideal.main_arg14)) (m ((c.tc : Thread Cert.Reference3Ideal.nD Cert.Reference3Ideal.τ).loc Cert.Reference3Ideal.main_arg15)) (m ((c.tc : Thread Cert.Reference3Ideal.nD Cert.Reference3Ideal.τ).loc Cert.Reference3Ideal.main_arg16))).2.2.2.2.2.2.1 = (fun _ => 1#1)
    ∧ (Cert.Pre_finite_inputs_first.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13)) (m ((c.tc : Thread Cert.Reference3Ideal.nD Cert.Reference3Ideal.τ).loc Cert.Reference3Ideal.main_arg14)) (m ((c.tc : Thread Cert.Reference3Ideal.nD Cert.Reference3Ideal.τ).loc Cert.Reference3Ideal.main_arg15)) (m ((c.tc : Thread Cert.Reference3Ideal.nD Cert.Reference3Ideal.τ).loc Cert.Reference3Ideal.main_arg16))).2.2.2.2.2.2.2.1 = (fun _ => 1#1)
    ∧ (Cert.Pre_finite_inputs_first.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13)) (m ((c.tc : Thread Cert.Reference3Ideal.nD Cert.Reference3Ideal.τ).loc Cert.Reference3Ideal.main_arg14)) (m ((c.tc : Thread Cert.Reference3Ideal.nD Cert.Reference3Ideal.τ).loc Cert.Reference3Ideal.main_arg15)) (m ((c.tc : Thread Cert.Reference3Ideal.nD Cert.Reference3Ideal.τ).loc Cert.Reference3Ideal.main_arg16))).2.2.2.2.2.2.2.2.1 = (fun _ => 1#1)
    ∧ (Cert.Pre_finite_inputs_first.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13)) (m ((c.tc : Thread Cert.Reference3Ideal.nD Cert.Reference3Ideal.τ).loc Cert.Reference3Ideal.main_arg14)) (m ((c.tc : Thread Cert.Reference3Ideal.nD Cert.Reference3Ideal.τ).loc Cert.Reference3Ideal.main_arg15)) (m ((c.tc : Thread Cert.Reference3Ideal.nD Cert.Reference3Ideal.τ).loc Cert.Reference3Ideal.main_arg16))).2.2.2.2.2.2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Kernel2Ideal_pre_finite_inputs [hKernel2Ideal : Cert.Kernel2Ideal.Facts] [hPre_finite_inputs : Cert.Pre_finite_inputs.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_inputs m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Reference2Ideal_pre_finite_inputs [hReference2Ideal : Cert.Reference2Ideal.Facts] [hPre_finite_inputs : Cert.Pre_finite_inputs.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_inputs m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14)
      ∧ r.2.mem ((c.tc : Thread Cert.Kernel3.nD Cert.Kernel3.τ).loc Cert.Kernel3.main_arg15) = m ((c.tc : Thread Cert.Kernel3.nD Cert.Kernel3.τ).loc Cert.Kernel3.main_arg15)
      ∧ r.2.mem ((c.tc : Thread Cert.Kernel3.nD Cert.Kernel3.τ).loc Cert.Kernel3.main_arg16) = m ((c.tc : Thread Cert.Kernel3.nD Cert.Kernel3.τ).loc Cert.Kernel3.main_arg16))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
      ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16))
      ∧ r.2.sem = fun _ => 0)

def quiescent_Kernel3Ideal_pre_finite_inputs_first [hKernel3Ideal : Cert.Kernel3Ideal.Facts] [hPre_finite_inputs_first : Cert.Pre_finite_inputs_first.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_inputs_first m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
      ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15)
      ∧ r.2.mem ((c.tc : Thread Cert.Reference3Ideal.nD Cert.Reference3Ideal.τ).loc Cert.Reference3Ideal.main_arg16) = m ((c.tc : Thread Cert.Reference3Ideal.nD Cert.Reference3Ideal.τ).loc Cert.Reference3Ideal.main_arg16))
      ∧ r.2.sem = fun _ => 0)

def quiescent_Reference3Ideal_pre_finite_inputs_first [hReference3Ideal : Cert.Reference3Ideal.Facts] [hPre_finite_inputs_first : Cert.Pre_finite_inputs_first.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_inputs_first m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15)
      ∧ r.2.mem ((c.tc : Thread Cert.Reference3Ideal.nD Cert.Reference3Ideal.τ).loc Cert.Reference3Ideal.main_arg16) = m ((c.tc : Thread Cert.Reference3Ideal.nD Cert.Reference3Ideal.τ).loc Cert.Reference3Ideal.main_arg16))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite_inputs [hKernel2Ideal : Cert.Kernel2Ideal.Facts] [hReference2Ideal : Cert.Reference2Ideal.Facts] [hPre_finite_inputs : Cert.Pre_finite_inputs.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_inputs m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v94) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  True

def algebraic_Kernel3Ideal_Reference3Ideal_pre_finite_inputs_first [hKernel3Ideal : Cert.Kernel3Ideal.Facts] [hReference3Ideal : Cert.Reference3Ideal.Facts] [hPre_finite_inputs_first : Cert.Pre_finite_inputs_first.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_inputs_first m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)
      ∧ m' ((c.tc : Thread Cert.Reference3Ideal.nD Cert.Reference3Ideal.τ).loc Cert.Reference3Ideal.main_arg15) = m ((c.tc : Thread Cert.Kernel3Ideal.nD Cert.Kernel3Ideal.τ).loc Cert.Kernel3Ideal.main_arg15)
      ∧ m' ((c.tc : Thread Cert.Reference3Ideal.nD Cert.Reference3Ideal.τ).loc Cert.Reference3Ideal.main_arg16) = m ((c.tc : Thread Cert.Kernel3Ideal.nD Cert.Kernel3Ideal.τ).loc Cert.Kernel3Ideal.main_arg16)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)) (v3 : (c : Dev Cert.Kernel3Ideal.nD) → Buf (Elt Ideal) ((c.tc : Thread Cert.Kernel3Ideal.nD Cert.Kernel3Ideal.τ).loc Cert.Kernel3Ideal.main_v0_3)) (v4 : (c : Dev Cert.Kernel3Ideal.nD) → Buf (Elt Ideal) ((c.tc : Thread Cert.Kernel3Ideal.nD Cert.Kernel3Ideal.τ).loc Cert.Kernel3Ideal.main_v0_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_v0_3) = v3 c
          ∧ r.2.mem ((c.tc : Thread Cert.Kernel3Ideal.nD Cert.Kernel3Ideal.τ).loc Cert.Kernel3Ideal.main_v0_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
          ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
          ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v80) = v0 c
          ∧ r.2.mem ((c.tc : Thread Cert.Reference3Ideal.nD Cert.Reference3Ideal.τ).loc Cert.Reference3Ideal.main_v111) = v1 c
          ∧ r.2.mem ((c.tc : Thread Cert.Reference3Ideal.nD Cert.Reference3Ideal.τ).loc Cert.Reference3Ideal.main_v116) = v2 c
          ∧ r.2.mem ((c.tc : Thread Cert.Reference3Ideal.nD Cert.Reference3Ideal.τ).loc Cert.Reference3Ideal.main_v122) = v3 c
          ∧ r.2.mem ((c.tc : Thread Cert.Reference3Ideal.nD Cert.Reference3Ideal.τ).loc Cert.Reference3Ideal.main_v125) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14)
          ∧ r.2.mem ((c.tc : Thread Cert.Reference3Ideal.nD Cert.Reference3Ideal.τ).loc Cert.Reference3Ideal.main_arg15) = m' ((c.tc : Thread Cert.Reference3Ideal.nD Cert.Reference3Ideal.τ).loc Cert.Reference3Ideal.main_arg15)
          ∧ r.2.mem ((c.tc : Thread Cert.Reference3Ideal.nD Cert.Reference3Ideal.τ).loc Cert.Reference3Ideal.main_arg16) = m' ((c.tc : Thread Cert.Reference3Ideal.nD Cert.Reference3Ideal.τ).loc Cert.Reference3Ideal.main_arg16))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v19) = v0 c
          ∧ r.2.mem ((c.tc : Thread Cert.Reference4Ideal.nD Cert.Reference4Ideal.τ).loc Cert.Reference4Ideal.main_v21) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_scores : Cert.Pre_finite_scores.Facts) (hPre_finite_inputs : Cert.Pre_finite_inputs.Facts) (hPre_finite_inputs_first : Cert.Pre_finite_inputs_first.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Kernel2Ideal_pre_finite_inputs (hKernel2Ideal := hKernel2Ideal) (hPre_finite_inputs := hPre_finite_inputs)
    ∧ quiescent_Reference2Ideal (hReference2Ideal := hReference2Ideal)
    ∧ quiescent_Reference2Ideal_pre_finite_inputs (hReference2Ideal := hReference2Ideal) (hPre_finite_inputs := hPre_finite_inputs)
    ∧ quiescent_Kernel3 (hKernel3 := hKernel3)
    ∧ quiescent_Kernel3Ideal (hKernel3Ideal := hKernel3Ideal)
    ∧ quiescent_Kernel3Ideal_pre_finite_inputs_first (hKernel3Ideal := hKernel3Ideal) (hPre_finite_inputs_first := hPre_finite_inputs_first)
    ∧ quiescent_Reference3Ideal (hReference3Ideal := hReference3Ideal)
    ∧ quiescent_Reference3Ideal_pre_finite_inputs_first (hReference3Ideal := hReference3Ideal) (hPre_finite_inputs_first := hPre_finite_inputs_first)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal_pre_finite_inputs (hKernel2Ideal := hKernel2Ideal) (hReference2Ideal := hReference2Ideal) (hPre_finite_inputs := hPre_finite_inputs)
    ∧ preserves_Kernel3_Kernel3Ideal
    ∧ algebraic_Kernel3Ideal_Reference3Ideal_pre_finite_inputs_first (hKernel3Ideal := hKernel3Ideal) (hReference3Ideal := hReference3Ideal) (hPre_finite_inputs_first := hPre_finite_inputs_first)
    ∧ preserves_Kernel4_Kernel4Ideal
    ∧ algebraic_Kernel4Ideal_Reference4Ideal (hKernel4Ideal := hKernel4Ideal) (hReference4Ideal := hReference4Ideal)
-- ==== Pre_finite_inputs.lean ====
abbrev S8x4096x1024 : Shape := ⟨3, ![8, 4096, 1024]⟩
abbrev S8x16x768x256 : Shape := ⟨4, ![8, 16, 768, 256]⟩
abbrev S8x4096x256 : Shape := ⟨3, ![8, 4096, 256]⟩
abbrev S2x8x256x1024 : Shape := ⟨4, ![2, 8, 256, 1024]⟩
abbrev S2x8x1024x256 : Shape := ⟨4, ![2, 8, 1024, 256]⟩
abbrev S2x1024x5632 : Shape := ⟨3, ![2, 1024, 5632]⟩
abbrev S2x2816x1024 : Shape := ⟨3, ![2, 2816, 1024]⟩
abbrev S1024x1024 : Shape := ⟨2, ![1024, 1024]⟩
abbrev S1x1024 : Shape := ⟨2, ![1, 1024]⟩
abbrev S3x2816 : Shape := ⟨2, ![3, 2816]⟩
abbrev S1x2816 : Shape := ⟨2, ![1, 2816]⟩
abbrev S_ : Shape := ⟨0, ![]⟩

class Facts : Prop where
  bcast_S_S8x4096x1024 : S_.BroadcastsInDim S8x4096x1024 (![] : Fin 0 → Fin S8x4096x1024.rank)
  bcast_S_S8x16x768x256 : S_.BroadcastsInDim S8x16x768x256 (![] : Fin 0 → Fin S8x16x768x256.rank)
  bcast_S_S8x4096x256 : S_.BroadcastsInDim S8x4096x256 (![] : Fin 0 → Fin S8x4096x256.rank)
  bcast_S_S2x8x256x1024 : S_.BroadcastsInDim S2x8x256x1024 (![] : Fin 0 → Fin S2x8x256x1024.rank)
  bcast_S_S2x8x1024x256 : S_.BroadcastsInDim S2x8x1024x256 (![] : Fin 0 → Fin S2x8x1024x256.rank)
  bcast_S_S2x1024x5632 : S_.BroadcastsInDim S2x1024x5632 (![] : Fin 0 → Fin S2x1024x5632.rank)
  bcast_S_S1024x1024 : S_.BroadcastsInDim S1024x1024 (![] : Fin 0 → Fin S1024x1024.rank)
  bcast_S_S1x1024 : S_.BroadcastsInDim S1x1024 (![] : Fin 0 → Fin S1x1024.rank)
  bcast_S_S3x2816 : S_.BroadcastsInDim S3x2816 (![] : Fin 0 → Fin S3x2816.rank)
  bcast_S_S1x2816 : S_.BroadcastsInDim S1x2816 (![] : Fin 0 → Fin S1x2816.rank)

variable [Facts]

def fn_part1 {F : FTy → Type} [FloatOps F] (main_arg7 : FVec F S1024x1024 .bf16) (main_arg8 : FVec F S1x1024 .f32) (main_arg9 : FVec F S3x2816 .f32) (main_arg10 : FVec F S1x2816 .f32) (main_v2 : IVec S8x4096x1024 1) (main_v5 : IVec S8x16x768x256 1) (main_v8 : IVec S8x4096x256 1) (main_v11 : IVec S2x8x256x1024 1) (main_v14 : IVec S2x8x1024x256 1) (main_v17 : IVec S2x1024x5632 1) : IVec S8x4096x1024 1 × IVec S8x16x768x256 1 × IVec S8x4096x256 1 × IVec S2x8x256x1024 1 × IVec S2x8x1024x256 1 × IVec S2x1024x5632 1 × IVec S1024x1024 1 × IVec S1x1024 1 × IVec S3x2816 1 × IVec S1x2816 1 :=
  let main_v18 : FVec F S1024x1024 .bf16 := Host.absf main_arg7
  let main_cst_5 : FVec F S_ .bf16 := constant S_ .bf16 0x7F80#16
  let main_v19 : FVec F S1024x1024 .bf16 := broadcastInDim S1024x1024 ![] bcast_S_S1024x1024 main_cst_5
  let main_v20 : IVec S1024x1024 1 := cmpf .olt main_v18 main_v19
  let main_v21 : FVec F S1x1024 .f32 := Host.absf main_arg8
  let main_cst_6 : FVec F S_ .f32 := constant S_ .f32 0x7F800000#32
  let main_v22 : FVec F S1x1024 .f32 := broadcastInDim S1x1024 ![] bcast_S_S1x1024 main_cst_6
  let main_v23 : IVec S1x1024 1 := cmpf .olt main_v21 main_v22
  let main_v24 : FVec F S3x2816 .f32 := Host.absf main_arg9
  let main_cst_7 : FVec F S_ .f32 := constant S_ .f32 0x7F800000#32
  let main_v25 : FVec F S3x2816 .f32 := broadcastInDim S3x2816 ![] bcast_S_S3x2816 main_cst_7
  let main_v26 : IVec S3x2816 1 := cmpf .olt main_v24 main_v25
  let main_v27 : FVec F S1x2816 .f32 := Host.absf main_arg10
  let main_cst_8 : FVec F S_ .f32 := constant S_ .f32 0x7F800000#32
  let main_v28 : FVec F S1x2816 .f32 := broadcastInDim S1x2816 ![] bcast_S_S1x2816 main_cst_8
  let main_v29 : IVec S1x2816 1 := cmpf .olt main_v27 main_v28
  (main_v2, main_v5, main_v8, main_v11, main_v14, main_v17, main_v20, main_v23, main_v26, main_v29)

def fn {F : FTy → Type} [FloatOps F] (main_arg0 : FVec F S8x4096x1024 .f32) (main_arg1 : FVec F S8x16x768x256 .bf16) (main_arg2 : FVec F S8x4096x256 .bf16) (main_arg3 : FVec F S2x8x256x1024 .bf16) (main_arg4 : FVec F S2x8x1024x256 .bf16) (main_arg5 : FVec F S2x1024x5632 .bf16) (main_arg6 : FVec F S2x2816x1024 .bf16) (main_arg7 : FVec F S1024x1024 .bf16) (main_arg8 : FVec F S1x1024 .f32) (main_arg9 : FVec F S3x2816 .f32) (main_arg10 : FVec F S1x2816 .f32) (main_arg11 : FVec F S1x1024 .f32) : IVec S8x4096x1024 1 × IVec S8x16x768x256 1 × IVec S8x4096x256 1 × IVec S2x8x256x1024 1 × IVec S2x8x1024x256 1 × IVec S2x1024x5632 1 × IVec S1024x1024 1 × IVec S1x1024 1 × IVec S3x2816 1 × IVec S1x2816 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_v3 : FVec F S8x16x768x256 .bf16 := Host.absf main_arg1
  let main_cst_0 : FVec F S_ .bf16 := constant S_ .bf16 0x7F80#16
  let main_v4 : FVec F S8x16x768x256 .bf16 := broadcastInDim S8x16x768x256 ![] bcast_S_S8x16x768x256 main_cst_0
  let main_v5 : IVec S8x16x768x256 1 := cmpf .olt main_v3 main_v4
  let main_v6 : FVec F S8x4096x256 .bf16 := Host.absf main_arg2
  let main_cst_1 : FVec F S_ .bf16 := constant S_ .bf16 0x7F80#16
  let main_v7 : FVec F S8x4096x256 .bf16 := broadcastInDim S8x4096x256 ![] bcast_S_S8x4096x256 main_cst_1
  let main_v8 : IVec S8x4096x256 1 := cmpf .olt main_v6 main_v7
  let main_v9 : FVec F S2x8x256x1024 .bf16 := Host.absf main_arg3
  let main_cst_2 : FVec F S_ .bf16 := constant S_ .bf16 0x7F80#16
  let main_v10 : FVec F S2x8x256x1024 .bf16 := broadcastInDim S2x8x256x1024 ![] bcast_S_S2x8x256x1024 main_cst_2
  let main_v11 : IVec S2x8x256x1024 1 := cmpf .olt main_v9 main_v10
  let main_v12 : FVec F S2x8x1024x256 .bf16 := Host.absf main_arg4
  let main_cst_3 : FVec F S_ .bf16 := constant S_ .bf16 0x7F80#16
  let main_v13 : FVec F S2x8x1024x256 .bf16 := broadcastInDim S2x8x1024x256 ![] bcast_S_S2x8x1024x256 main_cst_3
  let main_v14 : IVec S2x8x1024x256 1 := cmpf .olt main_v12 main_v13
  let main_v15 : FVec F S2x1024x5632 .bf16 := Host.absf main_arg5
  let main_cst_4 : FVec F S_ .bf16 := constant S_ .bf16 0x7F80#16
  let main_v16 : FVec F S2x1024x5632 .bf16 := broadcastInDim S2x1024x5632 ![] bcast_S_S2x1024x5632 main_cst_4
  let main_v17 : IVec S2x1024x5632 1 := cmpf .olt main_v15 main_v16
  fn_part1 (F := F) main_arg7 main_arg8 main_arg9 main_arg10 main_v2 main_v5 main_v8 main_v11 main_v14 main_v17
-- ==== Pre_finite_inputs_first.lean ====
abbrev S8x4096x1024 : Shape := ⟨3, ![8, 4096, 1024]⟩
abbrev S8x16x768x256 : Shape := ⟨4, ![8, 16, 768, 256]⟩
abbrev S8x4096x256 : Shape := ⟨3, ![8, 4096, 256]⟩
abbrev S2x8x256x1024 : Shape := ⟨4, ![2, 8, 256, 1024]⟩
abbrev S2x8x1024x256 : Shape := ⟨4, ![2, 8, 1024, 256]⟩
abbrev S2x1024x5632 : Shape := ⟨3, ![2, 1024, 5632]⟩
abbrev S2x2816x1024 : Shape := ⟨3, ![2, 2816, 1024]⟩
abbrev S1024x1024 : Shape := ⟨2, ![1024, 1024]⟩
abbrev S1x1024 : Shape := ⟨2, ![1, 1024]⟩
abbrev S3x2816 : Shape := ⟨2, ![3, 2816]⟩
abbrev S1x2816 : Shape := ⟨2, ![1, 2816]⟩
abbrev S1024x768 : Shape := ⟨2, ![1024, 768]⟩
abbrev S768x1024 : Shape := ⟨2, ![768, 1024]⟩
abbrev S1024x256 : Shape := ⟨2, ![1024, 256]⟩
abbrev S_ : Shape := ⟨0, ![]⟩

class Facts : Prop where
  bcast_S_S8x4096x1024 : S_.BroadcastsInDim S8x4096x1024 (![] : Fin 0 → Fin S8x4096x1024.rank)
  bcast_S_S8x16x768x256 : S_.BroadcastsInDim S8x16x768x256 (![] : Fin 0 → Fin S8x16x768x256.rank)
  bcast_S_S8x4096x256 : S_.BroadcastsInDim S8x4096x256 (![] : Fin 0 → Fin S8x4096x256.rank)
  bcast_S_S2x8x256x1024 : S_.BroadcastsInDim S2x8x256x1024 (![] : Fin 0 → Fin S2x8x256x1024.rank)
  bcast_S_S2x8x1024x256 : S_.BroadcastsInDim S2x8x1024x256 (![] : Fin 0 → Fin S2x8x1024x256.rank)
  bcast_S_S2x1024x5632 : S_.BroadcastsInDim S2x1024x5632 (![] : Fin 0 → Fin S2x1024x5632.rank)
  bcast_S_S1024x1024 : S_.BroadcastsInDim S1024x1024 (![] : Fin 0 → Fin S1024x1024.rank)
  bcast_S_S1x1024 : S_.BroadcastsInDim S1x1024 (![] : Fin 0 → Fin S1x1024.rank)
  bcast_S_S3x2816 : S_.BroadcastsInDim S3x2816 (![] : Fin 0 → Fin S3x2816.rank)
  bcast_S_S1x2816 : S_.BroadcastsInDim S1x2816 (![] : Fin 0 → Fin S1x2816.rank)

variable [Facts]

def fn_part1 {F : FTy → Type} [FloatOps F] (main_arg7 : FVec F S1024x1024 .bf16) (main_arg8 : FVec F S1x1024 .f32) (main_arg9 : FVec F S3x2816 .f32) (main_arg10 : FVec F S1x2816 .f32) (main_v2 : IVec S8x4096x1024 1) (main_v5 : IVec S8x16x768x256 1) (main_v8 : IVec S8x4096x256 1) (main_v11 : IVec S2x8x256x1024 1) (main_v14 : IVec S2x8x1024x256 1) (main_v17 : IVec S2x1024x5632 1) : IVec S8x4096x1024 1 × IVec S8x16x768x256 1 × IVec S8x4096x256 1 × IVec S2x8x256x1024 1 × IVec S2x8x1024x256 1 × IVec S2x1024x5632 1 × IVec S1024x1024 1 × IVec S1x1024 1 × IVec S3x2816 1 × IVec S1x2816 1 :=
  let main_v18 : FVec F S1024x1024 .bf16 := Host.absf main_arg7
  let main_cst_5 : FVec F S_ .bf16 := constant S_ .bf16 0x7F80#16
  let main_v19 : FVec F S1024x1024 .bf16 := broadcastInDim S1024x1024 ![] bcast_S_S1024x1024 main_cst_5
  let main_v20 : IVec S1024x1024 1 := cmpf .olt main_v18 main_v19
  let main_v21 : FVec F S1x1024 .f32 := Host.absf main_arg8
  let main_cst_6 : FVec F S_ .f32 := constant S_ .f32 0x7F800000#32
  let main_v22 : FVec F S1x1024 .f32 := broadcastInDim S1x1024 ![] bcast_S_S1x1024 main_cst_6
  let main_v23 : IVec S1x1024 1 := cmpf .olt main_v21 main_v22
  let main_v24 : FVec F S3x2816 .f32 := Host.absf main_arg9
  let main_cst_7 : FVec F S_ .f32 := constant S_ .f32 0x7F800000#32
  let main_v25 : FVec F S3x2816 .f32 := broadcastInDim S3x2816 ![] bcast_S_S3x2816 main_cst_7
  let main_v26 : IVec S3x2816 1 := cmpf .olt main_v24 main_v25
  let main_v27 : FVec F S1x2816 .f32 := Host.absf main_arg10
  let main_cst_8 : FVec F S_ .f32 := constant S_ .f32 0x7F800000#32
  let main_v28 : FVec F S1x2816 .f32 := broadcastInDim S1x2816 ![] bcast_S_S1x2816 main_cst_8
  let main_v29 : IVec S1x2816 1 := cmpf .olt main_v27 main_v28
  (main_v2, main_v5, main_v8, main_v11, main_v14, main_v17, main_v20, main_v23, main_v26, main_v29)

def fn {F : FTy → Type} [FloatOps F] (main_arg0 : FVec F S8x4096x1024 .f32) (main_arg1 : FVec F S8x16x768x256 .bf16) (main_arg2 : FVec F S8x4096x256 .bf16) (main_arg3 : FVec F S2x8x256x1024 .bf16) (main_arg4 : FVec F S2x8x1024x256 .bf16) (main_arg5 : FVec F S2x1024x5632 .bf16) (main_arg6 : FVec F S2x2816x1024 .bf16) (main_arg7 : FVec F S1024x1024 .bf16) (main_arg8 : FVec F S1x1024 .f32) (main_arg9 : FVec F S3x2816 .f32) (main_arg10 : FVec F S1x2816 .f32) (main_arg11 : FVec F S1x1024 .f32) (main_arg12 : FVec F S1024x768 .bf16) (main_arg13 : FVec F S768x1024 .bf16) (main_arg14 : FVec F S1x1024 .f32) (main_arg15 : FVec F S768x1024 .bf16) (main_arg16 : FVec F S1024x256 .bf16) : IVec S8x4096x1024 1 × IVec S8x16x768x256 1 × IVec S8x4096x256 1 × IVec S2x8x256x1024 1 × IVec S2x8x1024x256 1 × IVec S2x1024x5632 1 × IVec S1024x1024 1 × IVec S1x1024 1 × IVec S3x2816 1 × IVec S1x2816 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_v3 : FVec F S8x16x768x256 .bf16 := Host.absf main_arg1
  let main_cst_0 : FVec F S_ .bf16 := constant S_ .bf16 0x7F80#16
  let main_v4 : FVec F S8x16x768x256 .bf16 := broadcastInDim S8x16x768x256 ![] bcast_S_S8x16x768x256 main_cst_0
  let main_v5 : IVec S8x16x768x256 1 := cmpf .olt main_v3 main_v4
  let main_v6 : FVec F S8x4096x256 .bf16 := Host.absf main_arg2
  let main_cst_1 : FVec F S_ .bf16 := constant S_ .bf16 0x7F80#16
  let main_v7 : FVec F S8x4096x256 .bf16 := broadcastInDim S8x4096x256 ![] bcast_S_S8x4096x256 main_cst_1
  let main_v8 : IVec S8x4096x256 1 := cmpf .olt main_v6 main_v7
  let main_v9 : FVec F S2x8x256x1024 .bf16 := Host.absf main_arg3
  let main_cst_2 : FVec F S_ .bf16 := constant S_ .bf16 0x7F80#16
  let main_v10 : FVec F S2x8x256x1024 .bf16 := broadcastInDim S2x8x256x1024 ![] bcast_S_S2x8x256x1024 main_cst_2
  let main_v11 : IVec S2x8x256x1024 1 := cmpf .olt main_v9 main_v10
  let main_v12 : FVec F S2x8x1024x256 .bf16 := Host.absf main_arg4
  let main_cst_3 : FVec F S_ .bf16 := constant S_ .bf16 0x7F80#16
  let main_v13 : FVec F S2x8x1024x256 .bf16 := broadcastInDim S2x8x1024x256 ![] bcast_S_S2x8x1024x256 main_cst_3
  let main_v14 : IVec S2x8x1024x256 1 := cmpf .olt main_v12 main_v13
  let main_v15 : FVec F S2x1024x5632 .bf16 := Host.absf main_arg5
  let main_cst_4 : FVec F S_ .bf16 := constant S_ .bf16 0x7F80#16
  let main_v16 : FVec F S2x1024x5632 .bf16 := broadcastInDim S2x1024x5632 ![] bcast_S_S2x1024x5632 main_cst_4
  let main_v17 : IVec S2x1024x5632 1 := cmpf .olt main_v15 main_v16
  fn_part1 (F := F) main_arg7 main_arg8 main_arg9 main_arg10 main_v2 main_v5 main_v8 main_v11 main_v14 main_v17
-- ==== Pre_finite_scores.lean ====
abbrev S8x16x768x256 : Shape := ⟨4, ![8, 16, 768, 256]⟩
abbrev S8x4096x768 : Shape := ⟨3, ![8, 4096, 768]⟩
abbrev S8x768x4096 : Shape := ⟨3, ![8, 768, 4096]⟩
abbrev S12x1152x128 : Shape := ⟨3, ![12, 1152, 128]⟩
abbrev S1152x128 : Shape := ⟨2, ![1152, 128]⟩
abbrev S_ : Shape := ⟨0, ![]⟩
abbrev S1x1152x128 : Shape := ⟨3, ![1, 1152, 128]⟩

class Facts : Prop where
  bcast_S_S1152x128 : S_.BroadcastsInDim S1152x128 (![] : Fin 0 → Fin S1152x128.rank)
  bcast_S_S8x16x768x256 : S_.BroadcastsInDim S8x16x768x256 (![] : Fin 0 → Fin S8x16x768x256.rank)
  bcast_S_S8x4096x768 : S_.BroadcastsInDim S8x4096x768 (![] : Fin 0 → Fin S8x4096x768.rank)
  bcast_S_S12x1152x128 : S_.BroadcastsInDim S12x1152x128 (![] : Fin 0 → Fin S12x1152x128.rank)
  bcast_S1152x128_S1x1152x128_1_2 : S1152x128.BroadcastsInDim S1x1152x128 (![1, 2] : Fin 2 → Fin S1x1152x128.rank)
  bcast_S1x1152x128_S12x1152x128_0_1_2 : S1x1152x128.BroadcastsInDim S12x1152x128 (![0, 1, 2] : Fin 3 → Fin S12x1152x128.rank)

variable [Facts]

def fn {F : FTy → Type} [FloatOps F] (main_arg0 : FVec F S8x16x768x256 .bf16) (main_arg1 : FVec F S8x4096x768 .bf16) (main_arg2 : FVec F S8x768x4096 .bf16) (main_arg3 : FVec F S12x1152x128 .f32) : IVec S8x16x768x256 1 × IVec S8x4096x768 1 × IVec S12x1152x128 1 × IVec S12x1152x128 1 :=
  let main_v0 : IVec S1152x128 32 := iotaInDim S1152x128 32 0
  let main_v1 : IVec S1152x128 32 := iotaInDim S1152x128 32 1
  let main_c : IVec S_ 32 := constantI S_ 32 512#32
  let main_v2 : IVec S1152x128 32 := broadcastInDim S1152x128 ![] bcast_S_S1152x128 main_c
  let main_v3 : IVec S1152x128 32 := addi main_v1 main_v2
  let main_v4 : IVec S1152x128 1 := cmpi .eq main_v0 main_v3
  let main_v5 : FVec F S8x16x768x256 .bf16 := Host.absf main_arg0
  let main_cst : FVec F S_ .bf16 := constant S_ .bf16 0x7F80#16
  let main_v6 : FVec F S8x16x768x256 .bf16 := broadcastInDim S8x16x768x256 ![] bcast_S_S8x16x768x256 main_cst
  let main_v7 : IVec S8x16x768x256 1 := cmpf .olt main_v5 main_v6
  let main_v8 : FVec F S8x4096x768 .bf16 := Host.absf main_arg1
  let main_cst_0 : FVec F S_ .bf16 := constant S_ .bf16 0x7F80#16
  let main_v9 : FVec F S8x4096x768 .bf16 := broadcastInDim S8x4096x768 ![] bcast_S_S8x4096x768 main_cst_0
  let main_v10 : IVec S8x4096x768 1 := cmpf .olt main_v8 main_v9
  let main_cst_1 : FVec F S_ .f32 := constant S_ .f32 0x7F800000#32
  let main_v11 : FVec F S12x1152x128 .f32 := broadcastInDim S12x1152x128 ![] bcast_S_S12x1152x128 main_cst_1
  let main_v12 : IVec S12x1152x128 1 := cmpf .olt main_arg3 main_v11
  let main_cst_2 : FVec F S_ .f32 := constant S_ .f32 0xFF800000#32
  let main_v13 : FVec F S12x1152x128 .f32 := broadcastInDim S12x1152x128 ![] bcast_S_S12x1152x128 main_cst_2
  let main_v14 : IVec S12x1152x128 1 := cmpf .ogt main_arg3 main_v13
  let main_v15 : IVec S1152x128 1 := noti main_v4
  let main_v16 : IVec S1x1152x128 1 := broadcastInDim S1x1152x128 ![1, 2] bcast_S1152x128_S1x1152x128_1_2 main_v15
  let main_v17 : IVec S12x1152x128 1 := broadcastInDim S12x1152x128 ![0, 1, 2] bcast_S1x1152x128_S12x1152x128_0_1_2 main_v16
  let main_v18 : IVec S12x1152x128 1 := ori main_v14 main_v17
  (main_v7, main_v10, main_v12, main_v18)
-- ==== Kernel.lean ====
abbrev S8x16x768x256 : Shape := ⟨4, ![8, 16, 768, 256]⟩
abbrev S8x4096x768 : Shape := ⟨3, ![8, 4096, 768]⟩
abbrev S8x768x4096 : Shape := ⟨3, ![8, 768, 4096]⟩
abbrev S12x1152x128 : Shape := ⟨3, ![12, 1152, 128]⟩
abbrev S1x1x768x256 : Shape := ⟨4, ![1, 1, 768, 256]⟩
abbrev S1x4096x768 : Shape := ⟨3, ![1, 4096, 768]⟩
abbrev S1x768x4096 : Shape := ⟨3, ![1, 768, 4096]⟩
abbrev S128x256 : Shape := ⟨2, ![128, 256]⟩
abbrev S128x128 : Shape := ⟨2, ![128, 128]⟩
abbrev S1x768x128 : Shape := ⟨3, ![1, 768, 128]⟩
abbrev S768x128 : Shape := ⟨2, ![768, 128]⟩
abbrev S1x1x128x256 : Shape := ⟨4, ![1, 1, 128, 256]⟩
abbrev S128x512 : Shape := ⟨2, ![128, 512]⟩
abbrev S768x512 : Shape := ⟨2, ![768, 512]⟩
abbrev S1x640x128 : Shape := ⟨3, ![1, 640, 128]⟩
abbrev S640x128 : Shape := ⟨2, ![640, 128]⟩
abbrev S64x128 : Shape := ⟨2, ![64, 128]⟩
abbrev S128 : Shape := ⟨1, ![128]⟩
abbrev S1x128 : Shape := ⟨2, ![1, 128]⟩
abbrev S1x512 : Shape := ⟨2, ![1, 512]⟩
abbrev S1x128x768 : Shape := ⟨3, ![1, 128, 768]⟩
abbrev S128x768 : Shape := ⟨2, ![128, 768]⟩
abbrev S64x256 : Shape := ⟨2, ![64, 256]⟩
abbrev S1x256 : Shape := ⟨2, ![1, 256]⟩
abbrev S1x1x64x256 : Shape := ⟨4, ![1, 1, 64, 256]⟩

abbrev nBuf : Space → Nat
  | .hbm => 5
  | .vmem => 9
  | .smem => 0
  | _ => 0

abbrev bufTy : (tb : Table) → Fin (tcTables nBuf tb) → BufTy
  | .hbm, ⟨0, _⟩ => ⟨S8x16x768x256, .bf16⟩
  | .hbm, ⟨1, _⟩ => ⟨S8x4096x768, .bf16⟩
  | .hbm, ⟨2, _⟩ => ⟨S8x768x4096, .bf16⟩
  | .hbm, ⟨3, _⟩ => ⟨S12x1152x128, .f32⟩
  | .hbm, ⟨4, _⟩ => ⟨S8x16x768x256, .bf16⟩
  | .local _ .vmem, ⟨0, _⟩ => ⟨S1x1x768x256, .bf16⟩
  | .local _ .vmem, ⟨1, _⟩ => ⟨S1x1x768x256, .bf16⟩
  | .local _ .vmem, ⟨2, _⟩ => ⟨S1x4096x768, .bf16⟩
  | .local _ .vmem, ⟨3, _⟩ => ⟨S1x4096x768, .bf16⟩
  | .local _ .vmem, ⟨4, _⟩ => ⟨S1x768x4096, .bf16⟩
  | .local _ .vmem, ⟨5, _⟩ => ⟨S1x768x4096, .bf16⟩
  | .local _ .vmem, ⟨6, _⟩ => ⟨S12x1152x128, .f32⟩
  | .local _ .vmem, ⟨7, _⟩ => ⟨S1x1x768x256, .bf16⟩
  | .local _ .vmem, ⟨8, _⟩ => ⟨S1x1x768x256, .bf16⟩
  | _, _ => ⟨S8x16x768x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let c2_i32 : BitVec 32 := 2#32
  let arg1 : BitVec 32 := BitVec.ofNat 32 (i 1).val
  let v0 : BitVec 32 := Scalar.muli c2_i32 arg1
  let c4_i32 : BitVec 32 := 4#32
  let v1 : BitVec 32 := Scalar.subi v0 c4_i32
  let c0_i32 : BitVec 32 := 0#32
  let v2 : BitVec 32 := Scalar.maxsi v1 c0_i32
  let c128_i32 : BitVec 32 := 128#32
  let v3 : BitVec 32 := Scalar.muli v2 c128_i32
  v3
def k0_cond1 (i : grid0.Coords) : BitVec 1 :=
  let c2_i32 : BitVec 32 := 2#32
  let arg1 : BitVec 32 := BitVec.ofNat 32 (i 1).val
  let v0 : BitVec 32 := Scalar.muli c2_i32 arg1
  let c4_i32 : BitVec 32 := 4#32
  let v1 : BitVec 32 := Scalar.subi v0 c4_i32
  let c0_i32_1 : BitVec 32 := 0#32
  let v8 : BitVec 1 := Scalar.cmpi .sge v1 c0_i32_1
  let v9 : BitVec 32 := Scalar.extui v8
  let c0_i32_2 : BitVec 32 := 0#32
  let v10 : BitVec 1 := Scalar.cmpi .ne v9 c0_i32_2
  v10

def k0_off1 (i : grid0.Coords) : Fin 3 → Nat :=
  let c0 : Index := 0#32
  let c2_i32 : BitVec 32 := 2#32
  let arg1 : BitVec 32 := BitVec.ofNat 32 (i 1).val
  let v0 : BitVec 32 := Scalar.muli c2_i32 arg1
  let c4_i32 : BitVec 32 := 4#32
  let v1 : BitVec 32 := Scalar.subi v0 c4_i32
  let c0_i32 : BitVec 32 := 0#32
  let v2 : BitVec 32 := Scalar.maxsi v1 c0_i32
  let c128_i32 : BitVec 32 := 128#32
  let v3 : BitVec 32 := Scalar.muli v2 c128_i32
  let v4 : BitVec 32 := v3
  let v14 : Index := Scalar.indexCast v4
  let c0_5 : Index := 0#32
  ![0, v14.toNat, 0]
def k0_off2 (i : grid0.Coords) : Fin 3 → Nat :=
  let c0_24 : Index := 0#32
  let c2_i32 : BitVec 32 := 2#32
  let arg1 : BitVec 32 := BitVec.ofNat 32 (i 1).val
  let v0 : BitVec 32 := Scalar.muli c2_i32 arg1
  let c4_i32 : BitVec 32 := 4#32
  let v1 : BitVec 32 := Scalar.subi v0 c4_i32
  let c0_i32 : BitVec 32 := 0#32
  let v2 : BitVec 32 := Scalar.maxsi v1 c0_i32
  let c128_i32 : BitVec 32 := 128#32
  let v3 : BitVec 32 := Scalar.muli v2 c128_i32
  let v4 : BitVec 32 := v3
  let v42 : Index := Scalar.indexCast v4
  let c128 : Index := 128#32
  ![0, v42.toNat, 128]
def k0_off3 (i : grid0.Coords) : Fin 3 → Nat :=
  let c0_52 : Index := 0#32
  let c2_i32 : BitVec 32 := 2#32
  let arg1 : BitVec 32 := BitVec.ofNat 32 (i 1).val
  let v0 : BitVec 32 := Scalar.muli c2_i32 arg1
  let c4_i32 : BitVec 32 := 4#32
  let v1 : BitVec 32 := Scalar.subi v0 c4_i32
  let c0_i32 : BitVec 32 := 0#32
  let v2 : BitVec 32 := Scalar.maxsi v1 c0_i32
  let c128_i32 : BitVec 32 := 128#32
  let v3 : BitVec 32 := Scalar.muli v2 c128_i32
  let v4 : BitVec 32 := v3
  let v370 : Index := Scalar.indexCast v4
  let c256 : Index := 256#32
  ![0, v370.toNat, 256]
def k0_off4 (i : grid0.Coords) : Fin 3 → Nat :=
  let c0_71 : Index := 0#32
  let c0_72 : Index := 0#32
  let c2_i32 : BitVec 32 := 2#32
  let arg1 : BitVec 32 := BitVec.ofNat 32 (i 1).val
  let v0 : BitVec 32 := Scalar.muli c2_i32 arg1
  let c4_i32 : BitVec 32 := 4#32
  let v1 : BitVec 32 := Scalar.subi v0 c4_i32
  let c0_i32 : BitVec 32 := 0#32
  let v2 : BitVec 32 := Scalar.maxsi v1 c0_i32
  let c128_i32 : BitVec 32 := 128#32
  let v3 : BitVec 32 := Scalar.muli v2 c128_i32
  let v4 : BitVec 32 := v3
  let v398 : Index := Scalar.indexCast v4
  ![0, 0, v398.toNat]
def k0_off5 (i : grid0.Coords) : Fin 3 → Nat :=
  let c0_90 : Index := 0#32
  let c2_i32 : BitVec 32 := 2#32
  let arg1 : BitVec 32 := BitVec.ofNat 32 (i 1).val
  let v0 : BitVec 32 := Scalar.muli c2_i32 arg1
  let c4_i32 : BitVec 32 := 4#32
  let v1 : BitVec 32 := Scalar.subi v0 c4_i32
  let c0_i32 : BitVec 32 := 0#32
  let v2 : BitVec 32 := Scalar.maxsi v1 c0_i32
  let c128_i32 : BitVec 32 := 128#32
  let v3 : BitVec 32 := Scalar.muli v2 c128_i32
  let v4 : BitVec 32 := v3
  let v718 : Index := Scalar.indexCast v4
  let c384 : Index := 384#32
  ![0, v718.toNat, 384]
def k0_off6 (i : grid0.Coords) : Fin 3 → Nat :=
  let c0_109 : Index := 0#32
  let c128_110 : Index := 128#32
  let c2_i32 : BitVec 32 := 2#32
  let arg1 : BitVec 32 := BitVec.ofNat 32 (i 1).val
  let v0 : BitVec 32 := Scalar.muli c2_i32 arg1
  let c4_i32 : BitVec 32 := 4#32
  let v1 : BitVec 32 := Scalar.subi v0 c4_i32
  let c0_i32 : BitVec 32 := 0#32
  let v2 : BitVec 32 := Scalar.maxsi v1 c0_i32
  let c128_i32 : BitVec 32 := 128#32
  let v3 : BitVec 32 := Scalar.muli v2 c128_i32
  let v4 : BitVec 32 := v3
  let v746 : Index := Scalar.indexCast v4
  ![0, 128, v746.toNat]
def k0_off7 (i : grid0.Coords) : Fin 3 → Nat :=
  let c0_128 : Index := 0#32
  let c2_i32 : BitVec 32 := 2#32
  let arg1 : BitVec 32 := BitVec.ofNat 32 (i 1).val
  let v0 : BitVec 32 := Scalar.muli c2_i32 arg1
  let c4_i32 : BitVec 32 := 4#32
  let v1 : BitVec 32 := Scalar.subi v0 c4_i32
  let c0_i32 : BitVec 32 := 0#32
  let v2 : BitVec 32 := Scalar.maxsi v1 c0_i32
  let c128_i32 : BitVec 32 := 128#32
  let v3 : BitVec 32 := Scalar.muli v2 c128_i32
  let v4 : BitVec 32 := v3
  let v1066 : Index := Scalar.indexCast v4
  let c512 : Index := 512#32
  ![0, v1066.toNat, 512]
def k0_off8 (i : grid0.Coords) : Fin 3 → Nat :=
  let c0_147 : Index := 0#32
  let c256_148 : Index := 256#32
  let c2_i32 : BitVec 32 := 2#32
  let arg1 : BitVec 32 := BitVec.ofNat 32 (i 1).val
  let v0 : BitVec 32 := Scalar.muli c2_i32 arg1
  let c4_i32 : BitVec 32 := 4#32
  let v1 : BitVec 32 := Scalar.subi v0 c4_i32
  let c0_i32 : BitVec 32 := 0#32
  let v2 : BitVec 32 := Scalar.maxsi v1 c0_i32
  let c128_i32 : BitVec 32 := 128#32
  let v3 : BitVec 32 := Scalar.muli v2 c128_i32
  let v4 : BitVec 32 := v3
  let v1094 : Index := Scalar.indexCast v4
  ![0, 256, v1094.toNat]
def k0_off9 (i : grid0.Coords) : Fin 3 → Nat :=
  let c0_166 : Index := 0#32
  let c2_i32 : BitVec 32 := 2#32
  let arg1 : BitVec 32 := BitVec.ofNat 32 (i 1).val
  let v0 : BitVec 32 := Scalar.muli c2_i32 arg1
  let c4_i32 : BitVec 32 := 4#32
  let v1 : BitVec 32 := Scalar.subi v0 c4_i32
  let c0_i32 : BitVec 32 := 0#32
  let v2 : BitVec 32 := Scalar.maxsi v1 c0_i32
  let c128_i32 : BitVec 32 := 128#32
  let v3 : BitVec 32 := Scalar.muli v2 c128_i32
  let v4 : BitVec 32 := v3
  let v1414 : Index := Scalar.indexCast v4
  let c640 : Index := 640#32
  ![0, v1414.toNat, 640]
def k0_off10 (i : grid0.Coords) : Fin 3 → Nat :=
  let c0_185 : Index := 0#32
  let c384_186 : Index := 384#32
  let c2_i32 : BitVec 32 := 2#32
  let arg1 : BitVec 32 := BitVec.ofNat 32 (i 1).val
  let v0 : BitVec 32 := Scalar.muli c2_i32 arg1
  let c4_i32 : BitVec 32 := 4#32
  let v1 : BitVec 32 := Scalar.subi v0 c4_i32
  let c0_i32 : BitVec 32 := 0#32
  let v2 : BitVec 32 := Scalar.maxsi v1 c0_i32
  let c128_i32 : BitVec 32 := 128#32
  let v3 : BitVec 32 := Scalar.muli v2 c128_i32
  let v4 : BitVec 32 := v3
  let v1442 : Index := Scalar.indexCast v4
  ![0, 384, v1442.toNat]
def k0_off11 (i : grid0.Coords) : Fin 3 → Nat :=
  let c0_204 : Index := 0#32
  let c512_205 : Index := 512#32
  let c2_i32 : BitVec 32 := 2#32
  let arg1 : BitVec 32 := BitVec.ofNat 32 (i 1).val
  let v0 : BitVec 32 := Scalar.muli c2_i32 arg1
  let c4_i32 : BitVec 32 := 4#32
  let v1 : BitVec 32 := Scalar.subi v0 c4_i32
  let c0_i32 : BitVec 32 := 0#32
  let v2 : BitVec 32 := Scalar.maxsi v1 c0_i32
  let c128_i32 : BitVec 32 := 128#32
  let v3 : BitVec 32 := Scalar.muli v2 c128_i32
  let v4 : BitVec 32 := v3
  let v1762 : Index := Scalar.indexCast v4
  ![0, 512, v1762.toNat]
def k0_off12 (i : grid0.Coords) : Fin 3 → Nat :=
  let c0_223 : Index := 0#32
  let c640_224 : Index := 640#32
  let c2_i32 : BitVec 32 := 2#32
  let arg1 : BitVec 32 := BitVec.ofNat 32 (i 1).val
  let v0 : BitVec 32 := Scalar.muli c2_i32 arg1
  let c4_i32 : BitVec 32 := 4#32
  let v1 : BitVec 32 := Scalar.subi v0 c4_i32
  let c0_i32 : BitVec 32 := 0#32
  let v2 : BitVec 32 := Scalar.maxsi v1 c0_i32
  let c128_i32 : BitVec 32 := 128#32
  let v3 : BitVec 32 := Scalar.muli v2 c128_i32
  let v4 : BitVec 32 := v3
  let v2082 : Index := Scalar.indexCast v4
  ![0, 640, v2082.toNat]
def k0_cond2 (i : grid0.Coords) : BitVec 1 :=
  let c2_i32 : BitVec 32 := 2#32
  let arg1 : BitVec 32 := BitVec.ofNat 32 (i 1).val
  let v0 : BitVec 32 := Scalar.muli c2_i32 arg1
  let c4_i32 : BitVec 32 := 4#32
  let v1 : BitVec 32 := Scalar.subi v0 c4_i32
  let c0_i32_3 : BitVec 32 := 0#32
  let v11 : BitVec 1 := Scalar.cmpi .slt v1 c0_i32_3
  let v12 : BitVec 32 := Scalar.extui v11
  let c0_i32_4 : BitVec 32 := 0#32
  let v13 : BitVec 1 := Scalar.cmpi .ne v12 c0_i32_4
  v13

def k0_mult2 (i : grid0.Coords) : BitVec 32 :=
  let c0_i32_5 : BitVec 32 := 0#32
  let c2_i32 : BitVec 32 := 2#32
  let arg1 : BitVec 32 := BitVec.ofNat 32 (i 1).val
  let v0 : BitVec 32 := Scalar.muli c2_i32 arg1
  let c4_i32 : BitVec 32 := 4#32
  let v1 : BitVec 32 := Scalar.subi v0 c4_i32
  let v14 : BitVec 32 := Scalar.subi c0_i32_5 v1
  let c128_i32_6 : BitVec 32 := 128#32
  let v15 : BitVec 32 := Scalar.muli v14 c128_i32_6
  v15
def k0_mult3 (i : grid0.Coords) : BitVec 32 :=
  let c0_i32_5 : BitVec 32 := 0#32
  let c2_i32 : BitVec 32 := 2#32
  let arg1 : BitVec 32 := BitVec.ofNat 32 (i 1).val
  let v0 : BitVec 32 := Scalar.muli c2_i32 arg1
  let c4_i32 : BitVec 32 := 4#32
  let v1 : BitVec 32 := Scalar.subi v0 c4_i32
  let v14 : BitVec 32 := Scalar.subi c0_i32_5 v1
  let c128_i32_6 : BitVec 32 := 128#32
  let v15 : BitVec 32 := Scalar.muli v14 c128_i32_6
  let v16 : BitVec 32 := v15
  let c128_i32_7 : BitVec 32 := 128#32
  let v17 : BitVec 32 := Scalar.subi v16 c128_i32_7
  v17
def k0_off13 (i : grid0.Coords) : Fin 3 → Nat :=
  let c0 : Index := 0#32
  let c2_i32 : BitVec 32 := 2#32
  let arg1 : BitVec 32 := BitVec.ofNat 32 (i 1).val
  let v0 : BitVec 32 := Scalar.muli c2_i32 arg1
  let c4_i32 : BitVec 32 := 4#32
  let v1 : BitVec 32 := Scalar.subi v0 c4_i32
  let c0_i32 : BitVec 32 := 0#32
  let v2 : BitVec 32 := Scalar.maxsi v1 c0_i32
  let c128_i32 : BitVec 32 := 128#32
  let v3 : BitVec 32 := Scalar.muli v2 c128_i32
  let v4 : BitVec 32 := v3
  let v19 : Index := Scalar.indexCast v4
  let c0_8 : Index := 0#32
  ![0, v19.toNat, 0]
def k0_off14 (i : grid0.Coords) : Fin 3 → Nat :=
  let c0_16 : Index := 0#32
  let c0_i32_5 : BitVec 32 := 0#32
  let c2_i32 : BitVec 32 := 2#32
  let arg1 : BitVec 32 := BitVec.ofNat 32 (i 1).val
  let v0 : BitVec 32 := Scalar.muli c2_i32 arg1
  let c4_i32 : BitVec 32 := 4#32
  let v1 : BitVec 32 := Scalar.subi v0 c4_i32
  let v14 : BitVec 32 := Scalar.subi c0_i32_5 v1
  let c128_i32_6 : BitVec 32 := 128#32
  let v15 : BitVec 32 := Scalar.muli v14 c128_i32_6
  let v16 : BitVec 32 := v15
  let v33 : Index := Scalar.indexCast v16
  let c0_17 : Index := 0#32
  ![0, v33.toNat, 0]
def k0_off15 (i : grid0.Coords) : Fin 3 → Nat :=
  let c0_18 : Index := 0#32
  let c0_i32_5 : BitVec 32 := 0#32
  let c2_i32 : BitVec 32 := 2#32
  let arg1 : BitVec 32 := BitVec.ofNat 32 (i 1).val
  let v0 : BitVec 32 := Scalar.muli c2_i32 arg1
  let c4_i32 : BitVec 32 := 4#32
  let v1 : BitVec 32 := Scalar.subi v0 c4_i32
  let v14 : BitVec 32 := Scalar.subi c0_i32_5 v1
  let c128_i32_6 : BitVec 32 := 128#32
  let v15 : BitVec 32 := Scalar.muli v14 c128_i32_6
  let v16 : BitVec 32 := v15
  let c128_i32_7 : BitVec 32 := 128#32
  let v17 : BitVec 32 := Scalar.subi v16 c128_i32_7
  let v18 : BitVec 32 := v17
  let v36 : Index := Scalar.indexCast v18
  let c0_19 : Index := 0#32
  ![0, v36.toNat, 0]
def k0_off16 (i : grid0.Coords) : Fin 3 → Nat :=
  let c1 : Index := 1#32
  let c0_i32_5 : BitVec 32 := 0#32
  let c2_i32 : BitVec 32 := 2#32
  let arg1 : BitVec 32 := BitVec.ofNat 32 (i 1).val
  let v0 : BitVec 32 := Scalar.muli c2_i32 arg1
  let c4_i32 : BitVec 32 := 4#32
  let v1 : BitVec 32 := Scalar.subi v0 c4_i32
  let v14 : BitVec 32 := Scalar.subi c0_i32_5 v1
  let c128_i32_6 : BitVec 32 := 128#32
  let v15 : BitVec 32 := Scalar.muli v14 c128_i32_6
  let v16 : BitVec 32 := v15
  let v41 : Index := Scalar.indexCast v16
  let c0_20 : Index := 0#32
  ![1, v41.toNat, 0]
def k0_off17 (i : grid0.Coords) : Fin 3 → Nat :=
  let c1_21 : Index := 1#32
  let c0_i32_5 : BitVec 32 := 0#32
  let c2_i32 : BitVec 32 := 2#32
  let arg1 : BitVec 32 := BitVec.ofNat 32 (i 1).val
  let v0 : BitVec 32 := Scalar.muli c2_i32 arg1
  let c4_i32 : BitVec 32 := 4#32
  let v1 : BitVec 32 := Scalar.subi v0 c4_i32
  let v14 : BitVec 32 := Scalar.subi c0_i32_5 v1
  let c128_i32_6 : BitVec 32 := 128#32
  let v15 : BitVec 32 := Scalar.muli v14 c128_i32_6
  let v16 : BitVec 32 := v15
  let c128_i32_7 : BitVec 32 := 128#32
  let v17 : BitVec 32 := Scalar.subi v16 c128_i32_7
  let v18 : BitVec 32 := v17
  let v44 : Index := Scalar.indexCast v18
  let c0_22 : Index := 0#32
  ![1, v44.toNat, 0]
def k0_off18 (i : grid0.Coords) : Fin 3 → Nat :=
  let c0_23 : Index := 0#32
  let c2_i32 : BitVec 32 := 2#32
  let arg1 : BitVec 32 := BitVec.ofNat 32 (i 1).val
  let v0 : BitVec 32 := Scalar.muli c2_i32 arg1
  let c4_i32 : BitVec 32 := 4#32
  let v1 : BitVec 32 := Scalar.subi v0 c4_i32
  let c0_i32 : BitVec 32 := 0#32
  let v2 : BitVec 32 := Scalar.maxsi v1 c0_i32
  let c128_i32 : BitVec 32 := 128#32
  let v3 : BitVec 32 := Scalar.muli v2 c128_i32
  let v4 : BitVec 32 := v3
  let v51 : Index := Scalar.indexCast v4
  let c128 : Index := 128#32
  ![0, v51.toNat, 128]
def k0_off19 (i : grid0.Coords) : Fin 3 → Nat :=
  let c2 : Index := 2#32
  let c0_i32_5 : BitVec 32 := 0#32
  let c2_i32 : BitVec 32 := 2#32
  let arg1 : BitVec 32 := BitVec.ofNat 32 (i 1).val
  let v0 : BitVec 32 := Scalar.muli c2_i32 arg1
  let c4_i32 : BitVec 32 := 4#32
  let v1 : BitVec 32 := Scalar.subi v0 c4_i32
  let v14 : BitVec 32 := Scalar.subi c0_i32_5 v1
  let c128_i32_6 : BitVec 32 := 128#32
  let v15 : BitVec 32 := Scalar.muli v14 c128_i32_6
  let v16 : BitVec 32 := v15
  let v65 : Index := Scalar.indexCast v16
  let c0_32 : Index := 0#32
  ![2, v65.toNat, 0]
def k0_off20 (i : grid0.Coords) : Fin 3 → Nat :=
  let c2_33 : Index := 2#32
  let c0_i32_5 : BitVec 32 := 0#32
  let c2_i32 : BitVec 32 := 2#32
  let arg1 : BitVec 32 := BitVec.ofNat 32 (i 1).val
  let v0 : BitVec 32 := Scalar.muli c2_i32 arg1
  let c4_i32 : BitVec 32 := 4#32
  let v1 : BitVec 32 := Scalar.subi v0 c4_i32
  let v14 : BitVec 32 := Scalar.subi c0_i32_5 v1
  let c128_i32_6 : BitVec 32 := 128#32
  let v15 : BitVec 32 := Scalar.muli v14 c128_i32_6
  let v16 : BitVec 32 := v15
  let c128_i32_7 : BitVec 32 := 128#32
  let v17 : BitVec 32 := Scalar.subi v16 c128_i32_7
  let v18 : BitVec 32 := v17
  let v68 : Index := Scalar.indexCast v18
  let c0_34 : Index := 0#32
  ![2, v68.toNat, 0]
def k0_off21 (i : grid0.Coords) : Fin 3 → Nat :=
  let c3 : Index := 3#32
  let c0_i32_5 : BitVec 32 := 0#32
  let c2_i32 : BitVec 32 := 2#32
  let arg1 : BitVec 32 := BitVec.ofNat 32 (i 1).val
  let v0 : BitVec 32 := Scalar.muli c2_i32 arg1
  let c4_i32 : BitVec 32 := 4#32
  let v1 : BitVec 32 := Scalar.subi v0 c4_i32
  let v14 : BitVec 32 := Scalar.subi c0_i32_5 v1
  let c128_i32_6 : BitVec 32 := 128#32
  let v15 : BitVec 32 := Scalar.muli v14 c128_i32_6
  let v16 : BitVec 32 := v15
  let v73 : Index := Scalar.indexCast v16
  let c0_35 : Index := 0#32
  ![3, v73.toNat, 0]
def k0_off22 (i : grid0.Coords) : Fin 3 → Nat :=
  let c3_36 : Index := 3#32
  let c0_i32_5 : BitVec 32 := 0#32
  let c2_i32 : BitVec 32 := 2#32
  let arg1 : BitVec 32 := BitVec.ofNat 32 (i 1).val
  let v0 : BitVec 32 := Scalar.muli c2_i32 arg1
  let c4_i32 : BitVec 32 := 4#32
  let v1 : BitVec 32 := Scalar.subi v0 c4_i32
  let v14 : BitVec 32 := Scalar.subi c0_i32_5 v1
  let c128_i32_6 : BitVec 32 := 128#32
  let v15 : BitVec 32 := Scalar.muli v14 c128_i32_6
  let v16 : BitVec 32 := v15
  let c128_i32_7 : BitVec 32 := 128#32
  let v17 : BitVec 32 := Scalar.subi v16 c128_i32_7
  let v18 : BitVec 32 := v17
  let v76 : Index := Scalar.indexCast v18
  let c0_37 : Index := 0#32
  ![3, v76.toNat, 0]
def k0_off23 (i : grid0.Coords) : Fin 3 → Nat :=
  let c0_47 : Index := 0#32
  let c2_i32 : BitVec 32 := 2#32
  let arg1 : BitVec 32 := BitVec.ofNat 32 (i 1).val
  let v0 : BitVec 32 := Scalar.muli c2_i32 arg1
  let c4_i32 : BitVec 32 := 4#32
  let v1 : BitVec 32 := Scalar.subi v0 c4_i32
  let c0_i32 : BitVec 32 := 0#32
  let v2 : BitVec 32 := Scalar.maxsi v1 c0_i32
  let c128_i32 : BitVec 32 := 128#32
  let v3 : BitVec 32 := Scalar.muli v2 c128_i32
  let v4 : BitVec 32 := v3
  let v383 : Index := Scalar.indexCast v4
  let c256 : Index := 256#32
  ![0, v383.toNat, 256]
def k0_off24 (i : grid0.Coords) : Fin 3 → Nat :=
  let c4 : Index := 4#32
  let c0_i32_5 : BitVec 32 := 0#32
  let c2_i32 : BitVec 32 := 2#32
  let arg1 : BitVec 32 := BitVec.ofNat 32 (i 1).val
  let v0 : BitVec 32 := Scalar.muli c2_i32 arg1
  let c4_i32 : BitVec 32 := 4#32
  let v1 : BitVec 32 := Scalar.subi v0 c4_i32
  let v14 : BitVec 32 := Scalar.subi c0_i32_5 v1
  let c128_i32_6 : BitVec 32 := 128#32
  let v15 : BitVec 32 := Scalar.muli v14 c128_i32_6
  let v16 : BitVec 32 := v15
  let v397 : Index := Scalar.indexCast v16
  let c0_56 : Index := 0#32
  ![4, v397.toNat, 0]
def k0_off25 (i : grid0.Coords) : Fin 3 → Nat :=
  let c4_57 : Index := 4#32
  let c0_i32_5 : BitVec 32 := 0#32
  let c2_i32 : BitVec 32 := 2#32
  let arg1 : BitVec 32 := BitVec.ofNat 32 (i 1).val
  let v0 : BitVec 32 := Scalar.muli c2_i32 arg1
  let c4_i32 : BitVec 32 := 4#32
  let v1 : BitVec 32 := Scalar.subi v0 c4_i32
  let v14 : BitVec 32 := Scalar.subi c0_i32_5 v1
  let c128_i32_6 : BitVec 32 := 128#32
  let v15 : BitVec 32 := Scalar.muli v14 c128_i32_6
  let v16 : BitVec 32 := v15
  let c128_i32_7 : BitVec 32 := 128#32
  let v17 : BitVec 32 := Scalar.subi v16 c128_i32_7
  let v18 : BitVec 32 := v17
  let v400 : Index := Scalar.indexCast v18
  let c0_58 : Index := 0#32
  ![4, v400.toNat, 0]
def k0_off26 (i : grid0.Coords) : Fin 3 → Nat :=
  let c5 : Index := 5#32
  let c0_i32_5 : BitVec 32 := 0#32
  let c2_i32 : BitVec 32 := 2#32
  let arg1 : BitVec 32 := BitVec.ofNat 32 (i 1).val
  let v0 : BitVec 32 := Scalar.muli c2_i32 arg1
  let c4_i32 : BitVec 32 := 4#32
  let v1 : BitVec 32 := Scalar.subi v0 c4_i32
  let v14 : BitVec 32 := Scalar.subi c0_i32_5 v1
  let c128_i32_6 : BitVec 32 := 128#32
  let v15 : BitVec 32 := Scalar.muli v14 c128_i32_6
  let v16 : BitVec 32 := v15
  let v405 : Index := Scalar.indexCast v16
  let c0_59 : Index := 0#32
  ![5, v405.toNat, 0]
def k0_off27 (i : grid0.Coords) : Fin 3 → Nat :=
  let c5_60 : Index := 5#32
  let c0_i32_5 : BitVec 32 := 0#32
  let c2_i32 : BitVec 32 := 2#32
  let arg1 : BitVec 32 := BitVec.ofNat 32 (i 1).val
  let v0 : BitVec 32 := Scalar.muli c2_i32 arg1
  let c4_i32 : BitVec 32 := 4#32
  let v1 : BitVec 32 := Scalar.subi v0 c4_i32
  let v14 : BitVec 32 := Scalar.subi c0_i32_5 v1
  let c128_i32_6 : BitVec 32 := 128#32
  let v15 : BitVec 32 := Scalar.muli v14 c128_i32_6
  let v16 : BitVec 32 := v15
  let c128_i32_7 : BitVec 32 := 128#32
  let v17 : BitVec 32 := Scalar.subi v16 c128_i32_7
  let v18 : BitVec 32 := v17
  let v408 : Index := Scalar.indexCast v18
  let c0_61 : Index := 0#32
  ![5, v408.toNat, 0]
def k0_off28 (i : grid0.Coords) : Fin 3 → Nat :=
  let c0_62 : Index := 0#32
  let c0_63 : Index := 0#32
  let c2_i32 : BitVec 32 := 2#32
  let arg1 : BitVec 32 := BitVec.ofNat 32 (i 1).val
  let v0 : BitVec 32 := Scalar.muli c2_i32 arg1
  let c4_i32 : BitVec 32 := 4#32
  let v1 : BitVec 32 := Scalar.subi v0 c4_i32
  let c0_i32 : BitVec 32 := 0#32
  let v2 : BitVec 32 := Scalar.maxsi v1 c0_i32
  let c128_i32 : BitVec 32 := 128#32
  let v3 : BitVec 32 := Scalar.muli v2 c128_i32
  let v4 : BitVec 32 := v3
  let v415 : Index := Scalar.indexCast v4
  ![0, 0, v415.toNat]
def k0_off29 (i : grid0.Coords) : Fin 3 → Nat :=
  let c0_81 : Index := 0#32
  let c2_i32 : BitVec 32 := 2#32
  let arg1 : BitVec 32 := BitVec.ofNat 32 (i 1).val
  let v0 : BitVec 32 := Scalar.muli c2_i32 arg1
  let c4_i32 : BitVec 32 := 4#32
  let v1 : BitVec 32 := Scalar.subi v0 c4_i32
  let c0_i32 : BitVec 32 := 0#32
  let v2 : BitVec 32 := Scalar.maxsi v1 c0_i32
  let c128_i32 : BitVec 32 := 128#32
  let v3 : BitVec 32 := Scalar.muli v2 c128_i32
  let v4 : BitVec 32 := v3
  let v735 : Index := Scalar.indexCast v4
  let c384 : Index := 384#32
  ![0, v735.toNat, 384]
def k0_off30 (i : grid0.Coords) : Fin 3 → Nat :=
  let c6 : Index := 6#32
  let c0_i32_5 : BitVec 32 := 0#32
  let c2_i32 : BitVec 32 := 2#32
  let arg1 : BitVec 32 := BitVec.ofNat 32 (i 1).val
  let v0 : BitVec 32 := Scalar.muli c2_i32 arg1
  let c4_i32 : BitVec 32 := 4#32
  let v1 : BitVec 32 := Scalar.subi v0 c4_i32
  let v14 : BitVec 32 := Scalar.subi c0_i32_5 v1
  let c128_i32_6 : BitVec 32 := 128#32
  let v15 : BitVec 32 := Scalar.muli v14 c128_i32_6
  let v16 : BitVec 32 := v15
  let v749 : Index := Scalar.indexCast v16
  let c0_90 : Index := 0#32
  ![6, v749.toNat, 0]
def k0_off31 (i : grid0.Coords) : Fin 3 → Nat :=
  let c6_91 : Index := 6#32
  let c0_i32_5 : BitVec 32 := 0#32
  let c2_i32 : BitVec 32 := 2#32
  let arg1 : BitVec 32 := BitVec.ofNat 32 (i 1).val
  let v0 : BitVec 32 := Scalar.muli c2_i32 arg1
  let c4_i32 : BitVec 32 := 4#32
  let v1 : BitVec 32 := Scalar.subi v0 c4_i32
  let v14 : BitVec 32 := Scalar.subi c0_i32_5 v1
  let c128_i32_6 : BitVec 32 := 128#32
  let v15 : BitVec 32 := Scalar.muli v14 c128_i32_6
  let v16 : BitVec 32 := v15
  let c128_i32_7 : BitVec 32 := 128#32
  let v17 : BitVec 32 := Scalar.subi v16 c128_i32_7
  let v18 : BitVec 32 := v17
  let v752 : Index := Scalar.indexCast v18
  let c0_92 : Index := 0#32
  ![6, v752.toNat, 0]
def k0_off32 (i : grid0.Coords) : Fin 3 → Nat :=
  let c7 : Index := 7#32
  let c0_i32_5 : BitVec 32 := 0#32
  let c2_i32 : BitVec 32 := 2#32
  let arg1 : BitVec 32 := BitVec.ofNat 32 (i 1).val
  let v0 : BitVec 32 := Scalar.muli c2_i32 arg1
  let c4_i32 : BitVec 32 := 4#32
  let v1 : BitVec 32 := Scalar.subi v0 c4_i32
  let v14 : BitVec 32 := Scalar.subi c0_i32_5 v1
  let c128_i32_6 : BitVec 32 := 128#32
  let v15 : BitVec 32 := Scalar.muli v14 c128_i32_6
  let v16 : BitVec 32 := v15
  let v757 : Index := Scalar.indexCast v16
  let c0_93 : Index := 0#32
  ![7, v757.toNat, 0]
def k0_off33 (i : grid0.Coords) : Fin 3 → Nat :=
  let c7_94 : Index := 7#32
  let c0_i32_5 : BitVec 32 := 0#32
  let c2_i32 : BitVec 32 := 2#32
  let arg1 : BitVec 32 := BitVec.ofNat 32 (i 1).val
  let v0 : BitVec 32 := Scalar.muli c2_i32 arg1
  let c4_i32 : BitVec 32 := 4#32
  let v1 : BitVec 32 := Scalar.subi v0 c4_i32
  let v14 : BitVec 32 := Scalar.subi c0_i32_5 v1
  let c128_i32_6 : BitVec 32 := 128#32
  let v15 : BitVec 32 := Scalar.muli v14 c128_i32_6
  let v16 : BitVec 32 := v15
  let c128_i32_7 : BitVec 32 := 128#32
  let v17 : BitVec 32 := Scalar.subi v16 c128_i32_7
  let v18 : BitVec 32 := v17
  let v760 : Index := Scalar.indexCast v18
  let c0_95 : Index := 0#32
  ![7, v760.toNat, 0]
def k0_off34 (i : grid0.Coords) : Fin 3 → Nat :=
  let c0_96 : Index := 0#32
  let c128_97 : Index := 128#32
  let c2_i32 : BitVec 32 := 2#32
  let arg1 : BitVec 32 := BitVec.ofNat 32 (i 1).val
  let v0 : BitVec 32 := Scalar.muli c2_i32 arg1
  let c4_i32 : BitVec 32 := 4#32
  let v1 : BitVec 32 := Scalar.subi v0 c4_i32
  let c0_i32 : BitVec 32 := 0#32
  let v2 : BitVec 32 := Scalar.maxsi v1 c0_i32
  let c128_i32 : BitVec 32 := 128#32
  let v3 : BitVec 32 := Scalar.muli v2 c128_i32
  let v4 : BitVec 32 := v3
  let v767 : Index := Scalar.indexCast v4
  ![0, 128, v767.toNat]
def k0_off35 (i : grid0.Coords) : Fin 3 → Nat :=
  let c0_115 : Index := 0#32
  let c2_i32 : BitVec 32 := 2#32
  let arg1 : BitVec 32 := BitVec.ofNat 32 (i 1).val
  let v0 : BitVec 32 := Scalar.muli c2_i32 arg1
  let c4_i32 : BitVec 32 := 4#32
  let v1 : BitVec 32 := Scalar.subi v0 c4_i32
  let c0_i32 : BitVec 32 := 0#32
  let v2 : BitVec 32 := Scalar.maxsi v1 c0_i32
  let c128_i32 : BitVec 32 := 128#32
  let v3 : BitVec 32 := Scalar.muli v2 c128_i32
  let v4 : BitVec 32 := v3
  let v1087 : Index := Scalar.indexCast v4
  let c512 : Index := 512#32
  ![0, v1087.toNat, 512]
def k0_off36 (i : grid0.Coords) : Fin 3 → Nat :=
  let c8 : Index := 8#32
  let c0_i32_5 : BitVec 32 := 0#32
  let c2_i32 : BitVec 32 := 2#32
  let arg1 : BitVec 32 := BitVec.ofNat 32 (i 1).val
  let v0 : BitVec 32 := Scalar.muli c2_i32 arg1
  let c4_i32 : BitVec 32 := 4#32
  let v1 : BitVec 32 := Scalar.subi v0 c4_i32
  let v14 : BitVec 32 := Scalar.subi c0_i32_5 v1
  let c128_i32_6 : BitVec 32 := 128#32
  let v15 : BitVec 32 := Scalar.muli v14 c128_i32_6
  let v16 : BitVec 32 := v15
  let v1101 : Index := Scalar.indexCast v16
  let c0_124 : Index := 0#32
  ![8, v1101.toNat, 0]
def k0_off37 (i : grid0.Coords) : Fin 3 → Nat :=
  let c8_125 : Index := 8#32
  let c0_i32_5 : BitVec 32 := 0#32
  let c2_i32 : BitVec 32 := 2#32
  let arg1 : BitVec 32 := BitVec.ofNat 32 (i 1).val
  let v0 : BitVec 32 := Scalar.muli c2_i32 arg1
  let c4_i32 : BitVec 32 := 4#32
  let v1 : BitVec 32 := Scalar.subi v0 c4_i32
  let v14 : BitVec 32 := Scalar.subi c0_i32_5 v1
  let c128_i32_6 : BitVec 32 := 128#32
  let v15 : BitVec 32 := Scalar.muli v14 c128_i32_6
  let v16 : BitVec 32 := v15
  let c128_i32_7 : BitVec 32 := 128#32
  let v17 : BitVec 32 := Scalar.subi v16 c128_i32_7
  let v18 : BitVec 32 := v17
  let v1104 : Index := Scalar.indexCast v18
  let c0_126 : Index := 0#32
  ![8, v1104.toNat, 0]
def k0_off38 (i : grid0.Coords) : Fin 3 → Nat :=
  let c9 : Index := 9#32
  let c0_i32_5 : BitVec 32 := 0#32
  let c2_i32 : BitVec 32 := 2#32
  let arg1 : BitVec 32 := BitVec.ofNat 32 (i 1).val
  let v0 : BitVec 32 := Scalar.muli c2_i32 arg1
  let c4_i32 : BitVec 32 := 4#32
  let v1 : BitVec 32 := Scalar.subi v0 c4_i32
  let v14 : BitVec 32 := Scalar.subi c0_i32_5 v1
  let c128_i32_6 : BitVec 32 := 128#32
  let v15 : BitVec 32 := Scalar.muli v14 c128_i32_6
  let v16 : BitVec 32 := v15
  let v1109 : Index := Scalar.indexCast v16
  let c0_127 : Index := 0#32
  ![9, v1109.toNat, 0]
def k0_off39 (i : grid0.Coords) : Fin 3 → Nat :=
  let c9_128 : Index := 9#32
  let c0_i32_5 : BitVec 32 := 0#32
  let c2_i32 : BitVec 32 := 2#32
  let arg1 : BitVec 32 := BitVec.ofNat 32 (i 1).val
  let v0 : BitVec 32 := Scalar.muli c2_i32 arg1
  let c4_i32 : BitVec 32 := 4#32
  let v1 : BitVec 32 := Scalar.subi v0 c4_i32
  let v14 : BitVec 32 := Scalar.subi c0_i32_5 v1
  let c128_i32_6 : BitVec 32 := 128#32
  let v15 : BitVec 32 := Scalar.muli v14 c128_i32_6
  let v16 : BitVec 32 := v15
  let c128_i32_7 : BitVec 32 := 128#32
  let v17 : BitVec 32 := Scalar.subi v16 c128_i32_7
  let v18 : BitVec 32 := v17
  let v1112 : Index := Scalar.indexCast v18
  let c0_129 : Index := 0#32
  ![9, v1112.toNat, 0]
def k0_off40 (i : grid0.Coords) : Fin 3 → Nat :=
  let c0_130 : Index := 0#32
  let c256_131 : Index := 256#32
  let c2_i32 : BitVec 32 := 2#32
  let arg1 : BitVec 32 := BitVec.ofNat 32 (i 1).val
  let v0 : BitVec 32 := Scalar.muli c2_i32 arg1
  let c4_i32 : BitVec 32 := 4#32
  let v1 : BitVec 32 := Scalar.subi v0 c4_i32
  let c0_i32 : BitVec 32 := 0#32
  let v2 : BitVec 32 := Scalar.maxsi v1 c0_i32
  let c128_i32 : BitVec 32 := 128#32
  let v3 : BitVec 32 := Scalar.muli v2 c128_i32
  let v4 : BitVec 32 := v3
  let v1119 : Index := Scalar.indexCast v4
  ![0, 256, v1119.toNat]
def k0_off41 (i : grid0.Coords) : Fin 3 → Nat :=
  let c0_149 : Index := 0#32
  let c2_i32 : BitVec 32 := 2#32
  let arg1 : BitVec 32 := BitVec.ofNat 32 (i 1).val
  let v0 : BitVec 32 := Scalar.muli c2_i32 arg1
  let c4_i32 : BitVec 32 := 4#32
  let v1 : BitVec 32 := Scalar.subi v0 c4_i32
  let c0_i32 : BitVec 32 := 0#32
  let v2 : BitVec 32 := Scalar.maxsi v1 c0_i32
  let c128_i32 : BitVec 32 := 128#32
  let v3 : BitVec 32 := Scalar.muli v2 c128_i32
  let v4 : BitVec 32 := v3
  let v1439 : Index := Scalar.indexCast v4
  let c640 : Index := 640#32
  ![0, v1439.toNat, 640]
def k0_off42 (i : grid0.Coords) : Fin 3 → Nat :=
  let c10 : Index := 10#32
  let c0_i32_5 : BitVec 32 := 0#32
  let c2_i32 : BitVec 32 := 2#32
  let arg1 : BitVec 32 := BitVec.ofNat 32 (i 1).val
  let v0 : BitVec 32 := Scalar.muli c2_i32 arg1
  let c4_i32 : BitVec 32 := 4#32
  let v1 : BitVec 32 := Scalar.subi v0 c4_i32
  let v14 : BitVec 32 := Scalar.subi c0_i32_5 v1
  let c128_i32_6 : BitVec 32 := 128#32
  let v15 : BitVec 32 := Scalar.muli v14 c128_i32_6
  let v16 : BitVec 32 := v15
  let v1453 : Index := Scalar.indexCast v16
  let c0_158 : Index := 0#32
  ![10, v1453.toNat, 0]
def k0_off43 (i : grid0.Coords) : Fin 3 → Nat :=
  let c10_159 : Index := 10#32
  let c0_i32_5 : BitVec 32 := 0#32
  let c2_i32 : BitVec 32 := 2#32
  let arg1 : BitVec 32 := BitVec.ofNat 32 (i 1).val
  let v0 : BitVec 32 := Scalar.muli c2_i32 arg1
  let c4_i32 : BitVec 32 := 4#32
  let v1 : BitVec 32 := Scalar.subi v0 c4_i32
  let v14 : BitVec 32 := Scalar.subi c0_i32_5 v1
  let c128_i32_6 : BitVec 32 := 128#32
  let v15 : BitVec 32 := Scalar.muli v14 c128_i32_6
  let v16 : BitVec 32 := v15
  let c128_i32_7 : BitVec 32 := 128#32
  let v17 : BitVec 32 := Scalar.subi v16 c128_i32_7
  let v18 : BitVec 32 := v17
  let v1456 : Index := Scalar.indexCast v18
  let c0_160 : Index := 0#32
  ![10, v1456.toNat, 0]
def k0_off44 (i : grid0.Coords) : Fin 3 → Nat :=
  let c11 : Index := 11#32
  let c0_i32_5 : BitVec 32 := 0#32
  let c2_i32 : BitVec 32 := 2#32
  let arg1 : BitVec 32 := BitVec.ofNat 32 (i 1).val
  let v0 : BitVec 32 := Scalar.muli c2_i32 arg1
  let c4_i32 : BitVec 32 := 4#32
  let v1 : BitVec 32 := Scalar.subi v0 c4_i32
  let v14 : BitVec 32 := Scalar.subi c0_i32_5 v1
  let c128_i32_6 : BitVec 32 := 128#32
  let v15 : BitVec 32 := Scalar.muli v14 c128_i32_6
  let v16 : BitVec 32 := v15
  let v1461 : Index := Scalar.indexCast v16
  let c0_161 : Index := 0#32
  ![11, v1461.toNat, 0]
def k0_off45 (i : grid0.Coords) : Fin 3 → Nat :=
  let c11_162 : Index := 11#32
  let c0_i32_5 : BitVec 32 := 0#32
  let c2_i32 : BitVec 32 := 2#32
  let arg1 : BitVec 32 := BitVec.ofNat 32 (i 1).val
  let v0 : BitVec 32 := Scalar.muli c2_i32 arg1
  let c4_i32 : BitVec 32 := 4#32
  let v1 : BitVec 32 := Scalar.subi v0 c4_i32
  let v14 : BitVec 32 := Scalar.subi c0_i32_5 v1
  let c128_i32_6 : BitVec 32 := 128#32
  let v15 : BitVec 32 := Scalar.muli v14 c128_i32_6
  let v16 : BitVec 32 := v15
  let c128_i32_7 : BitVec 32 := 128#32
  let v17 : BitVec 32 := Scalar.subi v16 c128_i32_7
  let v18 : BitVec 32 := v17
  let v1464 : Index := Scalar.indexCast v18
  let c0_163 : Index := 0#32
  ![11, v1464.toNat, 0]
def k0_off46 (i : grid0.Coords) : Fin 3 → Nat :=
  let c0_164 : Index := 0#32
  let c384_165 : Index := 384#32
  let c2_i32 : BitVec 32 := 2#32
  let arg1 : BitVec 32 := BitVec.ofNat 32 (i 1).val
  let v0 : BitVec 32 := Scalar.muli c2_i32 arg1
  let c4_i32 : BitVec 32 := 4#32
  let v1 : BitVec 32 := Scalar.subi v0 c4_i32
  let c0_i32 : BitVec 32 := 0#32
  let v2 : BitVec 32 := Scalar.maxsi v1 c0_i32
  let c128_i32 : BitVec 32 := 128#32
  let v3 : BitVec 32 := Scalar.muli v2 c128_i32
  let v4 : BitVec 32 := v3
  let v1471 : Index := Scalar.indexCast v4
  ![0, 384, v1471.toNat]
def k0_off47 (i : grid0.Coords) : Fin 3 → Nat :=
  let c0_183 : Index := 0#32
  let c512_184 : Index := 512#32
  let c2_i32 : BitVec 32 := 2#32
  let arg1 : BitVec 32 := BitVec.ofNat 32 (i 1).val
  let v0 : BitVec 32 := Scalar.muli c2_i32 arg1
  let c4_i32 : BitVec 32 := 4#32
  let v1 : BitVec 32 := Scalar.subi v0 c4_i32
  let c0_i32 : BitVec 32 := 0#32
  let v2 : BitVec 32 := Scalar.maxsi v1 c0_i32
  let c128_i32 : BitVec 32 := 128#32
  let v3 : BitVec 32 := Scalar.muli v2 c128_i32
  let v4 : BitVec 32 := v3
  let v1791 : Index := Scalar.indexCast v4
  ![0, 512, v1791.toNat]
def k0_off48 (i : grid0.Coords) : Fin 3 → Nat :=
  let c0_202 : Index := 0#32
  let c640_203 : Index := 640#32
  let c2_i32 : BitVec 32 := 2#32
  let arg1 : BitVec 32 := BitVec.ofNat 32 (i 1).val
  let v0 : BitVec 32 := Scalar.muli c2_i32 arg1
  let c4_i32 : BitVec 32 := 4#32
  let v1 : BitVec 32 := Scalar.subi v0 c4_i32
  let c0_i32 : BitVec 32 := 0#32
  let v2 : BitVec 32 := Scalar.maxsi v1 c0_i32
  let c128_i32 : BitVec 32 := 128#32
  let v3 : BitVec 32 := Scalar.muli v2 c128_i32
  let v4 : BitVec 32 := v3
  let v2111 : Index := Scalar.indexCast v4
  ![0, 640, v2111.toNat]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x768x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x768x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S12x1152x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x768x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8x16x768x256 : Shape := ⟨4, ![8, 16, 768, 256]⟩
abbrev S8x4096x768 : Shape := ⟨3, ![8, 4096, 768]⟩
abbrev S8x768x4096 : Shape := ⟨3, ![8, 768, 4096]⟩
abbrev S12x1152x128 : Shape := ⟨3, ![12, 1152, 128]⟩
abbrev S8x16x256x768 : Shape := ⟨4, ![8, 16, 256, 768]⟩
abbrev S8x4096x12x64 : Shape := ⟨4, ![8, 4096, 12, 64]⟩
abbrev S4096x4096 : Shape := ⟨2, ![4096, 4096]⟩
abbrev S_ : Shape := ⟨0, ![]⟩
abbrev S8x12x4096x4096 : Shape := ⟨4, ![8, 12, 4096, 4096]⟩
abbrev S4096x4096x1 : Shape := ⟨3, ![4096, 4096, 1]⟩
abbrev S4096x4096x2 : Shape := ⟨3, ![4096, 4096, 2]⟩
abbrev S12x4096x4096 : Shape := ⟨3, ![12, 4096, 4096]⟩
abbrev S1x12x4096x4096 : Shape := ⟨4, ![1, 12, 4096, 4096]⟩
abbrev S8x12x4096 : Shape := ⟨3, ![8, 12, 4096]⟩
abbrev S8x12x4096x1 : Shape := ⟨4, ![8, 12, 4096, 1]⟩
abbrev S8x12x64x4096 : Shape := ⟨4, ![8, 12, 64, 4096]⟩

abbrev nBuf : Space → Nat
  | .hbm => 90
  | .vmem => 0
  | .smem => 0
  | _ => 0

abbrev bufTy : (tb : Table) → Fin (tcTables nBuf tb) → BufTy
  | .hbm, ⟨0, _⟩ => ⟨S8x16x768x256, .bf16⟩
  | .hbm, ⟨1, _⟩ => ⟨S8x4096x768, .bf16⟩
  | .hbm, ⟨2, _⟩ => ⟨S8x768x4096, .bf16⟩
  | .hbm, ⟨3, _⟩ => ⟨S12x1152x128, .f32⟩
  | .hbm, ⟨4, _⟩ => ⟨S8x16x256x768, .bf16⟩
  | .hbm, ⟨5, _⟩ => ⟨S8x4096x12x64, .bf16⟩
  | .hbm, ⟨6, _⟩ => ⟨S8x4096x12x64, .bf16⟩
  | .hbm, ⟨7, _⟩ => ⟨S8x4096x768, .bf16⟩
  | .hbm, ⟨8, _⟩ => ⟨S8x4096x12x64, .bf16⟩
  | .hbm, ⟨9, _⟩ => ⟨S4096x4096, .i32⟩
  | .hbm, ⟨10, _⟩ => ⟨S4096x4096, .i32⟩
  | .hbm, ⟨11, _⟩ => ⟨S_, .i32⟩
  | .hbm, ⟨12, _⟩ => ⟨S4096x4096, .i32⟩
  | .hbm, ⟨13, _⟩ => ⟨S4096x4096, .i32⟩
  | .hbm, ⟨14, _⟩ => ⟨S_, .i32⟩
  | .hbm, ⟨15, _⟩ => ⟨S4096x4096, .i32⟩
  | .hbm, ⟨16, _⟩ => ⟨S4096x4096, .i32⟩
  | .hbm, ⟨17, _⟩ => ⟨S_, .i32⟩
  | .hbm, ⟨18, _⟩ => ⟨S4096x4096, .i32⟩
  | .hbm, ⟨19, _⟩ => ⟨S4096x4096, .i32⟩
  | .hbm, ⟨20, _⟩ => ⟨S_, .i32⟩
  | .hbm, ⟨21, _⟩ => ⟨S4096x4096, .i32⟩
  | .hbm, ⟨22, _⟩ => ⟨S4096x4096, .i32⟩
  | .hbm, ⟨23, _⟩ => ⟨S4096x4096, .i1⟩
  | .hbm, ⟨24, _⟩ => ⟨S_, .i32⟩
  | .hbm, ⟨25, _⟩ => ⟨S4096x4096, .i32⟩
  | .hbm, ⟨26, _⟩ => ⟨S4096x4096, .i32⟩
  | .hbm, ⟨27, _⟩ => ⟨S4096x4096, .i1⟩
  | .hbm, ⟨28, _⟩ => ⟨S4096x4096, .i1⟩
  | .hbm, ⟨29, _⟩ => ⟨S_, .i32⟩
  | .hbm, ⟨30, _⟩ => ⟨S4096x4096, .i32⟩
  | .hbm, ⟨31, _⟩ => ⟨S4096x4096, .i32⟩
  | .hbm, ⟨32, _⟩ => ⟨S4096x4096, .i32⟩
  | .hbm, ⟨33, _⟩ => ⟨S_, .i32⟩
  | .hbm, ⟨34, _⟩ => ⟨S4096x4096, .i32⟩
  | .hbm, ⟨35, _⟩ => ⟨S4096x4096, .i32⟩
  | .hbm, ⟨36, _⟩ => ⟨S_, .i32⟩
  | .hbm, ⟨37, _⟩ => ⟨S_, .i32⟩
  | .hbm, ⟨38, _⟩ => ⟨S4096x4096, .i32⟩
  | .hbm, ⟨39, _⟩ => ⟨S4096x4096, .i32⟩
  | .hbm, ⟨40, _⟩ => ⟨S_, .i32⟩
  | .hbm, ⟨41, _⟩ => ⟨S4096x4096, .i32⟩
  | .hbm, ⟨42, _⟩ => ⟨S4096x4096, .i32⟩
  | .hbm, ⟨43, _⟩ => ⟨S8x12x4096x4096, .f32⟩
  | .hbm, ⟨44, _⟩ => ⟨S_, .i32⟩
  | .hbm, ⟨45, _⟩ => ⟨S4096x4096, .i32⟩
  | .hbm, ⟨46, _⟩ => ⟨S4096x4096, .i1⟩
  | .hbm, ⟨47, _⟩ => ⟨S_, .i32⟩
  | .hbm, ⟨48, _⟩ => ⟨S4096x4096, .i32⟩
  | .hbm, ⟨49, _⟩ => ⟨S4096x4096, .i32⟩
  | .hbm, ⟨50, _⟩ => ⟨S4096x4096, .i32⟩
  | .hbm, ⟨51, _⟩ => ⟨S_, .i32⟩
  | .hbm, ⟨52, _⟩ => ⟨S4096x4096, .i32⟩
  | .hbm, ⟨53, _⟩ => ⟨S4096x4096, .i1⟩
  | .hbm, ⟨54, _⟩ => ⟨S_, .i32⟩
  | .hbm, ⟨55, _⟩ => ⟨S4096x4096, .i32⟩
  | .hbm, ⟨56, _⟩ => ⟨S4096x4096, .i32⟩
  | .hbm, ⟨57, _⟩ => ⟨S4096x4096, .i32⟩
  | .hbm, ⟨58, _⟩ => ⟨S4096x4096x1, .i32⟩
  | .hbm, ⟨59, _⟩ => ⟨S4096x4096x1, .i32⟩
  | .hbm, ⟨60, _⟩ => ⟨S4096x4096x2, .i32⟩
  | .hbm, ⟨61, _⟩ => ⟨S12x4096x4096, .f32⟩
  | .hbm, ⟨62, _⟩ => ⟨S1x12x4096x4096, .f32⟩
  | .hbm, ⟨63, _⟩ => ⟨S8x12x4096x4096, .f32⟩
  | .hbm, ⟨64, _⟩ => ⟨S8x12x4096x4096, .f32⟩
  | .hbm, ⟨65, _⟩ => ⟨S_, .f32⟩
  | .hbm, ⟨66, _⟩ => ⟨S_, .f32⟩
  | .hbm, ⟨67, _⟩ => ⟨S8x12x4096x4096, .i1⟩
  | .hbm, ⟨68, _⟩ => ⟨S8x12x4096x4096, .f32⟩
  | .hbm, ⟨69, _⟩ => ⟨S8x12x4096x4096, .f32⟩
  | .hbm, ⟨70, _⟩ => ⟨S_, .f32⟩
  | .hbm, ⟨71, _⟩ => ⟨S8x12x4096, .f32⟩
  | .hbm, ⟨72, _⟩ => ⟨S_, .f32⟩
  | .hbm, ⟨73, _⟩ => ⟨S8x12x4096, .f32⟩
  | .hbm, ⟨74, _⟩ => ⟨S8x12x4096, .f32⟩
  | .hbm, ⟨75, _⟩ => ⟨S8x12x4096x1, .f32⟩
  | .hbm, ⟨76, _⟩ => ⟨S8x12x4096x4096, .f32⟩
  | .hbm, ⟨77, _⟩ => ⟨S8x12x4096x4096, .f32⟩
  | .hbm, ⟨78, _⟩ => ⟨S8x12x4096x4096, .f32⟩
  | .hbm, ⟨79, _⟩ => ⟨S_, .f32⟩
  | .hbm, ⟨80, _⟩ => ⟨S8x12x4096, .f32⟩
  | .hbm, ⟨81, _⟩ => ⟨S8x12x4096x1, .f32⟩
  | .hbm, ⟨82, _⟩ => ⟨S8x12x4096x4096, .f32⟩
  | .hbm, ⟨83, _⟩ => ⟨S8x12x4096x4096, .f32⟩
  | .hbm, ⟨84, _⟩ => ⟨S8x12x4096x4096, .bf16⟩
  | .hbm, ⟨85, _⟩ => ⟨S8x12x64x4096, .f32⟩
  | .hbm, ⟨86, _⟩ => ⟨S8x4096x12x64, .f32⟩
  | .hbm, ⟨87, _⟩ => ⟨S8x4096x12x64, .bf16⟩
  | .hbm, ⟨88, _⟩ => ⟨S8x16x256x768, .bf16⟩
  | .hbm, ⟨89, _⟩ => ⟨S8x16x768x256, .bf16⟩
  | _, _ => ⟨S8x16x768x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_5 : Ref sig .tc := ⟨.hbm, 33, rfl⟩
abbrev main_v23 : Ref sig .tc := ⟨.hbm, 34, rfl⟩
abbrev main_v24 : Ref sig .tc := ⟨.hbm, 35, rfl⟩
abbrev main_c_6 : Ref sig .tc := ⟨.hbm, 36, rfl⟩
abbrev main_call0_v0 : Ref sig .tc := ⟨.hbm, 37, rfl⟩
abbrev main_call0_v1 : Ref sig .tc := ⟨.hbm, 38, rfl⟩
abbrev main_v25 : Ref sig .tc := ⟨.hbm, 39, rfl⟩
abbrev main_c_7 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_8 : Ref sig .tc := ⟨.hbm, 44, rfl⟩
abbrev main_v29 : Ref sig .tc := ⟨.hbm, 45, rfl⟩
abbrev main_v30 : Ref sig .tc := ⟨.hbm, 46, rfl⟩
abbrev main_c_9 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_10 : Ref sig .tc := ⟨.hbm, 51, rfl⟩
abbrev main_v34 : Ref sig .tc := ⟨.hbm, 52, rfl⟩
abbrev main_v35 : Ref sig .tc := ⟨.hbm, 53, rfl⟩
abbrev main_c_11 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_v46 : Ref sig .tc := ⟨.hbm, 69, rfl⟩
abbrev main_cst_12 : Ref sig .tc := ⟨.hbm, 70, rfl⟩
abbrev main_v47 : Ref sig .tc := ⟨.hbm, 71, rfl⟩
abbrev main_cst_13 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_14 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩

abbrev nD : Nat := 1
abbrev τ : Topo := Topo.v7x

variable {F : FTy → Type} [FloatOps F]
-- ==== Kernel2.lean ====
abbrev S8x4096x1024 : Shape := ⟨3, ![8, 4096, 1024]⟩
abbrev S8x16x768x256 : Shape := ⟨4, ![8, 16, 768, 256]⟩
abbrev S8x4096x256 : Shape := ⟨3, ![8, 4096, 256]⟩
abbrev S2x8x256x1024 : Shape := ⟨4, ![2, 8, 256, 1024]⟩
abbrev S2x8x1024x256 : Shape := ⟨4, ![2, 8, 1024, 256]⟩
abbrev S2x1024x5632 : Shape := ⟨3, ![2, 1024, 5632]⟩
abbrev S2x2816x1024 : Shape := ⟨3, ![2, 2816, 1024]⟩
abbrev S1024x1024 : Shape := ⟨2, ![1024, 1024]⟩
abbrev S1x1024 : Shape := ⟨2, ![1, 1024]⟩
abbrev S3x2816 : Shape := ⟨2, ![3, 2816]⟩
abbrev S1x2816 : Shape := ⟨2, ![1, 2816]⟩
abbrev S1x512x1024 : Shape := ⟨3, ![1, 512, 1024]⟩
abbrev S1x2x768x256 : Shape := ⟨4, ![1, 2, 768, 256]⟩
abbrev S1x512x256 : Shape := ⟨3, ![1, 512, 256]⟩
abbrev S1x1x256x1024 : Shape := ⟨4, ![1, 1, 256, 1024]⟩
abbrev S1x1x1024x256 : Shape := ⟨4, ![1, 1, 1024, 256]⟩
abbrev S1x1024x5632 : Shape := ⟨3, ![1, 1024, 5632]⟩
abbrev S1x2816x1024 : Shape := ⟨3, ![1, 2816, 1024]⟩
abbrev S8x2816 : Shape := ⟨2, ![8, 2816]⟩
abbrev S512x2816 : Shape := ⟨2, ![512, 2816]⟩
abbrev S512x256 : Shape := ⟨2, ![512, 256]⟩
abbrev S256x1024 : Shape := ⟨2, ![256, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S1x1x768x256 : Shape := ⟨4, ![1, 1, 768, 256]⟩
abbrev S768x256 : Shape := ⟨2, ![768, 256]⟩
abbrev S768x1024 : Shape := ⟨2, ![768, 1024]⟩
abbrev S1x1024x256 : Shape := ⟨3, ![1, 1024, 256]⟩
abbrev S8x256 : Shape := ⟨2, ![8, 256]⟩
abbrev S3x256 : Shape := ⟨2, ![3, 256]⟩
abbrev S1x256 : Shape := ⟨2, ![1, 256]⟩
abbrev S504x256 : Shape := ⟨2, ![504, 256]⟩
abbrev S2816x1024 : Shape := ⟨2, ![2816, 1024]⟩

abbrev nBuf : Space → Nat
  | .hbm => 13
  | .vmem => 21
  | .smem => 0
  | _ => 0

abbrev bufTy : (tb : Table) → Fin (tcTables nBuf tb) → BufTy
  | .hbm, ⟨0, _⟩ => ⟨S8x4096x1024, .f32⟩
  | .hbm, ⟨1, _⟩ => ⟨S8x16x768x256, .bf16⟩
  | .hbm, ⟨2, _⟩ => ⟨S8x4096x256, .bf16⟩
  | .hbm, ⟨3, _⟩ => ⟨S2x8x256x1024, .bf16⟩
  | .hbm, ⟨4, _⟩ => ⟨S2x8x1024x256, .bf16⟩
  | .hbm, ⟨5, _⟩ => ⟨S2x1024x5632, .bf16⟩
  | .hbm, ⟨6, _⟩ => ⟨S2x2816x1024, .bf16⟩
  | .hbm, ⟨7, _⟩ => ⟨S1024x1024, .bf16⟩
  | .hbm, ⟨8, _⟩ => ⟨S1x1024, .f32⟩
  | .hbm, ⟨9, _⟩ => ⟨S3x2816, .f32⟩
  | .hbm, ⟨10, _⟩ => ⟨S1x2816, .f32⟩
  | .hbm, ⟨11, _⟩ => ⟨S1x1024, .f32⟩
  | .hbm, ⟨12, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x2x768x256, .bf16⟩
  | .local _ .vmem, ⟨3, _⟩ => ⟨S1x2x768x256, .bf16⟩
  | .local _ .vmem, ⟨4, _⟩ => ⟨S1x512x256, .bf16⟩
  | .local _ .vmem, ⟨5, _⟩ => ⟨S1x512x256, .bf16⟩
  | .local _ .vmem, ⟨6, _⟩ => ⟨S1x1x256x1024, .bf16⟩
  | .local _ .vmem, ⟨7, _⟩ => ⟨S1x1x256x1024, .bf16⟩
  | .local _ .vmem, ⟨8, _⟩ => ⟨S1x1x1024x256, .bf16⟩
  | .local _ .vmem, ⟨9, _⟩ => ⟨S1x1x1024x256, .bf16⟩
  | .local _ .vmem, ⟨10, _⟩ => ⟨S1x1024x5632, .bf16⟩
  | .local _ .vmem, ⟨11, _⟩ => ⟨S1x2816x1024, .bf16⟩
  | .local _ .vmem, ⟨12, _⟩ => ⟨S1024x1024, .bf16⟩
  | .local _ .vmem, ⟨13, _⟩ => ⟨S1x1024, .f32⟩
  | .local _ .vmem, ⟨14, _⟩ => ⟨S3x2816, .f32⟩
  | .local _ .vmem, ⟨15, _⟩ => ⟨S1x2816, .f32⟩
  | .local _ .vmem, ⟨16, _⟩ => ⟨S1x1024, .f32⟩
  | .local _ .vmem, ⟨17, _⟩ => ⟨S1x512x1024, .f32⟩
  | .local _ .vmem, ⟨18, _⟩ => ⟨S1x512x1024, .f32⟩
  | .local _ .vmem, ⟨19, _⟩ => ⟨S8x2816, .f32⟩
  | .local _ .vmem, ⟨20, _⟩ => ⟨S512x2816, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x768x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S3x2816 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x2816 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference2Ideal.lean ====
abbrev S8x4096x1024 : Shape := ⟨3, ![8, 4096, 1024]⟩
abbrev S8x16x768x256 : Shape := ⟨4, ![8, 16, 768, 256]⟩
abbrev S8x4096x256 : Shape := ⟨3, ![8, 4096, 256]⟩
abbrev S2x8x256x1024 : Shape := ⟨4, ![2, 8, 256, 1024]⟩
abbrev S2x8x1024x256 : Shape := ⟨4, ![2, 8, 1024, 256]⟩
abbrev S2x1024x5632 : Shape := ⟨3, ![2, 1024, 5632]⟩
abbrev S2x2816x1024 : Shape := ⟨3, ![2, 2816, 1024]⟩
abbrev S1024x1024 : Shape := ⟨2, ![1024, 1024]⟩
abbrev S1x1024 : Shape := ⟨2, ![1, 1024]⟩
abbrev S3x2816 : Shape := ⟨2, ![3, 2816]⟩
abbrev S1x2816 : Shape := ⟨2, ![1, 2816]⟩
abbrev S1x8x256x1024 : Shape := ⟨4, ![1, 8, 256, 1024]⟩
abbrev S8x256x1024 : Shape := ⟨3, ![8, 256, 1024]⟩
abbrev S1x8x1024x256 : Shape := ⟨4, ![1, 8, 1024, 256]⟩
abbrev S8x1024x256 : Shape := ⟨3, ![8, 1024, 256]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S8x16x256x768 : Shape := ⟨4, ![8, 16, 256, 768]⟩
abbrev S8x4096x768 : Shape := ⟨3, ![8, 4096, 768]⟩
abbrev S8x4096x4x256 : Shape := ⟨4, ![8, 4096, 4, 256]⟩
abbrev S_ : Shape := ⟨0, ![]⟩
abbrev S8x4096x4 : Shape := ⟨3, ![8, 4096, 4]⟩
abbrev S8x4096x4x1 : Shape := ⟨4, ![8, 4096, 4, 1]⟩
abbrev S1024 : Shape := ⟨1, ![1024]⟩
abbrev S8x4096 : Shape := ⟨2, ![8, 4096]⟩
abbrev S8x4096x1 : Shape := ⟨3, ![8, 4096, 1]⟩
abbrev S1x1x1024 : Shape := ⟨3, ![1, 1, 1024]⟩
abbrev S8x4096x5632 : Shape := ⟨3, ![8, 4096, 5632]⟩
abbrev S8x4096x2816 : Shape := ⟨3, ![8, 4096, 2816]⟩
abbrev S2816 : Shape := ⟨1, ![2816]⟩
abbrev S8x4098x2816 : Shape := ⟨3, ![8, 4098, 2816]⟩
abbrev S1x1x2816 : Shape := ⟨3, ![1, 1, 2816]⟩

abbrev nBuf : Space → Nat
  | .hbm => 126
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x16x768x256, .bf16⟩
  | .hbm, ⟨2, _⟩ => ⟨S8x4096x256, .bf16⟩
  | .hbm, ⟨3, _⟩ => ⟨S2x8x256x1024, .bf16⟩
  | .hbm, ⟨4, _⟩ => ⟨S2x8x1024x256, .bf16⟩
  | .hbm, ⟨5, _⟩ => ⟨S2x1024x5632, .bf16⟩
  | .hbm, ⟨6, _⟩ => ⟨S2x2816x1024, .bf16⟩
  | .hbm, ⟨7, _⟩ => ⟨S1024x1024, .bf16⟩
  | .hbm, ⟨8, _⟩ => ⟨S1x1024, .f32⟩
  | .hbm, ⟨9, _⟩ => ⟨S3x2816, .f32⟩
  | .hbm, ⟨10, _⟩ => ⟨S1x2816, .f32⟩
  | .hbm, ⟨11, _⟩ => ⟨S1x1024, .f32⟩
  | .hbm, ⟨12, _⟩ => ⟨S1x8x256x1024, .bf16⟩
  | .hbm, ⟨13, _⟩ => ⟨S8x256x1024, .bf16⟩
  | .hbm, ⟨14, _⟩ => ⟨S1x8x1024x256, .bf16⟩
  | .hbm, ⟨15, _⟩ => ⟨S8x1024x256, .bf16⟩
  | .hbm, ⟨16, _⟩ => ⟨S1x1024x5632, .bf16⟩
  | .hbm, ⟨17, _⟩ => ⟨S1024x5632, .bf16⟩
  | .hbm, ⟨18, _⟩ => ⟨S1x2816x1024, .bf16⟩
  | .hbm, ⟨19, _⟩ => ⟨S2816x1024, .bf16⟩
  | .hbm, ⟨20, _⟩ => ⟨S8x16x768x256, .f32⟩
  | .hbm, ⟨21, _⟩ => ⟨S8x16x256x768, .f32⟩
  | .hbm, ⟨22, _⟩ => ⟨S8x4096x768, .f32⟩
  | .hbm, ⟨23, _⟩ => ⟨S8x4096x256, .f32⟩
  | .hbm, ⟨24, _⟩ => ⟨S8x256x1024, .f32⟩
  | .hbm, ⟨25, _⟩ => ⟨S8x4096x1024, .f32⟩
  | .hbm, ⟨26, _⟩ => ⟨S8x4096x4x256, .f32⟩
  | .hbm, ⟨27, _⟩ => ⟨S_, .f32⟩
  | .hbm, ⟨28, _⟩ => ⟨S8x4096x4, .f32⟩
  | .hbm, ⟨29, _⟩ => ⟨S_, .f32⟩
  | .hbm, ⟨30, _⟩ => ⟨S8x4096x4, .f32⟩
  | .hbm, ⟨31, _⟩ => ⟨S8x4096x4, .f32⟩
  | .hbm, ⟨32, _⟩ => ⟨S8x4096x4x1, .f32⟩
  | .hbm, ⟨33, _⟩ => ⟨S8x4096x4x256, .f32⟩
  | .hbm, ⟨34, _⟩ => ⟨S8x4096x4x256, .f32⟩
  | .hbm, ⟨35, _⟩ => ⟨S8x4096x4x256, .f32⟩
  | .hbm, ⟨36, _⟩ => ⟨S_, .f32⟩
  | .hbm, ⟨37, _⟩ => ⟨S8x4096x4, .f32⟩
  | .hbm, ⟨38, _⟩ => ⟨S8x4096x4x1, .f32⟩
  | .hbm, ⟨39, _⟩ => ⟨S8x4096x4x256, .f32⟩
  | .hbm, ⟨40, _⟩ => ⟨S8x4096x4x256, .f32⟩
  | .hbm, ⟨41, _⟩ => ⟨S8x4096x1024, .f32⟩
  | .hbm, ⟨42, _⟩ => ⟨S8x1024x256, .f32⟩
  | .hbm, ⟨43, _⟩ => ⟨S8x4096x256, .f32⟩
  | .hbm, ⟨44, _⟩ => ⟨S8x4096x1024, .f32⟩
  | .hbm, ⟨45, _⟩ => ⟨S1024x1024, .f32⟩
  | .hbm, ⟨46, _⟩ => ⟨S8x4096x1024, .f32⟩
  | .hbm, ⟨47, _⟩ => ⟨S8x4096x1024, .f32⟩
  | .hbm, ⟨48, _⟩ => ⟨S1024, .f32⟩
  | .hbm, ⟨49, _⟩ => ⟨S8x4096x1024, .f32⟩
  | .hbm, ⟨50, _⟩ => ⟨S_, .f32⟩
  | .hbm, ⟨51, _⟩ => ⟨S8x4096, .f32⟩
  | .hbm, ⟨52, _⟩ => ⟨S8x4096x1, .f32⟩
  | .hbm, ⟨53, _⟩ => ⟨S_, .f32⟩
  | .hbm, ⟨54, _⟩ => ⟨S8x4096x1, .f32⟩
  | .hbm, ⟨55, _⟩ => ⟨S8x4096x1, .f32⟩
  | .hbm, ⟨56, _⟩ => ⟨S_, .f32⟩
  | .hbm, ⟨57, _⟩ => ⟨S8x4096x1, .f32⟩
  | .hbm, ⟨58, _⟩ => ⟨S8x4096x1, .f32⟩
  | .hbm, ⟨59, _⟩ => ⟨S8x4096x1, .f32⟩
  | .hbm, ⟨60, _⟩ => ⟨S8x4096x1024, .f32⟩
  | .hbm, ⟨61, _⟩ => ⟨S8x4096x1024, .f32⟩
  | .hbm, ⟨62, _⟩ => ⟨S1x1x1024, .f32⟩
  | .hbm, ⟨63, _⟩ => ⟨S8x4096x1024, .f32⟩
  | .hbm, ⟨64, _⟩ => ⟨S8x4096x1024, .f32⟩
  | .hbm, ⟨65, _⟩ => ⟨S1024x5632, .f32⟩
  | .hbm, ⟨66, _⟩ => ⟨S8x4096x5632, .f32⟩
  | .hbm, ⟨67, _⟩ => ⟨S8x4096x2816, .f32⟩
  | .hbm, ⟨68, _⟩ => ⟨S8x4096x2816, .f32⟩
  | .hbm, ⟨69, _⟩ => ⟨S2816, .f32⟩
  | .hbm, ⟨70, _⟩ => ⟨S_, .i32⟩
  | .hbm, ⟨71, _⟩ => ⟨S_, .f32⟩
  | .hbm, ⟨72, _⟩ => ⟨S8x4098x2816, .f32⟩
  | .hbm, ⟨73, _⟩ => ⟨S8x4096x2816, .f32⟩
  | .hbm, ⟨74, _⟩ => ⟨S1x2816, .f32⟩
  | .hbm, ⟨75, _⟩ => ⟨S2816, .f32⟩
  | .hbm, ⟨76, _⟩ => ⟨S1x1x2816, .f32⟩
  | .hbm, ⟨77, _⟩ => ⟨S8x4096x2816, .f32⟩
  | .hbm, ⟨78, _⟩ => ⟨S8x4096x2816, .f32⟩
  | .hbm, ⟨79, _⟩ => ⟨S8x4096x2816, .f32⟩
  | .hbm, ⟨80, _⟩ => ⟨S1x2816, .f32⟩
  | .hbm, ⟨81, _⟩ => ⟨S2816, .f32⟩
  | .hbm, ⟨82, _⟩ => ⟨S1x1x2816, .f32⟩
  | .hbm, ⟨83, _⟩ => ⟨S8x4096x2816, .f32⟩
  | .hbm, ⟨84, _⟩ => ⟨S8x4096x2816, .f32⟩
  | .hbm, ⟨85, _⟩ => ⟨S8x4096x2816, .f32⟩
  | .hbm, ⟨86, _⟩ => ⟨S8x4096x2816, .f32⟩
  | .hbm, ⟨87, _⟩ => ⟨S1x2816, .f32⟩
  | .hbm, ⟨88, _⟩ => ⟨S2816, .f32⟩
  | .hbm, ⟨89, _⟩ => ⟨S1x1x2816, .f32⟩
  | .hbm, ⟨90, _⟩ => ⟨S8x4096x2816, .f32⟩
  | .hbm, ⟨91, _⟩ => ⟨S8x4096x2816, .f32⟩
  | .hbm, ⟨92, _⟩ => ⟨S8x4096x2816, .f32⟩
  | .hbm, ⟨93, _⟩ => ⟨S1x1x2816, .f32⟩
  | .hbm, ⟨94, _⟩ => ⟨S8x4096x2816, .f32⟩
  | .hbm, ⟨95, _⟩ => ⟨S8x4096x2816, .f32⟩
  | .hbm, ⟨96, _⟩ => ⟨S8x4096x2816, .f32⟩
  | .hbm, ⟨97, _⟩ => ⟨S8x4096x2816, .f32⟩
  | .hbm, ⟨98, _⟩ => ⟨S_, .f32⟩
  | .hbm, ⟨99, _⟩ => ⟨S8x4096x2816, .f32⟩
  | .hbm, ⟨100, _⟩ => ⟨S8x4096x2816, .f32⟩
  | .hbm, ⟨101, _⟩ => ⟨S_, .f32⟩
  | .hbm, ⟨102, _⟩ => ⟨S8x4096x2816, .f32⟩
  | .hbm, ⟨103, _⟩ => ⟨S8x4096x2816, .f32⟩
  | .hbm, ⟨104, _⟩ => ⟨S8x4096x2816, .f32⟩
  | .hbm, ⟨105, _⟩ => ⟨S8x4096x2816, .f32⟩
  | .hbm, ⟨106, _⟩ => ⟨S2816x1024, .f32⟩
  | .hbm, ⟨107, _⟩ => ⟨S8x4096x1024, .f32⟩
  | .hbm, ⟨108, _⟩ => ⟨S8x4096x1024, .f32⟩
  | .hbm, ⟨109, _⟩ => ⟨S1024, .f32⟩
  | .hbm, ⟨110, _⟩ => ⟨S8x4096x1024, .f32⟩
  | .hbm, ⟨111, _⟩ => ⟨S_, .f32⟩
  | .hbm, ⟨112, _⟩ => ⟨S8x4096, .f32⟩
  | .hbm, ⟨113, _⟩ => ⟨S8x4096x1, .f32⟩
  | .hbm, ⟨114, _⟩ => ⟨S_, .f32⟩
  | .hbm, ⟨115, _⟩ => ⟨S8x4096x1, .f32⟩
  | .hbm, ⟨116, _⟩ => ⟨S8x4096x1, .f32⟩
  | .hbm, ⟨117, _⟩ => ⟨S_, .f32⟩
  | .hbm, ⟨118, _⟩ => ⟨S8x4096x1, .f32⟩
  | .hbm, ⟨119, _⟩ => ⟨S8x4096x1, .f32⟩
  | .hbm, ⟨120, _⟩ => ⟨S8x4096x1, .f32⟩
  | .hbm, ⟨121, _⟩ => ⟨S8x4096x1024, .f32⟩
  | .hbm, ⟨122, _⟩ => ⟨S8x4096x1024, .f32⟩
  | .hbm, ⟨123, _⟩ => ⟨S1x1x1024, .f32⟩
  | .hbm, ⟨124, _⟩ => ⟨S8x4096x1024, .f32⟩
  | .hbm, ⟨125, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_cst_0 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_1 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_2 : Ref sig .tc := ⟨.hbm, 50, rfl⟩
abbrev main_v35 : Ref sig .tc := ⟨.hbm, 51, rfl⟩
abbrev main_v36 : Ref sig .tc := ⟨.hbm, 52, rfl⟩
abbrev main_cst_3 : Ref sig .tc := ⟨.hbm, 53, rfl⟩
abbrev main_v37 : Ref sig .tc := ⟨.hbm, 54, rfl⟩
abbrev main_v38 : Ref sig .tc := ⟨.hbm, 55, rfl⟩
abbrev main_cst_4 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_c : Ref sig .tc := ⟨.hbm, 70, rfl⟩
abbrev main_call0_v0 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_call1_v0 : Ref sig .tc := ⟨.hbm, 96, rfl⟩
abbrev main_call1_v1 : Ref sig .tc := ⟨.hbm, 97, rfl⟩
abbrev main_call1_cst : Ref sig .tc := ⟨.hbm, 98, rfl⟩
abbrev main_call1_v2 : Ref sig .tc := ⟨.hbm, 99, rfl⟩
abbrev main_call1_v3 : Ref sig .tc := ⟨.hbm, 100, rfl⟩
abbrev main_call1_cst_0 : Ref sig .tc := ⟨.hbm, 101, rfl⟩
abbrev main_call1_v4 : Ref sig .tc := ⟨.hbm, 102, rfl⟩
abbrev main_call1_v5 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_cst_5 : Ref sig .tc := ⟨.hbm, 111, rfl⟩
abbrev main_v83 : Ref sig .tc := ⟨.hbm, 112, rfl⟩
abbrev main_v84 : Ref sig .tc := ⟨.hbm, 113, rfl⟩
abbrev main_cst_6 : Ref sig .tc := ⟨.hbm, 114, rfl⟩
abbrev main_v85 : Ref sig .tc := ⟨.hbm, 115, rfl⟩
abbrev main_v86 : Ref sig .tc := ⟨.hbm, 116, rfl⟩
abbrev main_cst_7 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩

abbrev nD : Nat := 1
abbrev τ : Topo := Topo.v7x

variable {F : FTy → Type} [FloatOps F]
-- ==== Kernel3.lean ====
abbrev S8x4096x1024 : Shape := ⟨3, ![8, 4096, 1024]⟩
abbrev S8x16x768x256 : Shape := ⟨4, ![8, 16, 768, 256]⟩
abbrev S8x4096x256 : Shape := ⟨3, ![8, 4096, 256]⟩
abbrev S2x8x256x1024 : Shape := ⟨4, ![2, 8, 256, 1024]⟩
abbrev S2x8x1024x256 : Shape := ⟨4, ![2, 8, 1024, 256]⟩
abbrev S2x1024x5632 : Shape := ⟨3, ![2, 1024, 5632]⟩
abbrev S2x2816x1024 : Shape := ⟨3, ![2, 2816, 1024]⟩
abbrev S1024x1024 : Shape := ⟨2, ![1024, 1024]⟩
abbrev S1x1024 : Shape := ⟨2, ![1, 1024]⟩
abbrev S3x2816 : Shape := ⟨2, ![3, 2816]⟩
abbrev S1x2816 : Shape := ⟨2, ![1, 2816]⟩
abbrev S1024x768 : Shape := ⟨2, ![1024, 768]⟩
abbrev S768x1024 : Shape := ⟨2, ![768, 1024]⟩
abbrev S1024x256 : Shape := ⟨2, ![1024, 256]⟩
abbrev S8x4096x768 : Shape := ⟨3, ![8, 4096, 768]⟩
abbrev S8x768x4096 : Shape := ⟨3, ![8, 768, 4096]⟩
abbrev S1x512x1024 : Shape := ⟨3, ![1, 512, 1024]⟩
abbrev S1x2x768x256 : Shape := ⟨4, ![1, 2, 768, 256]⟩
abbrev S1x512x256 : Shape := ⟨3, ![1, 512, 256]⟩
abbrev S1x1x256x1024 : Shape := ⟨4, ![1, 1, 256, 1024]⟩
abbrev S1x1x1024x256 : Shape := ⟨4, ![1, 1, 1024, 256]⟩
abbrev S1x1024x5632 : Shape := ⟨3, ![1, 1024, 5632]⟩
abbrev S1x2816x1024 : Shape := ⟨3, ![1, 2816, 1024]⟩
abbrev S1x512x768 : Shape := ⟨3, ![1, 512, 768]⟩
abbrev S1x768x512 : Shape := ⟨3, ![1, 768, 512]⟩
abbrev S8x2816 : Shape := ⟨2, ![8, 2816]⟩
abbrev S512x2816 : Shape := ⟨2, ![512, 2816]⟩
abbrev S512x256 : Shape := ⟨2, ![512, 256]⟩
abbrev S256x1024 : Shape := ⟨2, ![256, 1024]⟩
abbrev S512x1024 : Shape := ⟨2, ![512, 1024]⟩
abbrev S512 : Shape := ⟨1, ![512]⟩
abbrev S512x1 : Shape := ⟨2, ![512, 1]⟩
abbrev S1x1x768x256 : Shape := ⟨4, ![1, 1, 768, 256]⟩
abbrev S768x256 : Shape := ⟨2, ![768, 256]⟩
abbrev S1x1024x256 : Shape := ⟨3, ![1, 1024, 256]⟩
abbrev S8x256 : Shape := ⟨2, ![8, 256]⟩
abbrev S3x256 : Shape := ⟨2, ![3, 256]⟩
abbrev S1x256 : Shape := ⟨2, ![1, 256]⟩
abbrev S504x256 : Shape := ⟨2, ![504, 256]⟩
abbrev S2816x1024 : Shape := ⟨2, ![2816, 1024]⟩
abbrev S512x768 : Shape := ⟨2, ![512, 768]⟩
abbrev S768x512 : Shape := ⟨2, ![768, 512]⟩

abbrev nBuf : Space → Nat
  | .hbm => 22
  | .vmem => 34
  | .smem => 0
  | _ => 0

abbrev bufTy : (tb : Table) → Fin (tcTables nBuf tb) → BufTy
  | .hbm, ⟨0, _⟩ => ⟨S8x4096x1024, .f32⟩
  | .hbm, ⟨1, _⟩ => ⟨S8x16x768x256, .bf16⟩
  | .hbm, ⟨2, _⟩ => ⟨S8x4096x256, .bf16⟩
  | .hbm, ⟨3, _⟩ => ⟨S2x8x256x1024, .bf16⟩
  | .hbm, ⟨4, _⟩ => ⟨S2x8x1024x256, .bf16⟩
  | .hbm, ⟨5, _⟩ => ⟨S2x1024x5632, .bf16⟩
  | .hbm, ⟨6, _⟩ => ⟨S2x2816x1024, .bf16⟩
  | .hbm, ⟨7, _⟩ => ⟨S1024x1024, .bf16⟩
  | .hbm, ⟨8, _⟩ => ⟨S1x1024, .f32⟩
  | .hbm, ⟨9, _⟩ => ⟨S3x2816, .f32⟩
  | .hbm, ⟨10, _⟩ => ⟨S1x2816, .f32⟩
  | .hbm, ⟨11, _⟩ => ⟨S1x1024, .f32⟩
  | .hbm, ⟨12, _⟩ => ⟨S1024x768, .bf16⟩
  | .hbm, ⟨13, _⟩ => ⟨S768x1024, .bf16⟩
  | .hbm, ⟨14, _⟩ => ⟨S1x1024, .f32⟩
  | .hbm, ⟨15, _⟩ => ⟨S768x1024, .bf16⟩
  | .hbm, ⟨16, _⟩ => ⟨S1024x256, .bf16⟩
  | .hbm, ⟨17, _⟩ => ⟨S8x4096x1024, .f32⟩
  | .hbm, ⟨18, _⟩ => ⟨S8x4096x768, .bf16⟩
  | .hbm, ⟨19, _⟩ => ⟨S8x768x4096, .bf16⟩
  | .hbm, ⟨20, _⟩ => ⟨S8x16x768x256, .bf16⟩
  | .hbm, ⟨21, _⟩ => ⟨S8x4096x256, .bf16⟩
  | .local _ .vmem, ⟨0, _⟩ => ⟨S1x512x1024, .f32⟩
  | .local _ .vmem, ⟨1, _⟩ => ⟨S1x512x1024, .f32⟩
  | .local _ .vmem, ⟨2, _⟩ => ⟨S1x2x768x256, .bf16⟩
  | .local _ .vmem, ⟨3, _⟩ => ⟨S1x2x768x256, .bf16⟩
  | .local _ .vmem, ⟨4, _⟩ => ⟨S1x512x256, .bf16⟩
  | .local _ .vmem, ⟨5, _⟩ => ⟨S1x512x256, .bf16⟩
  | .local _ .vmem, ⟨6, _⟩ => ⟨S1x1x256x1024, .bf16⟩
  | .local _ .vmem, ⟨7, _⟩ => ⟨S1x1x256x1024, .bf16⟩
  | .local _ .vmem, ⟨8, _⟩ => ⟨S1x1x1024x256, .bf16⟩
  | .local _ .vmem, ⟨9, _⟩ => ⟨S1x1x1024x256, .bf16⟩
  | .local _ .vmem, ⟨10, _⟩ => ⟨S1x1024x5632, .bf16⟩
  | .local _ .vmem, ⟨11, _⟩ => ⟨S1x2816x1024, .bf16⟩
  | .local _ .vmem, ⟨12, _⟩ => ⟨S1024x1024, .bf16⟩
  | .local _ .vmem, ⟨13, _⟩ => ⟨S1x1024, .f32⟩
  | .local _ .vmem, ⟨14, _⟩ => ⟨S3x2816, .f32⟩
  | .local _ .vmem, ⟨15, _⟩ => ⟨S1x2816, .f32⟩
  | .local _ .vmem, ⟨16, _⟩ => ⟨S1x1024, .f32⟩
  | .local _ .vmem, ⟨17, _⟩ => ⟨S1024x768, .bf16⟩
  | .local _ .vmem, ⟨18, _⟩ => ⟨S768x1024, .bf16⟩
  | .local _ .vmem, ⟨19, _⟩ => ⟨S1x1024, .f32⟩
  | .local _ .vmem, ⟨20, _⟩ => ⟨S768x1024, .bf16⟩
  | .local _ .vmem, ⟨21, _⟩ => ⟨S1024x256, .bf16⟩
  | .local _ .vmem, ⟨22, _⟩ => ⟨S1x512x1024, .f32⟩
  | .local _ .vmem, ⟨23, _⟩ => ⟨S1x512x1024, .f32⟩
  | .local _ .vmem, ⟨24, _⟩ => ⟨S1x512x768, .bf16⟩
  | .local _ .vmem, ⟨25, _⟩ => ⟨S1x512x768, .bf16⟩
  | .local _ .vmem, ⟨26, _⟩ => ⟨S1x768x512, .bf16⟩
  | .local _ .vmem, ⟨27, _⟩ => ⟨S1x768x512, .bf16⟩
  | .local _ .vmem, ⟨28, _⟩ => ⟨S1x2x768x256, .bf16⟩
  | .local _ .vmem, ⟨29, _⟩ => ⟨S1x2x768x256, .bf16⟩
  | .local _ .vmem, ⟨30, _⟩ => ⟨S1x512x256, .bf16⟩
  | .local _ .vmem, ⟨31, _⟩ => ⟨S1x512x256, .bf16⟩
  | .local _ .vmem, ⟨32, _⟩ => ⟨S8x2816, .f32⟩
  | .local _ .vmem, ⟨33, _⟩ => ⟨S512x2816, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0_0 : Ref sig .tc := ⟨.hbm, 17, rfl⟩
abbrev main_v0_1 : Ref sig .tc := ⟨.hbm, 18, rfl⟩
abbrev main_v0_2 : Ref sig .tc := ⟨.hbm, 19, rfl⟩
abbrev main_v0_3 : Ref sig .tc := ⟨.hbm, 20, rfl⟩
abbrev main_v0_4 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_stg20_0 : Ref sig .tc := ⟨.vmem, 28, rfl⟩
abbrev cc0_stg20_1 : Ref sig .tc := ⟨.vmem, 29, rfl⟩
abbrev cc0_stg21_0 : Ref sig .tc := ⟨.vmem, 30, rfl⟩
abbrev cc0_stg21_1 : Ref sig .tc := ⟨.vmem, 31, rfl⟩
abbrev cc0_scratch0 : Ref sig .tc := ⟨.vmem, 32, rfl⟩
abbrev cc0_scratch1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem17_1 : DmaSem sig := 23
abbrev cc0_sem18_0 : DmaSem sig := 24
abbrev cc0_sem18_1 : DmaSem sig := 25
abbrev cc0_sem19_0 : DmaSem sig := 26
abbrev cc0_sem19_1 : DmaSem sig := 27
abbrev cc0_sem20_0 : DmaSem sig := 28
abbrev cc0_sem20_1 : DmaSem sig := 29
abbrev cc0_sem21_0 : DmaSem sig := 30
abbrev cc0_sem21_1 : DmaSem sig := 31

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_20 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x768x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S3x2816 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x2816 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x768 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S768x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S768x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1024x256 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S1x512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x768 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x768x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x2x768x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x512x256 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]
-- ==== Reference3Ideal.lean ====
abbrev S8x4096x1024 : Shape := ⟨3, ![8, 4096, 1024]⟩
abbrev S8x16x768x256 : Shape := ⟨4, ![8, 16, 768, 256]⟩
abbrev S8x4096x256 : Shape := ⟨3, ![8, 4096, 256]⟩
abbrev S2x8x256x1024 : Shape := ⟨4, ![2, 8, 256, 1024]⟩
abbrev S2x8x1024x256 : Shape := ⟨4, ![2, 8, 1024, 256]⟩
abbrev S2x1024x5632 : Shape := ⟨3, ![2, 1024, 5632]⟩
abbrev S2x2816x1024 : Shape := ⟨3, ![2, 2816, 1024]⟩
abbrev S1024x1024 : Shape := ⟨2, ![1024, 1024]⟩
abbrev S1x1024 : Shape := ⟨2, ![1, 1024]⟩
abbrev S3x2816 : Shape := ⟨2, ![3, 2816]⟩
abbrev S1x2816 : Shape := ⟨2, ![1, 2816]⟩
abbrev S1024x768 : Shape := ⟨2, ![1024, 768]⟩
abbrev S768x1024 : Shape := ⟨2, ![768, 1024]⟩
abbrev S1024x256 : Shape := ⟨2, ![1024, 256]⟩
abbrev S1x8x256x1024 : Shape := ⟨4, ![1, 8, 256, 1024]⟩
abbrev S8x256x1024 : Shape := ⟨3, ![8, 256, 1024]⟩
abbrev S1x8x1024x256 : Shape := ⟨4, ![1, 8, 1024, 256]⟩
abbrev S8x1024x256 : Shape := ⟨3, ![8, 1024, 256]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S8x16x256x768 : Shape := ⟨4, ![8, 16, 256, 768]⟩
abbrev S8x4096x768 : Shape := ⟨3, ![8, 4096, 768]⟩
abbrev S8x4096x4x256 : Shape := ⟨4, ![8, 4096, 4, 256]⟩
abbrev S_ : Shape := ⟨0, ![]⟩
abbrev S8x4096x4 : Shape := ⟨3, ![8, 4096, 4]⟩
abbrev S8x4096x4x1 : Shape := ⟨4, ![8, 4096, 4, 1]⟩
abbrev S1024 : Shape := ⟨1, ![1024]⟩
abbrev S8x4096 : Shape := ⟨2, ![8, 4096]⟩
abbrev S8x4096x1 : Shape := ⟨3, ![8, 4096, 1]⟩
abbrev S1x1x1024 : Shape := ⟨3, ![1, 1, 1024]⟩
abbrev S8x4096x5632 : Shape := ⟨3, ![8, 4096, 5632]⟩
abbrev S8x4096x2816 : Shape := ⟨3, ![8, 4096, 2816]⟩
abbrev S2816 : Shape := ⟨1, ![2816]⟩
abbrev S8x4098x2816 : Shape := ⟨3, ![8, 4098, 2816]⟩
abbrev S1x1x2816 : Shape := ⟨3, ![1, 1, 2816]⟩
abbrev S8x768x4096 : Shape := ⟨3, ![8, 768, 4096]⟩

abbrev nBuf : Space → Nat
  | .hbm => 165
  | .vmem => 0
  | .smem => 0
  | _ => 0

abbrev hbmTy0_0 (i : Nat) : BufTy := match i % 128 with
  | 0 => ⟨S8x4096x1024, .f32⟩
  | 1 => ⟨S8x16x768x256, .bf16⟩
  | 2 => ⟨S8x4096x256, .bf16⟩
  | 3 => ⟨S2x8x256x1024, .bf16⟩
  | 4 => ⟨S2x8x1024x256, .bf16⟩
  | 5 => ⟨S2x1024x5632, .bf16⟩
  | 6 => ⟨S2x2816x1024, .bf16⟩
  | 7 => ⟨S1024x1024, .bf16⟩
  | 8 => ⟨S1x1024, .f32⟩
  | 9 => ⟨S3x2816, .f32⟩
  | 10 => ⟨S1x2816, .f32⟩
  | 11 => ⟨S1x1024, .f32⟩
  | 12 => ⟨S1024x768, .bf16⟩
  | 13 => ⟨S768x1024, .bf16⟩
  | 14 => ⟨S1x1024, .f32⟩
  | 15 => ⟨S768x1024, .bf16⟩
  | 16 => ⟨S1024x256, .bf16⟩
  | 17 => ⟨S1x8x256x1024, .bf16⟩
  | 18 => ⟨S8x256x1024, .bf16⟩
  | 19 => ⟨S1x8x1024x256, .bf16⟩
  | 20 => ⟨S8x1024x256, .bf16⟩
  | 21 => ⟨S1x1024x5632, .bf16⟩
  | 22 => ⟨S1024x5632, .bf16⟩
  | 23 => ⟨S1x2816x1024, .bf16⟩
  | 24 => ⟨S2816x1024, .bf16⟩
  | 25 => ⟨S8x16x768x256, .f32⟩
  | 26 => ⟨S8x16x256x768, .f32⟩
  | 27 => ⟨S8x4096x768, .f32⟩
  | 28 => ⟨S8x4096x256, .f32⟩
  | 29 => ⟨S8x256x1024, .f32⟩
  | 30 => ⟨S8x4096x1024, .f32⟩
  | 31 => ⟨S8x4096x4x256, .f32⟩
  | 32 => ⟨S_, .f32⟩
  | 33 => ⟨S8x4096x4, .f32⟩
  | 34 => ⟨S_, .f32⟩
  | 35 => ⟨S8x4096x4, .f32⟩
  | 36 => ⟨S8x4096x4, .f32⟩
  | 37 => ⟨S8x4096x4x1, .f32⟩
  | 38 => ⟨S8x4096x4x256, .f32⟩
  | 39 => ⟨S8x4096x4x256, .f32⟩
  | 40 => ⟨S8x4096x4x256, .f32⟩
  | 41 => ⟨S_, .f32⟩
  | 42 => ⟨S8x4096x4, .f32⟩
  | 43 => ⟨S8x4096x4x1, .f32⟩
  | 44 => ⟨S8x4096x4x256, .f32⟩
  | 45 => ⟨S8x4096x4x256, .f32⟩
  | 46 => ⟨S8x4096x1024, .f32⟩
  | 47 => ⟨S8x1024x256, .f32⟩
  | 48 => ⟨S8x4096x256, .f32⟩
  | 49 => ⟨S8x4096x1024, .f32⟩
  | 50 => ⟨S1024x1024, .f32⟩
  | 51 => ⟨S8x4096x1024, .f32⟩
  | 52 => ⟨S8x4096x1024, .f32⟩
  | 53 => ⟨S1024, .f32⟩
  | 54 => ⟨S8x4096x1024, .f32⟩
  | 55 => ⟨S_, .f32⟩
  | 56 => ⟨S8x4096, .f32⟩
  | 57 => ⟨S8x4096x1, .f32⟩
  | 58 => ⟨S_, .f32⟩
  | 59 => ⟨S8x4096x1, .f32⟩
  | 60 => ⟨S8x4096x1, .f32⟩
  | 61 => ⟨S_, .f32⟩
  | 62 => ⟨S8x4096x1, .f32⟩
  | 63 => ⟨S8x4096x1, .f32⟩
  | 64 => ⟨S8x4096x1, .f32⟩
  | 65 => ⟨S8x4096x1024, .f32⟩
  | 66 => ⟨S8x4096x1024, .f32⟩
  | 67 => ⟨S1x1x1024, .f32⟩
  | 68 => ⟨S8x4096x1024, .f32⟩
  | 69 => ⟨S8x4096x1024, .f32⟩
  | 70 => ⟨S1024x5632, .f32⟩
  | 71 => ⟨S8x4096x5632, .f32⟩
  | 72 => ⟨S8x4096x2816, .f32⟩
  | 73 => ⟨S8x4096x2816, .f32⟩
  | 74 => ⟨S2816, .f32⟩
  | 75 => ⟨S_, .i32⟩
  | 76 => ⟨S_, .f32⟩
  | 77 => ⟨S8x4098x2816, .f32⟩
  | 78 => ⟨S8x4096x2816, .f32⟩
  | 79 => ⟨S1x2816, .f32⟩
  | 80 => ⟨S2816, .f32⟩
  | 81 => ⟨S1x1x2816, .f32⟩
  | 82 => ⟨S8x4096x2816, .f32⟩
  | 83 => ⟨S8x4096x2816, .f32⟩
  | 84 => ⟨S8x4096x2816, .f32⟩
  | 85 => ⟨S1x2816, .f32⟩
  | 86 => ⟨S2816, .f32⟩
  | 87 => ⟨S1x1x2816, .f32⟩
  | 88 => ⟨S8x4096x2816, .f32⟩
  | 89 => ⟨S8x4096x2816, .f32⟩
  | 90 => ⟨S8x4096x2816, .f32⟩
  | 91 => ⟨S8x4096x2816, .f32⟩
  | 92 => ⟨S1x2816, .f32⟩
  | 93 => ⟨S2816, .f32⟩
  | 94 => ⟨S1x1x2816, .f32⟩
  | 95 => ⟨S8x4096x2816, .f32⟩
  | 96 => ⟨S8x4096x2816, .f32⟩
  | 97 => ⟨S8x4096x2816, .f32⟩
  | 98 => ⟨S1x1x2816, .f32⟩
  | 99 => ⟨S8x4096x2816, .f32⟩
  | 100 => ⟨S8x4096x2816, .f32⟩
  | 101 => ⟨S8x4096x2816, .f32⟩
  | 102 => ⟨S8x4096x2816, .f32⟩
  | 103 => ⟨S_, .f32⟩
  | 104 => ⟨S8x4096x2816, .f32⟩
  | 105 => ⟨S8x4096x2816, .f32⟩
  | 106 => ⟨S_, .f32⟩
  | 107 => ⟨S8x4096x2816, .f32⟩
  | 108 => ⟨S8x4096x2816, .f32⟩
  | 109 => ⟨S8x4096x2816, .f32⟩
  | 110 => ⟨S8x4096x2816, .f32⟩
  | 111 => ⟨S2816x1024, .f32⟩
  | 112 => ⟨S8x4096x1024, .f32⟩
  | 113 => ⟨S8x4096x1024, .f32⟩
  | 114 => ⟨S1024, .f32⟩
  | 115 => ⟨S8x4096x1024, .f32⟩
  | 116 => ⟨S_, .f32⟩
  | 117 => ⟨S8x4096, .f32⟩
  | 118 => ⟨S8x4096x1, .f32⟩
  | 119 => ⟨S_, .f32⟩
  | 120 => ⟨S8x4096x1, .f32⟩
  | 121 => ⟨S8x4096x1, .f32⟩
  | 122 => ⟨S_, .f32⟩
  | 123 => ⟨S8x4096x1, .f32⟩
  | 124 => ⟨S8x4096x1, .f32⟩
  | 125 => ⟨S8x4096x1, .f32⟩
  | 126 => ⟨S8x4096x1024, .f32⟩
  | 127 => ⟨S8x4096x1024, .f32⟩
  | _ => ⟨S8x4096x1024, .f32⟩

abbrev hbmTy0_1 (i : Nat) : BufTy := match i % 128 with
  | 0 => ⟨S1x1x1024, .f32⟩
  | 1 => ⟨S8x4096x1024, .f32⟩
  | 2 => ⟨S8x4096x1024, .f32⟩
  | 3 => ⟨S1024, .f32⟩
  | 4 => ⟨S8x4096x1024, .f32⟩
  | 5 => ⟨S_, .f32⟩
  | 6 => ⟨S8x4096, .f32⟩
  | 7 => ⟨S8x4096x1, .f32⟩
  | 8 => ⟨S_, .f32⟩
  | 9 => ⟨S8x4096x1, .f32⟩
  | 10 => ⟨S8x4096x1, .f32⟩
  | 11 => ⟨S_, .f32⟩
  | 12 => ⟨S8x4096x1, .f32⟩
  | 13 => ⟨S8x4096x1, .f32⟩
  | 14 => ⟨S8x4096x1, .f32⟩
  | 15 => ⟨S8x4096x1024, .f32⟩
  | 16 => ⟨S8x4096x1024, .f32⟩
  | 17 => ⟨S1x1x1024, .f32⟩
  | 18 => ⟨S8x4096x1024, .f32⟩
  | 19 => ⟨S8x4096x1024, .f32⟩
  | 20 => ⟨S1024x768, .f32⟩
  | 21 => ⟨S8x4096x768, .f32⟩
  | 22 => ⟨S8x4096x768, .bf16⟩
  | 23 => ⟨S768x1024, .f32⟩
  | 24 => ⟨S1024x768, .f32⟩
  | 25 => ⟨S8x4096x768, .f32⟩
  | 26 => ⟨S8x4096x768, .bf16⟩
  | 27 => ⟨S8x768x4096, .bf16⟩
  | 28 => ⟨S768x1024, .f32⟩
  | 29 => ⟨S1024x768, .f32⟩
  | 30 => ⟨S8x4096x768, .f32⟩
  | 31 => ⟨S8x4096x768, .bf16⟩
  | 32 => ⟨S8x16x256x768, .bf16⟩
  | 33 => ⟨S8x16x768x256, .bf16⟩
  | 34 => ⟨S1024x256, .f32⟩
  | 35 => ⟨S8x4096x256, .f32⟩
  | 36 => ⟨S8x4096x256, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst : Ref sig .tc := ⟨.hbm, 32, rfl⟩
abbrev main_v15 : Ref sig .tc := ⟨.hbm, 33, rfl⟩
abbrev main_cst_0 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_1 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_2 : Ref sig .tc := ⟨.hbm, 55, rfl⟩
abbrev main_v35 : Ref sig .tc := ⟨.hbm, 56, rfl⟩
abbrev main_v36 : Ref sig .tc := ⟨.hbm, 57, rfl⟩
abbrev main_cst_3 : Ref sig .tc := ⟨.hbm, 58, rfl⟩
abbrev main_v37 : Ref sig .tc := ⟨.hbm, 59, rfl⟩
abbrev main_v38 : Ref sig .tc := ⟨.hbm, 60, rfl⟩
abbrev main_cst_4 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_c : Ref sig .tc := ⟨.hbm, 75, rfl⟩
abbrev main_call0_v0 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_call1_v0 : Ref sig .tc := ⟨.hbm, 101, rfl⟩
abbrev main_call1_v1 : Ref sig .tc := ⟨.hbm, 102, rfl⟩
abbrev main_call1_cst : Ref sig .tc := ⟨.hbm, 103, rfl⟩
abbrev main_call1_v2 : Ref sig .tc := ⟨.hbm, 104, rfl⟩
abbrev main_call1_v3 : Ref sig .tc := ⟨.hbm, 105, rfl⟩
abbrev main_call1_cst_0 : Ref sig .tc := ⟨.hbm, 106, rfl⟩
abbrev main_call1_v4 : Ref sig .tc := ⟨.hbm, 107, rfl⟩
abbrev main_call1_v5 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_cst_5 : Ref sig .tc := ⟨.hbm, 116, rfl⟩
abbrev main_v83 : Ref sig .tc := ⟨.hbm, 117, rfl⟩
abbrev main_v84 : Ref sig .tc := ⟨.hbm, 118, rfl⟩
abbrev main_cst_6 : Ref sig .tc := ⟨.hbm, 119, rfl⟩
abbrev main_v85 : Ref sig .tc := ⟨.hbm, 120, rfl⟩
abbrev main_v86 : Ref sig .tc := ⟨.hbm, 121, rfl⟩
abbrev main_cst_7 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_cst_8 : Ref sig .tc := ⟨.hbm, 133, rfl⟩
abbrev main_v97 : Ref sig .tc := ⟨.hbm, 134, rfl⟩
abbrev main_v98 : Ref sig .tc := ⟨.hbm, 135, rfl⟩
abbrev main_cst_9 : Ref sig .tc := ⟨.hbm, 136, rfl⟩
abbrev main_v99 : Ref sig .tc := ⟨.hbm, 137, rfl⟩
abbrev main_v100 : Ref sig .tc := ⟨.hbm, 138, rfl⟩
abbrev main_cst_10 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩

abbrev nD : Nat := 1
abbrev τ : Topo := Topo.v7x

variable {F : FTy → Type} [FloatOps F]
-- ==== Kernel4.lean ====
abbrev S8x256x1024 : Shape := ⟨3, ![8, 256, 1024]⟩
abbrev S2x1024x512 : Shape := ⟨3, ![2, 1024, 512]⟩
abbrev S2x8x256x1024 : Shape := ⟨4, ![2, 8, 256, 1024]⟩
abbrev S2x8x1024x256 : Shape := ⟨4, ![2, 8, 1024, 256]⟩
abbrev S1x256x1024 : Shape := ⟨3, ![1, 256, 1024]⟩
abbrev S1x1024x512 : Shape := ⟨3, ![1, 1024, 512]⟩
abbrev S1x1x256x1024 : Shape := ⟨4, ![1, 1, 256, 1024]⟩
abbrev S1x1x1024x256 : Shape := ⟨4, ![1, 1, 1024, 256]⟩
abbrev S256x1024 : Shape := ⟨2, ![256, 1024]⟩
abbrev S1024x512 : Shape := ⟨2, ![1024, 512]⟩
abbrev S1024x256 : Shape := ⟨2, ![1024, 256]⟩
abbrev S256x256 : Shape := ⟨2, ![256, 256]⟩

abbrev nBuf : Space → Nat
  | .hbm => 4
  | .vmem => 8
  | .smem => 0
  | _ => 0

abbrev bufTy : (tb : Table) → Fin (tcTables nBuf tb) → BufTy
  | .hbm, ⟨0, _⟩ => ⟨S8x256x1024, .f32⟩
  | .hbm, ⟨1, _⟩ => ⟨S2x1024x512, .f32⟩
  | .hbm, ⟨2, _⟩ => ⟨S2x8x256x1024, .bf16⟩
  | .hbm, ⟨3, _⟩ => ⟨S2x8x1024x256, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024x512, .f32⟩
  | .local _ .vmem, ⟨3, _⟩ => ⟨S1x1024x512, .f32⟩
  | .local _ .vmem, ⟨4, _⟩ => ⟨S1x1x256x1024, .bf16⟩
  | .local _ .vmem, ⟨5, _⟩ => ⟨S1x1x256x1024, .bf16⟩
  | .local _ .vmem, ⟨6, _⟩ => ⟨S1x1x1024x256, .bf16⟩
  | .local _ .vmem, ⟨7, _⟩ => ⟨S1x1x1024x256, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S8x256x1024 : Shape := ⟨3, ![8, 256, 1024]⟩
abbrev S2x1024x512 : Shape := ⟨3, ![2, 1024, 512]⟩
abbrev S2x512x8x256 : Shape := ⟨4, ![2, 512, 8, 256]⟩
abbrev S2x8x256x512 : Shape := ⟨4, ![2, 8, 256, 512]⟩
abbrev S2x8x256x256 : Shape := ⟨4, ![2, 8, 256, 256]⟩
abbrev S2x8x256x4x64 : Shape := ⟨5, ![2, 8, 256, 4, 64]⟩
abbrev S4x4 : Shape := ⟨2, ![4, 4]⟩
abbrev S4x1x4x1 : Shape := ⟨4, ![4, 1, 4, 1]⟩
abbrev S2x8x4x64x256 : Shape := ⟨5, ![2, 8, 4, 64, 256]⟩
abbrev S2x8x4x64x1x256 : Shape := ⟨6, ![2, 8, 4, 64, 1, 256]⟩
abbrev S_ : Shape := ⟨0, ![]⟩
abbrev S2x8x4x64x4x256 : Shape := ⟨6, ![2, 8, 4, 64, 4, 256]⟩
abbrev S2x8x4x256x64 : Shape := ⟨5, ![2, 8, 4, 256, 64]⟩
abbrev S2x8x4x256x1x64 : Shape := ⟨6, ![2, 8, 4, 256, 1, 64]⟩
abbrev S2x8x4x256x4x64 : Shape := ⟨6, ![2, 8, 4, 256, 4, 64]⟩
abbrev S2x8x256x1024 : Shape := ⟨4, ![2, 8, 256, 1024]⟩
abbrev S2x8x1024x256 : Shape := ⟨4, ![2, 8, 1024, 256]⟩

abbrev nBuf : Space → Nat
  | .hbm => 34
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S2x1024x512, .f32⟩
  | .hbm, ⟨2, _⟩ => ⟨S2x512x8x256, .f32⟩
  | .hbm, ⟨3, _⟩ => ⟨S2x8x256x512, .f32⟩
  | .hbm, ⟨4, _⟩ => ⟨S2x8x256x256, .f32⟩
  | .hbm, ⟨5, _⟩ => ⟨S2x8x256x256, .f32⟩
  | .hbm, ⟨6, _⟩ => ⟨S2x8x256x4x64, .f32⟩
  | .hbm, ⟨7, _⟩ => ⟨S2x8x256x4x64, .f32⟩
  | .hbm, ⟨8, _⟩ => ⟨S4x4, .i32⟩
  | .hbm, ⟨9, _⟩ => ⟨S4x4, .i32⟩
  | .hbm, ⟨10, _⟩ => ⟨S4x4, .i1⟩
  | .hbm, ⟨11, _⟩ => ⟨S4x1x4x1, .i1⟩
  | .hbm, ⟨12, _⟩ => ⟨S2x8x4x64x256, .f32⟩
  | .hbm, ⟨13, _⟩ => ⟨S2x8x4x64x1x256, .f32⟩
  | .hbm, ⟨14, _⟩ => ⟨S_, .f32⟩
  | .hbm, ⟨15, _⟩ => ⟨S_, .f32⟩
  | .hbm, ⟨16, _⟩ => ⟨S2x8x4x64x4x256, .i1⟩
  | .hbm, ⟨17, _⟩ => ⟨S2x8x4x64x4x256, .f32⟩
  | .hbm, ⟨18, _⟩ => ⟨S2x8x4x64x4x256, .f32⟩
  | .hbm, ⟨19, _⟩ => ⟨S2x8x4x64x4x256, .f32⟩
  | .hbm, ⟨20, _⟩ => ⟨S4x4, .i1⟩
  | .hbm, ⟨21, _⟩ => ⟨S4x1x4x1, .i1⟩
  | .hbm, ⟨22, _⟩ => ⟨S2x8x4x256x64, .f32⟩
  | .hbm, ⟨23, _⟩ => ⟨S2x8x4x256x1x64, .f32⟩
  | .hbm, ⟨24, _⟩ => ⟨S_, .f32⟩
  | .hbm, ⟨25, _⟩ => ⟨S_, .f32⟩
  | .hbm, ⟨26, _⟩ => ⟨S2x8x4x256x4x64, .i1⟩
  | .hbm, ⟨27, _⟩ => ⟨S2x8x4x256x4x64, .f32⟩
  | .hbm, ⟨28, _⟩ => ⟨S2x8x4x256x4x64, .f32⟩
  | .hbm, ⟨29, _⟩ => ⟨S2x8x4x256x4x64, .f32⟩
  | .hbm, ⟨30, _⟩ => ⟨S2x8x256x1024, .f32⟩
  | .hbm, ⟨31, _⟩ => ⟨S2x8x256x1024, .bf16⟩
  | .hbm, ⟨32, _⟩ => ⟨S2x8x1024x256, .f32⟩
  | .hbm, ⟨33, _⟩ => ⟨S2x8x1024x256, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]
-- ==== Proof.Vocab.lean ====
/-
  What the attention kernel computes for one pair of heads, as one function of what it loads: the scores of a tile of 768 keys
  against both heads' 256 queries, the softmax weights of each group of 128 queries over its window of 640 keys, and the two
  heads' results. The printed body repeats this text for six pairs of heads and two window layouts (`off`).
-/
module

public import proofs.«01_k».proof.Proof.Gen.KernelIdeal

@[expose] public section

set_option maxRecDepth 16384

noncomputable section

namespace Cert.KernelIdeal.Pair

open Cert.KernelIdeal Cert.KernelIdeal.Gen Cert.KernelIdeal.Facts Idealize.ShloMosaic

variable {F : FTy → Type} [FloatOps F] [Named F]

/-- The first row of the window of column group `g` in the tile: the second group of each head starts 128 rows down when `off`. -/
abbrev row0 (off : Bool) (g : Fin 4) : Nat := match off, g with
  | true, 1 => 128
  | true, 3 => 128
  | _, _ => 0

theorem slices_blk (off : Bool) (g : Fin 4) (n : Fin 10) : S768x512.Slices ![row0 off g + 64 * n.val, 128 * g.val] S64x128 := by
  revert off g n; decide

/-- The score tile's block of 64 keys, number `n` of group `g`'s window. -/
def blk (off : Bool) (t : FVec F S768x512 .f32) (g : Fin 4) (n : Fin 10) : FVec F S64x128 .f32 :=
  extractStridedSlice S64x128 ![row0 off g + 64 * n.val, 128 * g.val] t (slices_blk off g n)

/-- The queries of the first head of the pair in the left half, those of the second head in the right half, zero elsewhere. -/
def queries (q : FVec F S1x1x128x256 .bf16) : FVec F S128x512 .bf16 :=
  let it : IVec S128x256 32 := iota .tc S128x256 32 [0] iota_S128x256_d0_w32
  let x : FVec F S128x256 .bf16 := shapeCast S128x256 q shapeCasts_S1x1x128x256_S128x256
  let z : FVec F S128x256 .bf16 := broadcast S128x256 (Scalar.ofBits .bf16 0x0000#16)
  concatenate S128x512 1 [⟨S128x256, select (cmpi .slt it (broadcast S128x256 64#32)) x z⟩,
    ⟨S128x256, select (cmpi .sge it (broadcast S128x256 64#32)) x z⟩] concatenates_S128x256_S128x256_S128x512_d1

/-- A window's 640 rows `x` in the tile's 768, the other 128 rows filled with `z`: after the window, or before it when `off`. -/
def pad {α : FTy} (off : Bool) (x : FVec F S640x128 α) (z : FVec F S128x128 α) : FVec F S768x128 α :=
  match off with
  | true => concatenate S768x128 0 [⟨S128x128, z⟩, ⟨S640x128, x⟩] concatenates_S128x128_S640x128_S768x128_d0
  | false => concatenate S768x128 0 [⟨S640x128, x⟩, ⟨S128x128, z⟩] concatenates_S640x128_S128x128_S768x128_d0

/-- The mask's rows: what the named constant is. -/
def masked : FVec F S128x128 .f32 := broadcast S128x128 (Named.named κ "mask" 0xF149F2CA#32)

/-- Rows of zero weights. -/
def zeros : FVec F S128x128 .bf16 := broadcast S128x128 (Scalar.ofBits .bf16 0x0000#16)

/-- A window of the bias table as a matrix. -/
def sq (b : FVec F S1x640x128 .f32) : FVec F S640x128 .f32 := shapeCast S640x128 b shapeCasts_S1x640x128_S640x128

/-- The tile of scores plus bias: 768 keys by four groups of 128 queries (first head's two, second head's two). -/
def tile (off : Bool) (k : FVec F S1x768x128 .bf16) (q : FVec F S1x1x128x256 .bf16) (b0 b1 b2 b3 : FVec F S1x640x128 .f32) :
    FVec F S768x512 .f32 :=
  addf (matmul dot_S768x128_S128x512_S768x512_1_0_0_1_n_n none (shapeCast S768x128 k shapeCasts_S1x768x128_S768x128) (queries q)
      (constant S768x512 .f32 0x00000000#32))
    (concatenate S768x512 1 [⟨S768x128, pad false (sq b0) masked⟩, ⟨S768x128, pad off (sq b1) masked⟩,
      ⟨S768x128, pad false (sq b2) masked⟩, ⟨S768x128, pad off (sq b3) masked⟩]
      concatenates_S768x128_S768x128_S768x128_S768x128_S768x512_d1)

/-- Each query's largest score over its window. -/
def top (b : Fin 10 → FVec F S64x128 .f32) : FVec F S1x128 .f32 :=
  shapeCast S1x128 (multiReduction .maximumf [0] S128 (maximumf (maximumf (maximumf (maximumf (maximumf (maximumf (maximumf (maximumf
    (maximumf (b 0) (b 1)) (b 2)) (b 3)) (b 4)) (b 5)) (b 6)) (b 7)) (b 8)) (b 9)) 0xFF800000#32 reduces_S64x128_S128 (.inl rfl) rfl)
    shapeCasts_S128_S1x128

/-- The exponentials of one block of 64 keys. -/
def ex (b : Fin 10 → FVec F S64x128 .f32) (n : Fin 10) : FVec F S64x128 .f32 :=
  exp (subf (b n) (broadcastTo S64x128 (top b) broadcasts_S1x128_S64x128))

/-- The exponentials of the window, as weights. -/
def weights (b : Fin 10 → FVec F S64x128 .f32) : FVec F S640x128 .bf16 :=
  let w (n : Fin 10) : FVec F S64x128 .bf16 := truncf .bf16 (ex b n) bitsLt_bf16_f32
  concatenate S640x128 0 [⟨S64x128, w 0⟩, ⟨S64x128, w 1⟩, ⟨S64x128, w 2⟩, ⟨S64x128, w 3⟩, ⟨S64x128, w 4⟩, ⟨S64x128, w 5⟩,
    ⟨S64x128, w 6⟩, ⟨S64x128, w 7⟩, ⟨S64x128, w 8⟩, ⟨S64x128, w 9⟩]
    concatenates_S64x128_S64x128_S64x128_S64x128_S64x128_S64x128_S64x128_S64x128_S64x128_S64x128_S640x128_d0

/-- Each query's sum of exponentials. -/
def total (b : Fin 10 → FVec F S64x128 .f32) : FVec F S1x128 .f32 :=
  shapeCast S1x128 (multiReduction .add [0] S128 (addf (addf (addf (addf (addf (addf (addf (addf
    (addf (ex b 0) (ex b 1)) (ex b 2)) (ex b 3)) (ex b 4)) (ex b 5)) (ex b 6)) (ex b 7)) (ex b 8)) (ex b 9)) 0x00000000#32
    reduces_S64x128_S128 (.inl rfl) rfl) shapeCasts_S128_S1x128

/-- The weights of the four groups, each in its window's rows of the tile. -/
def allWeights (off : Bool) (t : FVec F S768x512 .f32) : FVec F S768x512 .bf16 :=
  concatenate S768x512 1 [⟨S768x128, pad false (weights (blk off t 0)) zeros⟩, ⟨S768x128, pad off (weights (blk off t 1)) zeros⟩,
    ⟨S768x128, pad false (weights (blk off t 2)) zeros⟩, ⟨S768x128, pad off (weights (blk off t 3)) zeros⟩]
    concatenates_S768x128_S768x128_S768x128_S768x128_S768x512_d1

/-- One over each query's sum. -/
def inverse (off : Bool) (t : FVec F S768x512 .f32) : FVec F S1x512 .f32 :=
  divf (broadcast S1x512 (Scalar.ofBits .f32 0x3F800000#32)) (concatenate S1x512 1 [⟨S1x128, total (blk off t 0)⟩, ⟨S1x128, total (blk off t 1)⟩,
    ⟨S1x128, total (blk off t 2)⟩, ⟨S1x128, total (blk off t 3)⟩] concatenates_S1x128_S1x128_S1x128_S1x128_S1x512_d1)

/-- The values' rows of both heads times the weights. -/
def product (off : Bool) (t : FVec F S768x512 .f32) (v : FVec F S1x128x768 .bf16) : FVec F S128x512 .f32 :=
  matmul dot_S128x768_S768x512_S128x512_1_0_0_1_n_n none (shapeCast S128x768 v shapeCasts_S1x128x768_S128x768) (allWeights off t)
    (constant S128x512 .f32 0x00000000#32)

/-- The first head's result. -/
def first (off : Bool) (t : FVec F S768x512 .f32) (v : FVec F S1x128x768 .bf16) : FVec F S1x1x64x256 .bf16 :=
  shapeCast S1x1x64x256 (truncf .bf16 (mulf (extractStridedSlice S64x256 ![0, 0] (product off t v) slices_S128x512_o0_0_S64x256)
    (broadcastTo S64x256 (extractStridedSlice S1x256 ![0, 0] (inverse off t) slices_S1x512_o0_0_S1x256) broadcasts_S1x256_S64x256))
    bitsLt_bf16_f32) shapeCasts_S64x256_S1x1x64x256

/-- The second head's result. -/
def second (off : Bool) (t : FVec F S768x512 .f32) (v : FVec F S1x128x768 .bf16) : FVec F S1x1x64x256 .bf16 :=
  shapeCast S1x1x64x256 (truncf .bf16 (mulf (extractStridedSlice S64x256 ![64, 256] (product off t v) slices_S128x512_o64_256_S64x256)
    (broadcastTo S64x256 (extractStridedSlice S1x256 ![0, 256] (inverse off t) slices_S1x512_o0_256_S1x256) broadcasts_S1x256_S64x256))
    bitsLt_bf16_f32) shapeCasts_S64x256_S1x1x64x256

end Cert.KernelIdeal.Pair

end
-- ==== Proof.KernelIdealRunA.lean ====
/-
  One run of the body of the idealized kernel: the first two tiles of a sequence (the window starts at the first key).
-/
module

public import proofs.«01_k».proof.Proof.Gen.KernelIdeal.Frame.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The body of the idealized kernel at the first two tiles of a sequence (the window starts at the first key): run from whole staging buffers, it hands the inputs' back as they were, and the output's
    with the stores written that the run finds. Those stores are the first component. -/
noncomputable def kernelRun0_A (c : Dev nD) (i : grid0.Coords) (arg2 : Memref sig .tc .vmem S1x1x768x256 .bf16) (harg2 : arg2.IsWhole) (arg3 : Memref sig .tc .vmem S1x4096x768 .bf16) (harg3 : arg3.IsWhole) (arg4 : Memref sig .tc .vmem S1x768x4096 .bf16) (harg4 : arg4.IsWhole) (arg5 : Memref sig .tc .vmem S12x1152x128 .f32) (harg5 : arg5.IsWhole) (arg6 : Memref sig .tc .vmem S1x1x768x256 .bf16) (harg6 : arg6.IsWhole) (hc0 : ¬cond0_0 i) (hc1 : cond0_1 i)
    (x0 : Vec F S1x1x768x256 .bf16) (x1 : Vec F S1x4096x768 .bf16) (x2 : Vec F S1x768x4096 .bf16) (x3 : Vec F S12x1152x128 .f32) :
    { L4 : List (View.Piece (Elt F) S1x1x768x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc0_band_attn i arg2 harg2 arg3 harg3 arg4 harg4 arg5 harg5 arg6 harg6) K } := by
  refine ⟨?_, fun E K => ?run⟩
  case run =>
    simp only [cc0_band_attn_eq_skeleton]; unfold cc0_band_attn_skel
    dsimp only [k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.KernelIdeal.Gen

end
-- ==== Proof.KernelIdealRunB.lean ====
/-
  One run of the body of the idealized kernel: the other tiles (the window starts four query blocks back).
-/
module

public import proofs.«01_k».proof.Proof.KernelIdealRunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The body of the idealized kernel at the other tiles (the window starts four query blocks back): run from whole staging buffers, it hands the inputs' back as they were, and the output's
    with the stores written that the run finds. Those stores are the first component. -/
noncomputable def kernelRun0_B (c : Dev nD) (i : grid0.Coords) (arg2 : Memref sig .tc .vmem S1x1x768x256 .bf16) (harg2 : arg2.IsWhole) (arg3 : Memref sig .tc .vmem S1x4096x768 .bf16) (harg3 : arg3.IsWhole) (arg4 : Memref sig .tc .vmem S1x768x4096 .bf16) (harg4 : arg4.IsWhole) (arg5 : Memref sig .tc .vmem S12x1152x128 .f32) (harg5 : arg5.IsWhole) (arg6 : Memref sig .tc .vmem S1x1x768x256 .bf16) (harg6 : arg6.IsWhole) (hc0 : cond0_0 i) (hc1 : ¬cond0_1 i)
    (x0 : Vec F S1x1x768x256 .bf16) (x1 : Vec F S1x4096x768 .bf16) (x2 : Vec F S1x768x4096 .bf16) (x3 : Vec F S12x1152x128 .f32) :
    { L4 : List (View.Piece (Elt F) S1x1x768x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc0_band_attn i arg2 harg2 arg3 harg3 arg4 harg4 arg5 harg5 arg6 harg6) K } := by
  refine ⟨?_, fun E K => ?run⟩
  case run =>
    simp only [cc0_band_attn_eq_skeleton]; unfold cc0_band_attn_skel
    dsimp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.KernelIdeal.Gen

end
-- ==== Proof.Tile.lean ====
/-
  One grid point of the attention kernel: what it stores is, for each of the six pairs of heads, the two results of the pair
  (`Pair.first`, `Pair.second`) computed from what it loads. Each load is an array read off a block at the offsets the kernel
  computes.
-/
module

public import proofs.«01_k».proof.Proof.Vocab
public import proofs.«01_k».proof.Proof.KernelIdealRunA
public import proofs.«01_k».proof.Proof.KernelIdealRunB

@[expose] public section

set_option maxRecDepth 16384

noncomputable section

namespace Cert.KernelIdeal.Pair

open Cert.KernelIdeal Cert.KernelIdeal.Gen Cert.KernelIdeal.Facts Idealize.ShloMosaic Idealize.SL

variable {F : FTy → Type} [FloatOps F] [Named F]

/-- A load of a box of sizes `n` at the offsets `o` from a buffer that holds `x`. -/
abbrev load {s : Shape} {e : EltTy} (m : Memref sig .tc .vmem s e) (h : m.IsWhole) (x : s.Idx → Elt F e) (n o : Fin s.rank → Nat)
    (ho : ∀ a, o a + n a ≤ s.size a) : (Rect.unit (s := s) o n ho).toLoadRect.shape.Idx → Elt F e :=
  View.readAt (Elt F) m.view (Rect.unit (s := s) o n ho).toLoadRect (h.unread x)

theorem fits (n : Fin 12) : ∀ a, (![0, 0, 64 * n.val, 0] : Fin 4 → Nat) a + S1x1x64x256.size a ≤ S1x1x768x256.size a := by
  revert n; decide

theorem fits_queries (p : Fin 6) : ∀ a, (![0, 0, 128 * p.val, 0] : Fin 4 → Nat) a + S1x1x128x256.size a ≤ S1x1x768x256.size a := by
  revert p; decide

theorem fits_bias (h : Fin 12) : ∀ a, (![h.val, 0, 0] : Fin 3 → Nat) a + S1x640x128.size a ≤ S12x1152x128.size a := by
  revert h; decide

/-- The rows of head `n` in the output block. -/
abbrev rows (n : Fin 12) : Rect S1x1x768x256 := Rect.unit ![0, 0, 64 * n.val, 0] S1x1x64x256.size (fits n)

/-- The two stores of pair `p`, the later one first: from its keys, queries, four bias windows and values. -/
def two (off : Bool) (p : Fin 6) (k : FVec F S1x768x128 .bf16) (q : FVec F S1x1x128x256 .bf16) (w : Fin 4 → FVec F S1x640x128 .f32)
    (v : FVec F S1x128x768 .bf16) : List (View.Piece (Elt F) S1x1x768x256 .bf16) :=
  [⟨rows ⟨2 * p.val + 1, by omega⟩, second off (tile off k q (w 0) (w 1) (w 2) (w 3)) v⟩,
    ⟨rows ⟨2 * p.val, by omega⟩, first off (tile off k q (w 0) (w 1) (w 2) (w 3)) v⟩]

/-! ## The offsets of the loads, pair by pair -/

/-- Where pair `p` loads its keys, values and the bias windows of its four groups: from the third query block on (`true`), and in
    the first two query blocks (`false`). -/
def keysAt (off : Bool) (p : Fin 6) : grid0.Coords → Fin 3 → Nat :=
  match off with
  | true => ![k0_off1, k0_off2, k0_off3, k0_off5, k0_off7, k0_off9] p
  | false => ![k0_off13, k0_off18, k0_off23, k0_off29, k0_off35, k0_off41] p

def valuesAt (off : Bool) (p : Fin 6) : grid0.Coords → Fin 3 → Nat :=
  match off with
  | true => ![k0_off4, k0_off6, k0_off8, k0_off10, k0_off11, k0_off12] p
  | false => ![k0_off28, k0_off34, k0_off40, k0_off46, k0_off47, k0_off48] p

def biasAt (off : Bool) (p : Fin 6) (g : Fin 4) : grid0.Coords → Fin 3 → Nat :=
  match off with
  | true => fun _ => ![2 * p.val + g.val / 2, 0, 0]
  | false => ![![k0_off14, k0_off15, k0_off16, k0_off17], ![k0_off19, k0_off20, k0_off21, k0_off22],
      ![k0_off24, k0_off25, k0_off26, k0_off27], ![k0_off30, k0_off31, k0_off32, k0_off33], ![k0_off36, k0_off37, k0_off38, k0_off39],
      ![k0_off42, k0_off43, k0_off44, k0_off45]] p g

/-- The condition under which the loads are in bounds. -/
def When (off : Bool) (i : grid0.Coords) : Prop :=
  match off with
  | true => cond0_0 i
  | false => cond0_1 i

theorem keys_fit {off : Bool} {i : grid0.Coords} (h : When off i) (p : Fin 6) : ∀ a, keysAt off p i a + S1x768x128.size a ≤ S1x4096x768.size a :=
  match off, p with
  | true, 0 => k0_off1_inb i h
  | true, 1 => k0_off2_inb i h
  | true, 2 => k0_off3_inb i h
  | true, 3 => k0_off5_inb i h
  | true, 4 => k0_off7_inb i h
  | true, 5 => k0_off9_inb i h
  | false, 0 => k0_off13_inb i h
  | false, 1 => k0_off18_inb i h
  | false, 2 => k0_off23_inb i h
  | false, 3 => k0_off29_inb i h
  | false, 4 => k0_off35_inb i h
  | false, 5 => k0_off41_inb i h

theorem values_fit {off : Bool} {i : grid0.Coords} (h : When off i) (p : Fin 6) : ∀ a, valuesAt off p i a + S1x128x768.size a ≤ S1x768x4096.size a :=
  match off, p with
  | true, 0 => k0_off4_inb i h
  | true, 1 => k0_off6_inb i h
  | true, 2 => k0_off8_inb i h
  | true, 3 => k0_off10_inb i h
  | true, 4 => k0_off11_inb i h
  | true, 5 => k0_off12_inb i h
  | false, 0 => k0_off28_inb i h
  | false, 1 => k0_off34_inb i h
  | false, 2 => k0_off40_inb i h
  | false, 3 => k0_off46_inb i h
  | false, 4 => k0_off47_inb i h
  | false, 5 => k0_off48_inb i h

theorem bias_fit {off : Bool} {i : grid0.Coords} (h : When off i) (p : Fin 6) (g : Fin 4) :
    ∀ a, biasAt off p g i a + S1x640x128.size a ≤ S12x1152x128.size a :=
  match off, p, g with
  | true, p, g => fits_bias ⟨2 * p.val + g.val / 2, by omega⟩
  | false, 0, 0 => k0_off14_inb i h
  | false, 0, 1 => k0_off15_inb i h
  | false, 0, 2 => k0_off16_inb i h
  | false, 0, 3 => k0_off17_inb i h
  | false, 1, 0 => k0_off19_inb i h
  | false, 1, 1 => k0_off20_inb i h
  | false, 1, 2 => k0_off21_inb i h
  | false, 1, 3 => k0_off22_inb i h
  | false, 2, 0 => k0_off24_inb i h
  | false, 2, 1 => k0_off25_inb i h
  | false, 2, 2 => k0_off26_inb i h
  | false, 2, 3 => k0_off27_inb i h
  | false, 3, 0 => k0_off30_inb i h
  | false, 3, 1 => k0_off31_inb i h
  | false, 3, 2 => k0_off32_inb i h
  | false, 3, 3 => k0_off33_inb i h
  | false, 4, 0 => k0_off36_inb i h
  | false, 4, 1 => k0_off37_inb i h
  | false, 4, 2 => k0_off38_inb i h
  | false, 4, 3 => k0_off39_inb i h
  | false, 5, 0 => k0_off42_inb i h
  | false, 5, 1 => k0_off43_inb i h
  | false, 5, 2 => k0_off44_inb i h
  | false, 5, 3 => k0_off45_inb i h

/-- What pair `p` stores at the grid coordinates `i`, from the four blocks. -/
def stores (off : Bool) {i : grid0.Coords} (h : When off i) (p : Fin 6)
    (arg2 : Memref sig .tc .vmem S1x1x768x256 .bf16) (harg2 : arg2.IsWhole) (arg3 : Memref sig .tc .vmem S1x4096x768 .bf16) (harg3 : arg3.IsWhole)
    (arg4 : Memref sig .tc .vmem S1x768x4096 .bf16) (harg4 : arg4.IsWhole) (arg5 : Memref sig .tc .vmem S12x1152x128 .f32) (harg5 : arg5.IsWhole)
    (x0 : Vec F S1x1x768x256 .bf16) (x1 : Vec F S1x4096x768 .bf16) (x2 : Vec F S1x768x4096 .bf16) (x3 : Vec F S12x1152x128 .f32) :
    List (View.Piece (Elt F) S1x1x768x256 .bf16) :=
  two off p (load arg3 harg3 x1 S1x768x128.size (keysAt off p i) (keys_fit h p))
    (load arg2 harg2 x0 S1x1x128x256.size ![0, 0, 128 * p.val, 0] (fits_queries p))
    (fun g => load arg5 harg5 x3 S1x640x128.size (biasAt off p g i) (bias_fit h p g))
    (load arg4 harg4 x2 S1x128x768.size (valuesAt off p i) (values_fit h p))

/-- What a point of the first two query blocks stores, the last store first. -/
theorem pieces_A (c : Dev nD) (i : grid0.Coords) (arg2 : Memref sig .tc .vmem S1x1x768x256 .bf16) (harg2 : arg2.IsWhole) (arg3 : Memref sig .tc .vmem S1x4096x768 .bf16) (harg3 : arg3.IsWhole)
    (arg4 : Memref sig .tc .vmem S1x768x4096 .bf16) (harg4 : arg4.IsWhole) (arg5 : Memref sig .tc .vmem S12x1152x128 .f32) (harg5 : arg5.IsWhole)
    (arg6 : Memref sig .tc .vmem S1x1x768x256 .bf16) (harg6 : arg6.IsWhole) (hc0 : ¬cond0_0 i) (hc1 : cond0_1 i)
    (x0 : Vec F S1x1x768x256 .bf16) (x1 : Vec F S1x4096x768 .bf16) (x2 : Vec F S1x768x4096 .bf16) (x3 : Vec F S12x1152x128 .f32) :
    (kernelRun0_A c i arg2 harg2 arg3 harg3 arg4 harg4 arg5 harg5 arg6 harg6 hc0 hc1 x0 x1 x2 x3).1 =
      stores false (i := i) hc1 5 arg2 harg2 arg3 harg3 arg4 harg4 arg5 harg5 x0 x1 x2 x3 ++
      stores false (i := i) hc1 4 arg2 harg2 arg3 harg3 arg4 harg4 arg5 harg5 x0 x1 x2 x3 ++
      stores false (i := i) hc1 3 arg2 harg2 arg3 harg3 arg4 harg4 arg5 harg5 x0 x1 x2 x3 ++
      stores false (i := i) hc1 2 arg2 harg2 arg3 harg3 arg4 harg4 arg5 harg5 x0 x1 x2 x3 ++
      stores false (i := i) hc1 1 arg2 harg2 arg3 harg3 arg4 harg4 arg5 harg5 x0 x1 x2 x3 ++
      stores false (i := i) hc1 0 arg2 harg2 arg3 harg3 arg4 harg4 arg5 harg5 x0 x1 x2 x3 := by
  sl_kernel_rfl

/-- What a point from the third query block on stores, the last store first. -/
theorem pieces_B (c : Dev nD) (i : grid0.Coords) (arg2 : Memref sig .tc .vmem S1x1x768x256 .bf16) (harg2 : arg2.IsWhole) (arg3 : Memref sig .tc .vmem S1x4096x768 .bf16) (harg3 : arg3.IsWhole)
    (arg4 : Memref sig .tc .vmem S1x768x4096 .bf16) (harg4 : arg4.IsWhole) (arg5 : Memref sig .tc .vmem S12x1152x128 .f32) (harg5 : arg5.IsWhole)
    (arg6 : Memref sig .tc .vmem S1x1x768x256 .bf16) (harg6 : arg6.IsWhole) (hc0 : cond0_0 i) (hc1 : ¬cond0_1 i)
    (x0 : Vec F S1x1x768x256 .bf16) (x1 : Vec F S1x4096x768 .bf16) (x2 : Vec F S1x768x4096 .bf16) (x3 : Vec F S12x1152x128 .f32) :
    (kernelRun0_B c i arg2 harg2 arg3 harg3 arg4 harg4 arg5 harg5 arg6 harg6 hc0 hc1 x0 x1 x2 x3).1 =
      stores true (i := i) hc0 5 arg2 harg2 arg3 harg3 arg4 harg4 arg5 harg5 x0 x1 x2 x3 ++
      stores true (i := i) hc0 4 arg2 harg2 arg3 harg3 arg4 harg4 arg5 harg5 x0 x1 x2 x3 ++
      stores true (i := i) hc0 3 arg2 harg2 arg3 harg3 arg4 harg4 arg5 harg5 x0 x1 x2 x3 ++
      stores true (i := i) hc0 2 arg2 harg2 arg3 harg3 arg4 harg4 arg5 harg5 x0 x1 x2 x3 ++
      stores true (i := i) hc0 1 arg2 harg2 arg3 harg3 arg4 harg4 arg5 harg5 x0 x1 x2 x3 ++
      stores true (i := i) hc0 0 arg2 harg2 arg3 harg3 arg4 harg4 arg5 harg5 x0 x1 x2 x3 := by
  sl_kernel_rfl

end Cert.KernelIdeal.Pair

end
-- ==== Proof.PairValue.lean ====
/-
  The pair of heads at an index: each entry of its two results is a softmax-weighted mean of the values over the query's window.
-/
module

public import proofs.«01_k».proof.Proof.Vocab
public import Idealize.ShloMosaic.Lib.Pointwise
public import Idealize.ShloMosaic.Lib.ValueIdx
public import Idealize.ShloMosaic.Lib.Pipeline.Value
public import Idealize.ShloMosaic.PureOps.Ideal.Laws

@[expose] public section

set_option maxRecDepth 16384

noncomputable section

namespace Cert.KernelIdeal.Pair

open Cert.KernelIdeal Cert.KernelIdeal.Gen Cert.KernelIdeal.Facts Idealize.ShloMosaic

/-- A block of the score tile at an index. -/
theorem blk_apply (off : Bool) (t : FVec Ideal S768x512 .f32) (g : Fin 4) (n : Fin 10) (i : Fin 64) (l : Fin 128) :
    blk off t g n (ix2 i l) = t (ix2 ⟨row0 off g + (64 * n.val + i.val), by
      have : row0 off g ≤ 128 := by revert off g; decide
      omega⟩ ⟨128 * g.val + l.val, by omega⟩) := by
  unfold blk
  refine extractStridedSlice_apply _ t _ _ _ fun a => ?_
  match a with
  | ⟨0, _⟩ => show row0 off g + (64 * n.val + i.val) = row0 off g + 64 * n.val + i.val; omega
  | ⟨1, _⟩ => rfl

/-- A feature's number compared with 64. -/
theorem below (e : Fin 128) : IntOp.cmpi CmpIPredicate.slt (BitVec.ofNat 32 e.val) 64#32 = if e.val < 64 then 1#1 else 0#1 := by
  revert e; decide

theorem notBelow (e : Fin 128) : IntOp.cmpi CmpIPredicate.sge (BitVec.ofNat 32 e.val) 64#32 = if e.val < 64 then 0#1 else 1#1 := by
  revert e; decide

/-- The left half's queries are the first head's, the right half's the second's. -/
theorem queries_apply (q : FVec Ideal S1x1x128x256 .bf16) (e : Fin 128) (c : Fin 512) :
    queries q (ix2 e c) = if e.val / 64 = c.val / 256 then q (ix4 0 0 e ⟨c.val % 256, by omega⟩) else 0 := by
  unfold queries
  pointwise
  rw [below, notBelow]
  by_cases hc : c.val < 256
  · simp only [hc, dif_pos]
    by_cases h : e.val < 64
    · rw [if_pos h, if_pos (show e.val / 64 = c.val / 256 by omega)]
      show q _ = q _
      congr 2; apply Fin.ext; show c.val = c.val % 256; omega
    · rw [if_neg h, if_neg (show ¬(e.val / 64 = c.val / 256) by omega)]; rfl
  · simp only [hc, dif_neg, not_false_eq_true]
    by_cases h : e.val < 64
    · rw [if_pos h, if_neg (show ¬(e.val / 64 = c.val / 256) by omega)]; rfl
    · rw [if_neg h, if_pos (show e.val / 64 = c.val / 256 by omega)]
      show q _ = q _
      congr 2; apply Fin.ext; show c.val - 256 = c.val % 256; omega

theorem zeros_apply (i : S128x128.Idx) : zeros (F := Ideal) i = 0 := by
  show Ideal.ofBits .bf16 0x0000#16 = 0
  exact Ideal.ofBits_zero_bf16

theorem sq_apply (b : FVec Ideal S1x640x128 .f32) (r : Fin 640) (l : Fin 128) : sq b (ix2 r l) = b (ix3 0 r l) := by
  unfold sq
  pointwise

theorem row0_le (off : Bool) (g : Fin 4) : row0 off g ≤ 128 := by revert off g; decide

/-- Whether group `g`'s window starts 128 rows down. -/
abbrev shifted (off : Bool) (g : Fin 4) : Bool := match g with
  | 0 => false
  | 1 => off
  | 2 => false
  | 3 => off

/-- The padded rows: the window's where it lies, the filler elsewhere. -/
theorem pad_apply {α : FTy} (off : Bool) (g : Fin 4) (x : FVec Ideal S640x128 α) (z : FVec Ideal S128x128 α) (r : Fin 768) (l : Fin 128) :
    pad (shifted off g) x z (ix2 r l) = if h : row0 off g ≤ r.val ∧ r.val < row0 off g + 640 then x (ix2 ⟨r.val - row0 off g, by omega⟩ l)
      else z (ix2 ⟨r.val % 128, by omega⟩ l) := by
  have key : ∀ (s : Bool), pad s x z (ix2 r l) = if h : (cond s 128 0) ≤ r.val ∧ r.val < (cond s 128 0) + 640
      then x (ix2 ⟨r.val - cond s 128 0, by omega⟩ l) else z (ix2 ⟨r.val % 128, by omega⟩ l) := by
    intro s
    cases s
    · unfold pad
      pointwise
      by_cases h : r.val < 640
      · simp [h]
      · simp only [h, dif_neg, not_false_eq_true]
        simp [h]
        congr 2; apply Fin.ext; show r.val - 640 = r.val % 128; omega
    · unfold pad
      pointwise
      by_cases h : r.val < 128
      · simp [h, show ¬128 ≤ r.val by omega]
        congr 2; apply Fin.ext; show r.val = r.val % 128; omega
      · simp [h, show 128 ≤ r.val by omega, show r.val < 768 by omega]
  rw [key]
  have : row0 off g = cond (shifted off g) 128 0 := by revert off g; decide
  simp only [this]

/-- Four column groups side by side: column `128 g + l` is group `g`'s column `l`. -/
theorem cols_apply {α : Type} {n : ℕ} (f : Fin 4 → (⟨2, ![n, 128]⟩ : Shape).Idx → α)
    (h : Shape.Concatenates [⟨2, ![n, 128]⟩, ⟨2, ![n, 128]⟩, ⟨2, ![n, 128]⟩, ⟨2, ![n, 128]⟩] (⟨2, ![n, 512]⟩ : Shape) 1)
    (x : Fin n) (g : Fin 4) (l : Fin 128) :
    concatenate (⟨2, ![n, 512]⟩ : Shape) 1 [⟨_, f 0⟩, ⟨_, f 1⟩, ⟨_, f 2⟩, ⟨_, f 3⟩] h (ix2 x ⟨128 * g.val + l.val, by omega⟩) = f g (ix2 x l) := by
  refine concatenate_ofFn_apply (t := ⟨2, ![n, 512]⟩) (s₁ := ⟨2, ![n, 128]⟩) 1 f h rfl 128 rfl _ g ?_ _ ?_ ?_
  · show (128 * g.val + l.val) / 128 = g.val; omega
  · show l.val = (128 * g.val + l.val) % 128; omega
  · intro b hb
    match b, hb with
    | ⟨0, _⟩, _ => rfl
    | ⟨1, _⟩, hb => exact absurd rfl hb

/-- Ten row blocks on top of each other: row `64 n + i` is block `n`'s row `i`. -/
theorem rows_apply {α : Type} (f : Fin 10 → S64x128.Idx → α)
    (h : Shape.Concatenates [S64x128, S64x128, S64x128, S64x128, S64x128, S64x128, S64x128, S64x128, S64x128, S64x128] S640x128 0)
    (r : Fin 640) (l : Fin 128) :
    concatenate S640x128 0 [⟨_, f 0⟩, ⟨_, f 1⟩, ⟨_, f 2⟩, ⟨_, f 3⟩, ⟨_, f 4⟩, ⟨_, f 5⟩, ⟨_, f 6⟩, ⟨_, f 7⟩, ⟨_, f 8⟩, ⟨_, f 9⟩] h (ix2 r l)
      = f ⟨r.val / 64, by omega⟩ (ix2 ⟨r.val % 64, by omega⟩ l) := by
  refine concatenate_ofFn_apply (t := S640x128) (s₁ := S64x128) 0 f h rfl 64 rfl _ ⟨r.val / 64, by omega⟩ ?_ _ ?_ ?_
  · rfl
  · rfl
  · intro b hb
    match b, hb with
    | ⟨0, _⟩, hb => exact absurd rfl hb
    | ⟨1, _⟩, _ => rfl

/-- The softmax-weighted mean of `v` under scores `s`, with the weights not yet normalized when summed. -/
def attend {n : ℕ} (s v : Fin n → EReal) : EReal :=
  (∑ r, v r * Ideal.exp (s r - Finset.univ.sup s)) * Ideal.div 1 (∑ r, Ideal.exp (s r - Finset.univ.sup s))

/-- Ten blocks of 64, summed side by side, are the sum over 640. -/
theorem sum_blocks (E : Fin 640 → EReal) (B : Fin 10 → Fin 64 → EReal) (hB : ∀ n i, B n i = E ⟨64 * n.val + i.val, by omega⟩) :
    ∑ i, (B 0 i + B 1 i + B 2 i + B 3 i + B 4 i + B 5 i + B 6 i + B 7 i + B 8 i + B 9 i) = ∑ r, E r := by
  rw [← Equiv.sum_comp (finProdFinEquiv (m := 10) (n := 64)) E, Fintype.sum_prod_type, Finset.sum_comm]
  refine Finset.sum_congr rfl fun i _ => ?_
  have : ∀ n : Fin 10, E (finProdFinEquiv (n, i)) = B n i := fun n => by
    rw [hB]; congr 1; apply Fin.ext; show i.val + 64 * n.val = 64 * n.val + i.val; omega
  simp only [this]
  simp only [Fin.sum_univ_castSucc, Fin.sum_univ_zero, zero_add]
  rfl

/-- Ten blocks of 64, maximized side by side, are the maximum over 640. -/
theorem max_blocks (E : Fin 640 → EReal) (B : Fin 10 → Fin 64 → EReal) (hB : ∀ n i, B n i = E ⟨64 * n.val + i.val, by omega⟩) :
    Finset.univ.fold max ⊥ (fun i => max (max (max (max (max (max (max (max (max (B 0 i) (B 1 i)) (B 2 i)) (B 3 i)) (B 4 i)) (B 5 i)) (B 6 i)) (B 7 i))
      (B 8 i)) (B 9 i)) = Finset.univ.sup E := by
  refine Eq.trans (b := Finset.univ.sup (fun i => max (max (max (max (max (max (max (max (max (B 0 i) (B 1 i)) (B 2 i)) (B 3 i)) (B 4 i)) (B 5 i)) (B 6 i)) (B 7 i))
      (B 8 i)) (B 9 i))) rfl ?_
  apply eq_of_forall_ge_iff
  intro c
  simp only [Finset.sup_le_iff, max_le_iff, Finset.mem_univ, true_implies]
  constructor
  · intro h r
    have : ∀ n i, B n i ≤ c := fun n i => by
      obtain ⟨⟨⟨⟨⟨⟨⟨⟨⟨h0, h1⟩, h2⟩, h3⟩, h4⟩, h5⟩, h6⟩, h7⟩, h8⟩, h9⟩ := h i
      fin_cases n <;> assumption
    have h' := this ⟨r.val / 64, by omega⟩ ⟨r.val % 64, by omega⟩
    rw [hB] at h'
    have hr : (⟨64 * (r.val / 64) + r.val % 64, by omega⟩ : Fin 640) = r := Fin.ext (by show 64 * (r.val / 64) + r.val % 64 = r.val; omega)
    exact hr ▸ h'
  · intro h i
    have : ∀ n i, B n i ≤ c := fun n i => by rw [hB]; exact h _
    simp only [this, and_self]

section Group

variable (b : Fin 10 → FVec Ideal S64x128 .f32) (l : Fin 128) (S : Fin 640 → EReal) (hS : ∀ n i, b n (ix2 i l) = S ⟨64 * n.val + i.val, by omega⟩)
include hS

theorem top_apply : top b (ix2 0 l) = Finset.univ.sup S := by
  unfold top
  pointwise
  rw [show Ideal.ofBits FTy.f32 4286578688#32 = ⊥ by simp [Ideal.ofBits, Ideal.ieee]]
  exact max_blocks S (fun n i => b n (ix2 i l)) hS

theorem ex_apply (n : Fin 10) (i : Fin 64) : ex b n (ix2 i l) = Ideal.exp (S ⟨64 * n.val + i.val, by omega⟩ - Finset.univ.sup S) := by
  have : ex b n (ix2 i l) = Ideal.exp (b n (ix2 i l) - top b (ix2 0 l)) := by
    unfold ex
    pointwise
  rw [this, hS, top_apply b l S hS]

theorem total_apply : total b (ix2 0 l) = ∑ r, Ideal.exp (S r - Finset.univ.sup S) := by
  unfold total
  pointwise
  exact sum_blocks (fun r => Ideal.exp (S r - Finset.univ.sup S)) (fun n i => ex b n (ix2 i l)) (ex_apply b l S hS)

theorem weights_apply (r : Fin 640) : weights b (ix2 r l) = Ideal.exp (S r - Finset.univ.sup S) := by
  refine (rows_apply (fun n => truncf .bf16 (ex b n) bitsLt_bf16_f32)
    concatenates_S64x128_S64x128_S64x128_S64x128_S64x128_S64x128_S64x128_S64x128_S64x128_S64x128_S640x128_d0 r l).trans ?_
  refine (ex_apply b l S hS _ _).trans ?_
  congr 3
  exact Fin.ext (by show 64 * (r.val / 64) + r.val % 64 = r.val; omega)

end Group

/-- The weights of a column: the exponentials in the window's rows, zero in the others. -/
theorem allWeights_apply (off : Bool) (t : FVec Ideal S768x512 .f32) (x : Fin 768) (g : Fin 4) (l : Fin 128) :
    allWeights off t (ix2 x ⟨128 * g.val + l.val, by omega⟩) =
      if h : row0 off g ≤ x.val ∧ x.val < row0 off g + 640 then weights (blk off t g) (ix2 ⟨x.val - row0 off g, by omega⟩ l) else 0 := by
  let f : Fin 4 → FVec Ideal S768x128 .bf16 := fun g => pad (shifted off g) (weights (blk off t g)) zeros
  have h : allWeights off t (ix2 x ⟨128 * g.val + l.val, by omega⟩) = f g (ix2 x l) := by
    refine Eq.trans ?_ (cols_apply f concatenates_S768x128_S768x128_S768x128_S768x128_S768x512_d1 x g l)
    rfl
  rw [h]
  show pad (shifted off g) (weights (blk off t g)) zeros _ = _
  rw [pad_apply]
  split <;> first | rfl | exact zeros_apply _

theorem product_apply (off : Bool) (t : FVec Ideal S768x512 .f32) (v : FVec Ideal S1x128x768 .bf16) (d : Fin 128) (c : Fin 512) :
    product off t v (ix2 d c) = ∑ x, v (ix3 0 d x) * allWeights off t (ix2 x c) := by
  unfold product
  pointwise

/-- The scores of column `128 g + l`, over the window's rows. -/
def column (off : Bool) (t : FVec Ideal S768x512 .f32) (g : Fin 4) (l : Fin 128) (r : Fin 640) : EReal :=
  t (ix2 ⟨row0 off g + r.val, by have := row0_le off g; omega⟩ ⟨128 * g.val + l.val, by omega⟩)

theorem inverse_apply (off : Bool) (t : FVec Ideal S768x512 .f32) (g : Fin 4) (l : Fin 128) :
    inverse off t (ix2 0 ⟨128 * g.val + l.val, by omega⟩) = Ideal.div 1 (total (blk off t g) (ix2 0 l)) := by
  have h := cols_apply (fun g => total (blk off t g)) concatenates_S1x128_S1x128_S1x128_S1x128_S1x512_d1 0 g l
  unfold inverse
  rw [ValueIdx.divf_apply, h]
  congr 1
  exact Ideal.ofBits_one_f32

/-- The 768 rows of a column are its window's 640 and 128 of weight zero. -/
theorem sum_window (o : ℕ) (ho : o ≤ 128) (f : Fin 768 → EReal) (hf : ∀ x : Fin 768, ¬(o ≤ x.val ∧ x.val < o + 640) → f x = 0) :
    ∑ x, f x = ∑ r : Fin 640, f ⟨o + r.val, by omega⟩ := by
  let i : Fin 640 → Fin 768 := fun r => ⟨o + r.val, by omega⟩
  have hi : Function.Injective i := fun a b h => Fin.ext (by have := congrArg Fin.val h; simp only [i] at this; omega)
  exact (Finset.sum_of_injOn i hi.injOn (fun _ _ => Finset.mem_coe.2 (Finset.mem_univ _)) (fun x _ hx => hf x fun h =>
    hx ⟨⟨x.val - o, by omega⟩, Finset.mem_coe.2 (Finset.mem_univ _), Fin.ext (by simp only [i]; omega)⟩) (fun _ _ => rfl)).symm

theorem column_apply (off : Bool) (t : FVec Ideal S768x512 .f32) (v : FVec Ideal S1x128x768 .bf16) (d : Fin 128) (g : Fin 4) (l : Fin 128) :
    product off t v (ix2 d ⟨128 * g.val + l.val, by omega⟩) * inverse off t (ix2 0 ⟨128 * g.val + l.val, by omega⟩)
      = attend (column off t g l) (fun r => v (ix3 0 d ⟨row0 off g + r.val, by have := row0_le off g; omega⟩)) := by
  have hS : ∀ n i, blk off t g n (ix2 i l) = column off t g l ⟨64 * n.val + i.val, by omega⟩ := fun n i => blk_apply off t g n i l
  rw [product_apply, inverse_apply, total_apply _ l _ hS, sum_window (row0 off g) (row0_le off g)]
  · unfold attend
    congr 1
    refine Finset.sum_congr rfl fun r _ => ?_
    rw [allWeights_apply, dif_pos (by simp), weights_apply _ l _ hS]
    congr 4 <;> (apply Fin.ext; simp)
  · intro x hx
    rw [allWeights_apply, dif_neg hx, mul_zero]

/-- An entry of the first head's result. -/
theorem first_apply (off : Bool) (t : FVec Ideal S768x512 .f32) (v : FVec Ideal S1x128x768 .bf16) (d : Fin 64) (p : Fin 2) (l : Fin 128) :
    first off t v (ix4 0 0 d ⟨128 * p.val + l.val, by omega⟩)
      = attend (column off t ⟨p.val, by omega⟩ l) (fun r => v (ix3 0 ⟨d.val, by omega⟩
          ⟨row0 off ⟨p.val, by omega⟩ + r.val, by have := row0_le off ⟨p.val, by omega⟩; omega⟩)) := by
  rw [← column_apply]
  unfold first
  pointwise

/-- An entry of the second head's result. -/
theorem second_apply (off : Bool) (t : FVec Ideal S768x512 .f32) (v : FVec Ideal S1x128x768 .bf16) (d : Fin 64) (p : Fin 2) (l : Fin 128) :
    second off t v (ix4 0 0 d ⟨128 * p.val + l.val, by omega⟩)
      = attend (column off t ⟨2 + p.val, by omega⟩ l) (fun r => v (ix3 0 ⟨64 + d.val, by omega⟩
          ⟨row0 off ⟨2 + p.val, by omega⟩ + r.val, by have := row0_le off ⟨2 + p.val, by omega⟩; omega⟩)) := by
  rw [← column_apply]
  unfold second
  pointwise
  have h : (⟨256 + (128 * p.val + l.val), by omega⟩ : Fin 512) = ⟨128 * (2 + p.val) + l.val, by omega⟩ :=
    Fin.ext (by show 256 + (128 * p.val + l.val) = 128 * (2 + p.val) + l.val; omega)
  exact congrArg (fun c => product off t v (ix2 ⟨64 + d.val, by omega⟩ c) * inverse off t (ix2 0 c)) h

/-- The score of row `r` of group `g`'s window for query `l`: key times query over the head's 64 features, plus the bias. -/
def score (off : Bool) (k : FVec Ideal S1x768x128 .bf16) (q : FVec Ideal S1x1x128x256 .bf16) (b : FVec Ideal S1x640x128 .f32) (g : Fin 4)
    (l : Fin 128) (r : Fin 640) : EReal :=
  (∑ e : Fin 64, k (ix3 0 ⟨row0 off g + r.val, by have := row0_le off g; omega⟩ ⟨64 * (g.val / 2) + e.val, by omega⟩)
    * q (ix4 0 0 ⟨64 * (g.val / 2) + e.val, by omega⟩ ⟨128 * (g.val % 2) + l.val, by omega⟩)) + b (ix3 0 r l)

/-- A column of the score tile. -/
theorem tile_apply (off : Bool) (k : FVec Ideal S1x768x128 .bf16) (q : FVec Ideal S1x1x128x256 .bf16) (b : Fin 4 → FVec Ideal S1x640x128 .f32)
    (g : Fin 4) (l : Fin 128) (r : Fin 640) : column off (tile off k q (b 0) (b 1) (b 2) (b 3)) g l r = score off k q (b g) g l r := by
  let f : Fin 4 → FVec Ideal S768x128 .f32 := fun g => pad (shifted off g) (sq (b g)) masked
  have h := cols_apply f concatenates_S768x128_S768x128_S768x128_S768x128_S768x512_d1
    ⟨row0 off g + r.val, by have := row0_le off g; omega⟩ g l
  have hf : f g (ix2 ⟨row0 off g + r.val, by have := row0_le off g; omega⟩ l) = b g (ix3 0 r l) := by
    show pad (shifted off g) (sq (b g)) masked _ = _
    rw [pad_apply, dif_pos (by simp), sq_apply]
    congr 1; simp
  unfold column
  refine Eq.trans (b := matmul dot_S768x128_S128x512_S768x512_1_0_0_1_n_n none (shapeCast S768x128 k shapeCasts_S1x768x128_S768x128) (queries q)
      (constant S768x512 .f32 0x00000000#32) (ix2 ⟨row0 off g + r.val, by have := row0_le off g; omega⟩ ⟨128 * g.val + l.val, by omega⟩)
        + f g (ix2 ⟨row0 off g + r.val, by have := row0_le off g; omega⟩ l)) ?_ ?_
  · exact congrArg _ h
  rw [hf]
  unfold score
  congr 1
  pointwise
  simp only [queries_apply]
  let i : Fin 64 → Fin 128 := fun e => ⟨64 * (g.val / 2) + e.val, by omega⟩
  have hi : Function.Injective i := fun a b h => Fin.ext (by have := congrArg Fin.val h; simp only [i] at this; omega)
  refine (Finset.sum_of_injOn i hi.injOn (fun _ _ => Finset.mem_coe.2 (Finset.mem_univ _)) (fun x _ hx => ?_) (fun e _ => ?_)).symm
  · rw [if_neg, mul_zero]
    intro hh
    exact hx ⟨⟨x.val % 64, by omega⟩, Finset.mem_coe.2 (Finset.mem_univ _), Fin.ext (by simp only [i]; omega)⟩
  · rw [if_pos (by simp only [i]; omega)]
    congr 3
    apply Fin.ext; simp only [i]; omega

end Cert.KernelIdeal.Pair

end
-- ==== Proof.Spec.lean ====
/-
  The attention a pair of heads computes, as a function of the four whole arrays: what each entry of the kernel's result is.
-/
module

public import proofs.«01_k».proof.Proof.PairValue

@[expose] public section

set_option maxRecDepth 16384

noncomputable section

namespace Cert.KernelIdeal.Pair

open Cert.KernelIdeal Cert.KernelIdeal.Gen Cert.KernelIdeal.Facts Idealize.ShloMosaic

/-- The first key of the window of query `c` of query block `j`. -/
def start (j c : ℕ) : ℕ := 128 * (2 * j + c / 128 - 4)

/-- The first row of the bias table for that window. -/
def brow (j c : ℕ) : ℕ := start j c + 512 - 128 * (2 * j + c / 128)

theorem start_le {j c : ℕ} (hj : j < 16) (hc : c < 256) : start j c ≤ 3456 := by unfold start; omega

theorem brow_le (j c : ℕ) : brow j c ≤ 512 := by unfold brow start; omega

variable (A0 : S8x16x768x256.Idx → EReal) (A1 : S8x4096x768.Idx → EReal) (A2 : S8x768x4096.Idx → EReal) (A3 : S12x1152x128.Idx → EReal)

/-- The score of key number `r` of the window of query `c`, in the head of feature `f`. -/
def scoreAt (b : Fin 8) (j : Fin 16) (f : Fin 768) (c : Fin 256) (r : Fin 640) : EReal :=
  (∑ e : Fin 64, A1 (ix3 b ⟨start j.val c.val + r.val, by have := start_le j.isLt c.isLt; omega⟩ ⟨64 * (f.val / 64) + e.val, by omega⟩)
      * A0 (ix4 b j ⟨64 * (f.val / 64) + e.val, by omega⟩ c))
    + A3 (ix3 ⟨f.val / 64, by omega⟩ ⟨brow j.val c.val + r.val, by have := brow_le j.val c.val; omega⟩ ⟨c.val % 128, by omega⟩)

/-- Feature `f` of the result of query `c` of query block `j`. -/
def spec (b : Fin 8) (j : Fin 16) (f : Fin 768) (c : Fin 256) : EReal :=
  attend (scoreAt A0 A1 A3 b j f c) fun r => A2 (ix3 b f ⟨start j.val c.val + r.val, by have := start_le j.isLt c.isLt; omega⟩)

section pair

variable (off : Bool) (p : Fin 6) (b : Fin 8) (j : Fin 16) (k : FVec Ideal S1x768x128 .bf16) (q : FVec Ideal S1x1x128x256 .bf16)
  (w : Fin 4 → FVec Ideal S1x640x128 .f32) (v : FVec Ideal S1x128x768 .bf16) (S : ℕ) (hS : S + 768 ≤ 4096)

/-- The pair's loads are the parts of the arrays its window needs: the tile starts at key `S`. -/
structure Loads : Prop where
  keys : ∀ (r : Fin 768) (e : Fin 128), k (ix3 0 r e) = A1 (ix3 b ⟨S + r.val, by omega⟩ ⟨128 * p.val + e.val, by omega⟩)
  queries : ∀ (e : Fin 128) (c : Fin 256), q (ix4 0 0 e c) = A0 (ix4 b j ⟨128 * p.val + e.val, by omega⟩ c)
  bias : ∀ (g : Fin 4) (r : Fin 640) (l : Fin 128), w g (ix3 0 r l)
    = A3 (ix3 ⟨2 * p.val + g.val / 2, by omega⟩ ⟨brow j.val (128 * (g.val % 2)) + r.val, by have := brow_le j.val (128 * (g.val % 2)); omega⟩ l)
  values : ∀ (d : Fin 128) (r : Fin 768), v (ix3 0 d r) = A2 (ix3 b ⟨128 * p.val + d.val, by omega⟩ ⟨S + r.val, by omega⟩)
  begins : ∀ g : Fin 4, S + row0 off g = start j.val (128 * (g.val % 2))

variable {A0 A1 A2 A3 off p b j k q w v S hS}

theorem start_half (j : ℕ) (x : Fin 2) (l : Fin 128) : start j (128 * x.val + l.val) = start j (128 * x.val) := by
  unfold start; omega

theorem brow_half (j : ℕ) (x : Fin 2) (l : Fin 128) : brow j (128 * x.val + l.val) = brow j (128 * x.val) := by
  unfold brow; rw [start_half]; omega

theorem ix3_congr {n0 n1 n2 : ℕ} {a a' : Fin n0} {b b' : Fin n1} {c c' : Fin n2} (ha : a = a') (hb : b = b') (hc : c = c') :
    ix3 a b c = ix3 a' b' c' := by
  rw [ha, hb, hc]

/-- With those loads, a group's softmax-weighted mean of the values is the entry of the result. -/
theorem attend_eq (h : Loads A0 A1 A2 A3 off p b j k q w v S hS) (g : Fin 4) (d : Fin 128) (hd : d.val / 64 = g.val / 2) (l : Fin 128) :
    attend (column off (tile off k q (w 0) (w 1) (w 2) (w 3)) g l)
        (fun r => v (ix3 0 d ⟨row0 off g + r.val, by have := row0_le off g; omega⟩))
      = spec A0 A1 A2 A3 b j ⟨128 * p.val + d.val, by omega⟩ ⟨128 * (g.val % 2) + l.val, by omega⟩ := by
  have hs : start j.val (128 * (g.val % 2) + l.val) = S + row0 off g :=
    (start_half j.val ⟨g.val % 2, by omega⟩ l).trans (h.begins g).symm
  have hb : brow j.val (128 * (g.val % 2) + l.val) = brow j.val (128 * (g.val % 2)) := brow_half j.val ⟨g.val % 2, by omega⟩ l
  unfold spec
  congr 1
  · funext r
    rw [tile_apply]
    unfold score scoreAt
    rw [h.bias]
    congr 1
    · refine Finset.sum_congr rfl fun e _ => ?_
      rw [h.keys, h.queries]
      have hf : 128 * p.val + (64 * (g.val / 2) + e.val) = 64 * ((128 * p.val + d.val) / 64) + e.val := by omega
      refine congrArg₂ (fun x y : EReal => x * y) (congrArg A1 (ix3_congr rfl (Fin.ext ?_) (Fin.ext hf)))
        (congrArg A0 (congrArg (fun f => ix4 b j f _) (Fin.ext hf)))
      show S + (row0 off g + r.val) = start j.val (128 * (g.val % 2) + l.val) + r.val
      omega
    · refine congrArg A3 (ix3_congr (Fin.ext ?_) (Fin.ext ?_) (Fin.ext ?_))
      · show 2 * p.val + g.val / 2 = (128 * p.val + d.val) / 64; omega
      · show brow j.val (128 * (g.val % 2)) + r.val = brow j.val (128 * (g.val % 2) + l.val) + r.val; omega
      · show l.val = (128 * (g.val % 2) + l.val) % 128; omega
  · funext r
    rw [h.values]
    refine congrArg A2 (ix3_congr rfl rfl (Fin.ext ?_))
    show S + (row0 off g + r.val) = start j.val (128 * (g.val % 2) + l.val) + r.val; omega

/-- An entry of the first head's result. -/
theorem first_eq (h : Loads A0 A1 A2 A3 off p b j k q w v S hS) (d : Fin 64) (c : Fin 256) :
    first off (tile off k q (w 0) (w 1) (w 2) (w 3)) v (ix4 0 0 d c) = spec A0 A1 A2 A3 b j ⟨128 * p.val + d.val, by omega⟩ c := by
  obtain ⟨x, l, rfl⟩ : ∃ (x : Fin 2) (l : Fin 128), c = ⟨128 * x.val + l.val, by omega⟩ :=
    ⟨⟨c.val / 128, by omega⟩, ⟨c.val % 128, by omega⟩, Fin.ext (by show c.val = 128 * (c.val / 128) + c.val % 128; omega)⟩
  rw [first_apply, attend_eq h ⟨x.val, by omega⟩ ⟨d.val, by omega⟩ (by show d.val / 64 = x.val / 2; omega) l]
  congr 1
  apply Fin.ext; show 128 * (x.val % 2) + l.val = 128 * x.val + l.val; omega

/-- An entry of the second head's result. -/
theorem second_eq (h : Loads A0 A1 A2 A3 off p b j k q w v S hS) (d : Fin 64) (c : Fin 256) :
    second off (tile off k q (w 0) (w 1) (w 2) (w 3)) v (ix4 0 0 d c)
      = spec A0 A1 A2 A3 b j ⟨128 * p.val + (64 + d.val), by omega⟩ c := by
  obtain ⟨x, l, rfl⟩ : ∃ (x : Fin 2) (l : Fin 128), c = ⟨128 * x.val + l.val, by omega⟩ :=
    ⟨⟨c.val / 128, by omega⟩, ⟨c.val % 128, by omega⟩, Fin.ext (by show c.val = 128 * (c.val / 128) + c.val % 128; omega)⟩
  rw [second_apply, attend_eq h ⟨2 + x.val, by omega⟩ ⟨64 + d.val, by omega⟩ (by show (64 + d.val) / 64 = (2 + x.val) / 2; omega) l]
  congr 1
  apply Fin.ext; show 128 * ((2 + x.val) % 2) + l.val = 128 * x.val + l.val; omega

end pair

end Cert.KernelIdeal.Pair

end
-- ==== Proof.KernelIdealFrame.lean ====
/-
  The frame of the idealized kernel: it terminates, leaves its arguments unchanged and every semaphore at zero.
-/
module

public import proofs.«01_k».proof.Proof.KernelIdealRunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- Case A's pieces for output 4 tile its block (12 stores of `S1x1x64x256`, checked by the kernel's evaluation: Lib/Ring.lean `Piece.tiledL`, linear in the pieces, through a loop's `@[irreducible]` trip theorem too), so they cover it. -/
theorem cover0_A_4 (c : Dev nD) (i : grid0.Coords) (arg2 : Memref sig .tc .vmem S1x1x768x256 .bf16) (harg2 : arg2.IsWhole) (arg3 : Memref sig .tc .vmem S1x4096x768 .bf16) (harg3 : arg3.IsWhole) (arg4 : Memref sig .tc .vmem S1x768x4096 .bf16) (harg4 : arg4.IsWhole) (arg5 : Memref sig .tc .vmem S12x1152x128 .f32) (harg5 : arg5.IsWhole) (arg6 : Memref sig .tc .vmem S1x1x768x256 .bf16) (harg6 : arg6.IsWhole) (hc0 : ¬cond0_0 i) (hc1 : cond0_1 i)
    (x0 : Vec F S1x1x768x256 .bf16) (x1 : Vec F S1x4096x768 .bf16) (x2 : Vec F S1x768x4096 .bf16) (x3 : Vec F S12x1152x128 .f32) (y : S1x1x768x256.Idx) :
    ∃ pc ∈ (kernelRun0_A c i arg2 harg2 arg3 harg3 arg4 harg4 arg5 harg5 arg6 harg6 hc0 hc1 x0 x1 x2 x3).1, y ∈ pc.1.set :=
  View.cover_of_tiledL (kernelRun0_A c i arg2 harg2 arg3 harg3 arg4 harg4 arg5 harg5 arg6 harg6 hc0 hc1 x0 x1 x2 x3).1 S1x1x64x256.size (by sl_kernel_rfl) y

/-- What case A leaves in output 4's staging buffer: its pieces read back over junk. -/
def out0_A_4 (c : Dev nD) (i : grid0.Coords) (arg2 : Memref sig .tc .vmem S1x1x768x256 .bf16) (harg2 : arg2.IsWhole) (arg3 : Memref sig .tc .vmem S1x4096x768 .bf16) (harg3 : arg3.IsWhole) (arg4 : Memref sig .tc .vmem S1x768x4096 .bf16) (harg4 : arg4.IsWhole) (arg5 : Memref sig .tc .vmem S12x1152x128 .f32) (harg5 : arg5.IsWhole) (arg6 : Memref sig .tc .vmem S1x1x768x256 .bf16) (harg6 : arg6.IsWhole) (hc0 : ¬cond0_0 i) (hc1 : cond0_1 i)
    (x0 : Vec F S1x1x768x256 .bf16) (x1 : Vec F S1x4096x768 .bf16) (x2 : Vec F S1x768x4096 .bf16) (x3 : Vec F S12x1152x128 .f32) : Vec F S1x1x768x256 .bf16 :=
  VO0_4.read (Elt F) (VO0_4.writes (Elt F) VO0_4.junk (kernelRun0_A c i arg2 harg2 arg3 harg3 arg4 harg4 arg5 harg5 arg6 harg6 hc0 hc1 x0 x1 x2 x3).1)

/-- Case B's pieces for output 4 tile its block (12 stores of `S1x1x64x256`, checked by the kernel's evaluation: Lib/Ring.lean `Piece.tiledL`, linear in the pieces, through a loop's `@[irreducible]` trip theorem too), so they cover it. -/
theorem cover0_B_4 (c : Dev nD) (i : grid0.Coords) (arg2 : Memref sig .tc .vmem S1x1x768x256 .bf16) (harg2 : arg2.IsWhole) (arg3 : Memref sig .tc .vmem S1x4096x768 .bf16) (harg3 : arg3.IsWhole) (arg4 : Memref sig .tc .vmem S1x768x4096 .bf16) (harg4 : arg4.IsWhole) (arg5 : Memref sig .tc .vmem S12x1152x128 .f32) (harg5 : arg5.IsWhole) (arg6 : Memref sig .tc .vmem S1x1x768x256 .bf16) (harg6 : arg6.IsWhole) (hc0 : cond0_0 i) (hc1 : ¬cond0_1 i)
    (x0 : Vec F S1x1x768x256 .bf16) (x1 : Vec F S1x4096x768 .bf16) (x2 : Vec F S1x768x4096 .bf16) (x3 : Vec F S12x1152x128 .f32) (y : S1x1x768x256.Idx) :
    ∃ pc ∈ (kernelRun0_B c i arg2 harg2 arg3 harg3 arg4 harg4 arg5 harg5 arg6 harg6 hc0 hc1 x0 x1 x2 x3).1, y ∈ pc.1.set :=
  View.cover_of_tiledL (kernelRun0_B c i arg2 harg2 arg3 harg3 arg4 harg4 arg5 harg5 arg6 harg6 hc0 hc1 x0 x1 x2 x3).1 S1x1x64x256.size (by sl_kernel_rfl) y

/-- What case B leaves in output 4's staging buffer: its pieces read back over junk. -/
def out0_B_4 (c : Dev nD) (i : grid0.Coords) (arg2 : Memref sig .tc .vmem S1x1x768x256 .bf16) (harg2 : arg2.IsWhole) (arg3 : Memref sig .tc .vmem S1x4096x768 .bf16) (harg3 : arg3.IsWhole) (arg4 : Memref sig .tc .vmem S1x768x4096 .bf16) (harg4 : arg4.IsWhole) (arg5 : Memref sig .tc .vmem S12x1152x128 .f32) (harg5 : arg5.IsWhole) (arg6 : Memref sig .tc .vmem S1x1x768x256 .bf16) (harg6 : arg6.IsWhole) (hc0 : cond0_0 i) (hc1 : ¬cond0_1 i)
    (x0 : Vec F S1x1x768x256 .bf16) (x1 : Vec F S1x4096x768 .bf16) (x2 : Vec F S1x768x4096 .bf16) (x3 : Vec F S12x1152x128 .f32) : Vec F S1x1x768x256 .bf16 :=
  VO0_4.read (Elt F) (VO0_4.writes (Elt F) VO0_4.junk (kernelRun0_B c i arg2 harg2 arg3 harg3 arg4 harg4 arg5 harg5 arg6 harg6 hc0 hc1 x0 x1 x2 x3).1)

/-! ## What the outputs hold after each point -/

/-- THE ACCUMULATION. What the outputs' staging buffers hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x1x768x256 .bf16
  | 0, hn => out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (fun h => (fun h => by (try dsimp only at h); omega) ((hcond0_0 ⟨0, hn⟩).mp h)) ((hcond0_1 ⟨0, hn⟩).mpr (by (try dsimp only) <;> omega)) (iblk m c 0 ⟨0, hn⟩) (iblk m c 1 ⟨0, hn⟩) (iblk m c 2 ⟨0, hn⟩) (iblk m c 3 ⟨0, hn⟩)
  | n + 1, hn =>
    if h0 : 2 ≤ (n + 1) % 16 then
      if h1 : (n + 1) % 16 ≤ 1 then
        False.elim (by have hN : n + 1 < 128 := lt_of_lt_of_eq hn (show cfg0.N = 128 from N_0); omega)
      else
        out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩)
    else
      if h1 : (n + 1) % 16 ≤ 1 then
        out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩)
      else
        False.elim (by have hN : n + 1 < 128 := lt_of_lt_of_eq hn (show cfg0.N = 128 from N_0); omega)

/-- `outsAt0` at a point of case A: that case's contents. -/
theorem outsAt0_A (c : Dev nD) (t : Fin cfg0.N) (h0 : ¬2 ≤ t.val % 16) (h1 : t.val % 16 ≤ 1) :
    outsAt0 m c t.val t.isLt = out0_A_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) ((hcond0_1 t).mpr h1) (iblk m c 0 t) (iblk m c 1 t) (iblk m c 2 t) (iblk m c 3 t) := by
  obtain ⟨n, hn⟩ := t
  cases n with
  | zero => exact rfl
  | succ n => exact (dif_neg h0).trans ((dif_pos h1).trans rfl)

/-- `outsAt0` at a point of case B: that case's contents. -/
theorem outsAt0_B (c : Dev nD) (t : Fin cfg0.N) (h0 : 2 ≤ t.val % 16) (h1 : ¬t.val % 16 ≤ 1) :
    outsAt0 m c t.val t.isLt = out0_B_4 c (grid0.coords t) (ms0_0 t) (hs0_0 t) (ms0_1 t) (hs0_1 t) (ms0_2 t) (hs0_2 t) (ms0_3 t) (hs0_3 t) (ms0_4 t) (hs0_4 t) ((hcond0_0 t).mpr h0) (fun h => h1 ((hcond0_1 t).mp h)) (iblk m c 0 t) (iblk m c 1 t) (iblk m c 2 t) (iblk m c 3 t) := by
  obtain ⟨n, hn⟩ := t
  cases n with
  | zero => exact (by exfalso; (try dsimp only at h0); exact by omega)
  | succ n => exact (dif_pos h0).trans ((dif_neg h1).trans rfl)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 800000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl]
  have hN : t.val < 128 := lt_of_lt_of_eq t.isLt (show cfg0.N = 128 from N_0)
  by_cases h0 : 2 ≤ t.val % 16
  · by_cases h1 : t.val % 16 ≤ 1
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4_B t ((hcond0_0 t).mpr h0) (fun h => h1 ((hcond0_1 t).mp h))], after0_4]
      rw [outsAt0_B m c t h0 h1]
      unfold out0_B_4
      iintro ⟨HΦ, Ho, ⟨%d0, H0⟩, ⟨%d1, H1⟩, ⟨%d2, H2⟩, ⟨%d3, H3⟩, ⟨%d4, H4⟩⟩
      iapply ((kernelRun0_B c (grid0.coords t) _ _ _ _ _ _ _ _ _ _ ((hcond0_0 t).mpr h0) (fun h => h1 ((hcond0_1 t).mp h)) (iblk m c 0 t) (iblk m c 1 t) (iblk m c 2 t) (iblk m c 3 t)).2 Set.univ _)
      isplitl [H0]; · iexact H0
      isplitl [H1]; · iexact H1
      isplitl [H2]; · iexact H2
      isplitl [H3]; · iexact H3
      isplitl [H4]; · iexists _; iexact H4
      iintro ⟨H0, H1, H2, H3, ⟨%e4, H4⟩⟩
      isplitl [HΦ]; · iexact HΦ
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_B_4 c _ _ _ _ _ _ _ _ _ _ _ _ _ _ _ _ _)
  · by_cases h1 : t.val % 16 ≤ 1
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4_A t (fun h => h0 ((hcond0_0 t).mp h)) ((hcond0_1 t).mpr h1)], after0_4]
      rw [outsAt0_A m c t h0 h1]
      unfold out0_A_4
      iintro ⟨HΦ, Ho, ⟨%d0, H0⟩, ⟨%d1, H1⟩, ⟨%d2, H2⟩, ⟨%d3, H3⟩, ⟨%d4, H4⟩⟩
      iapply ((kernelRun0_A c (grid0.coords t) _ _ _ _ _ _ _ _ _ _ (fun h => h0 ((hcond0_0 t).mp h)) ((hcond0_1 t).mpr h1) (iblk m c 0 t) (iblk m c 1 t) (iblk m c 2 t) (iblk m c 3 t)).2 Set.univ _)
      isplitl [H0]; · iexact H0
      isplitl [H1]; · iexact H1
      isplitl [H2]; · iexact H2
      isplitl [H3]; · iexact H3
      isplitl [H4]; · iexists _; iexact H4
      iintro ⟨H0, H1, H2, H3, ⟨%e4, H4⟩⟩
      isplitl [HΦ]; · iexact HΦ
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_A_4 c _ _ _ _ _ _ _ _ _ _ _ _ _ _ _ _ _)
    · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Gen

end
-- ==== Proof.KernelIdealBlocks.lean ====
/-
  The output array after a run of the idealized kernel, block by block.
-/
module

public import proofs.«01_k».proof.Proof.KernelIdealFrame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- WHAT POINT `t` WRITES BACK to output window 4's array: the run's contents for that window after the body (`Gen.outsAt0`), read through the window's block. -/
theorem flushed4 (c : Dev nD) (t : Fin cfg0.N) :
    (dats m 0 c).flushed 4 t = (cfg0.win 4).cut (grid0.coords t) (outsAt0 m c t.val t.isLt) := by
  show (cfg0.win 4).cut (grid0.coords t) ((dats m 0 c).after 4 t) = _
  rw [after0_4]

/-- … so at a point where case A runs, what its write-back would write is that case's NAMED TERM for the window (`Gen.out0_A_4`: the pieces
    its run found, read back) at the point's memrefs and input blocks, and for an output the case reads back what the point before left (`Gen.outsAt0` at `t - 1`) — by the frame's rewriting lemma for the case. -/
theorem flushed4_A (c : Dev nD) (t : Fin cfg0.N) (h0 : ¬2 ≤ t.val % 16) (h1 : t.val % 16 ≤ 1) :
    (dats m 0 c).flushed 4 t = (cfg0.win 4).cut (grid0.coords t) (out0_A_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) ((hcond0_1 t).mpr h1) (iblk m c 0 t) (iblk m c 1 t) (iblk m c 2 t) (iblk m c 3 t)) := by
  simp only [flushed4, outsAt0_A m c t h0 h1]

/-- … so at a point where case B runs, what its write-back would write is that case's NAMED TERM for the window (`Gen.out0_B_4`: the pieces
    its run found, read back) at the point's memrefs and input blocks, and for an output the case reads back what the point before left (`Gen.outsAt0` at `t - 1`) — by the frame's rewriting lemma for the case. -/
theorem flushed4_B (c : Dev nD) (t : Fin cfg0.N) (h0 : 2 ≤ t.val % 16) (h1 : ¬t.val % 16 ≤ 1) :
    (dats m 0 c).flushed 4 t = (cfg0.win 4).cut (grid0.coords t) (out0_B_4 c (grid0.coords t) (ms0_0 t) (hs0_0 t) (ms0_1 t) (hs0_1 t) (ms0_2 t) (hs0_2 t) (ms0_3 t) (hs0_3 t) (ms0_4 t) (hs0_4 t) ((hcond0_0 t).mpr h0) (fun h => h1 ((hcond0_1 t).mp h)) (iblk m c 0 t) (iblk m c 1 t) (iblk m c 2 t) (iblk m c 3 t)) := by
  simp only [flushed4, outsAt0_B m c t h0 h1]

/-- The index map sends distinct grid points to distinct block indices (decided over the 128 points). -/
theorem idx_inj4 : ∀ t t' : Fin cfg0.N, win0_4.index t = win0_4.index t' → t = t' :=
  (by decide +kernel : ∀ t t' : Fin grid0.N, win0_4.index t = win0_4.index t' → t = t')

/-- So two flushing points' blocks share no array index (Lib/Pipeline/Cells.lean `Window.disjoint_blk`). -/
theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)

/-- BLOCK `t` OF THE FINAL ARRAY, read back through the window, is what point `t` wrote back (`flushed4`), for every
    point that writes back: no other point's block meets it. -/
theorem blocks4 (c : Dev nD) (t : Fin cfg0.N) (hf : (cfg0.win 4).flush t = true) :
    ((cfg0.win 4).blk t).view.read (Elt F) ((dats m 0 c).arrAt 4 cfg0.N) = (dats m 0 c).flushed 4 t :=
  (dats m 0 c).read_blk_arrAt_eq_flushed 4 disjoint4 cfg0.N t t.isLt hf

/-- An index that no flushing point's block covers keeps output window 4's array contents at region entry. -/
theorem entry4 (c : Dev nD) (i : S8x16x768x256.Idx) (h : ∀ t : Fin cfg0.N, (cfg0.win 4).flush t = true → i ∉ ((cfg0.win 4).blk t).view.set) :
    (dats m 0 c).arrAt 4 cfg0.N i = V m c (Pipeline.arrRef spec0 4) i := by
  rw [(dats m 0 c).arrAt_apply_of_forall_not_mem 4 cfg0.N i (fun t _ hf => h t hf), A_eq]

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v0) = (dats m 0 c).arrAt 4 cfg0.N :=
  (h c).1 4

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post4 m r h c,
      kept_main_arg0 m r h c,
      kept_main_arg1 m r h c,
      kept_main_arg2 m r h c,
      kept_main_arg3 m r h c⟩)
    (run_main m ρ)

end Cert.KernelIdeal.Value

end
-- ==== Proof.Grid.lean ====
/-
  The whole result of the attention kernel: what each grid point stores, at the offsets its loads have, and so the array after
  all grid points.
-/
module

public import proofs.«01_k».proof.Proof.Tile
public import proofs.«01_k».proof.Proof.Spec
public import proofs.«01_k».proof.Proof.KernelIdealBlocks
public import Idealize.ShloMosaic.Lib.WholeRead

@[expose] public section

set_option maxRecDepth 16384

noncomputable section

namespace Cert.KernelIdeal.Pair

open Cert.KernelIdeal Cert.KernelIdeal.Gen Cert.KernelIdeal.Facts Idealize.ShloMosaic

/-! ## The offsets -/

/-- The tile's first key. -/
def tileStart (off : Bool) (j : ℕ) : ℕ :=
  match off with
  | true => 256 * j - 512
  | false => 0

/-- The query blocks that use the layout `off`. -/
def Uses (off : Bool) (j : ℕ) : Prop :=
  match off with
  | true => 2 ≤ j
  | false => j ≤ 1

instance (off : Bool) (j : ℕ) : Decidable (Uses off j) := by unfold Uses; cases off <;> infer_instance

theorem keys_at : ∀ (off : Bool) (t : Fin grid0.N), Uses off (t.val % 16) → ∀ p : Fin 6,
    keysAt off p (grid0.coords t) = ![0, tileStart off (t.val % 16), 128 * p.val] := by
  decide +kernel

theorem values_at : ∀ (off : Bool) (t : Fin grid0.N), Uses off (t.val % 16) → ∀ p : Fin 6,
    valuesAt off p (grid0.coords t) = ![0, 128 * p.val, tileStart off (t.val % 16)] := by
  decide +kernel

theorem bias_at : ∀ (off : Bool) (t : Fin grid0.N), Uses off (t.val % 16) → ∀ (p : Fin 6) (g : Fin 4),
    biasAt off p g (grid0.coords t) = ![2 * p.val + g.val / 2, brow (t.val % 16) (128 * (g.val % 2)), 0] := by
  decide +kernel

theorem begins_at : ∀ (off : Bool) (j : Fin 16), Uses off j.val → ∀ g : Fin 4, tileStart off j.val + row0 off g = start j.val (128 * (g.val % 2)) := by
  decide +kernel

theorem tileStart_le : ∀ (off : Bool) (j : Fin 16), tileStart off j.val + 768 ≤ 4096 := by
  decide +kernel

/-! ## A load at an index -/

theorem load3 {a b c a' b' c' : ℕ} {e : EltTy} (m : Memref sig .tc .vmem ⟨3, ![a, b, c]⟩ e) (h : m.IsWhole) (x : (⟨3, ![a, b, c]⟩ : Shape).Idx → Elt Ideal e)
    (o : Fin 3 → ℕ) (ho : ∀ i, o i + (![a', b', c'] : Fin 3 → ℕ) i ≤ (![a, b, c] : Fin 3 → ℕ) i) (o0 o1 o2 : ℕ) (eq : o = ![o0, o1, o2])
    (h0 : o0 + a' ≤ a) (h1 : o1 + b' ≤ b) (h2 : o2 + c' ≤ c) (i : Fin a') (j : Fin b') (k : Fin c') :
    load (s := ⟨3, ![a, b, c]⟩) m h x ![a', b', c'] o ho (ix3 i j k)
      = x (ix3 ⟨o0 + i.val, by omega⟩ ⟨o1 + j.val, by omega⟩ ⟨o2 + k.val, by omega⟩) := by
  subst eq
  unfold load
  rw [Memref.IsWhole.readAt_unread]
  refine congrArg x (funext fun d => Fin.ext ?_)
  match d with
  | ⟨0, _⟩ => show o0 + 1 * i.val = o0 + i.val; omega
  | ⟨1, _⟩ => show o1 + 1 * j.val = o1 + j.val; omega
  | ⟨2, _⟩ => show o2 + 1 * k.val = o2 + k.val; omega

theorem load4 {a b c d a' b' c' d' : ℕ} {e : EltTy} (m : Memref sig .tc .vmem ⟨4, ![a, b, c, d]⟩ e) (h : m.IsWhole)
    (x : (⟨4, ![a, b, c, d]⟩ : Shape).Idx → Elt Ideal e)
    (o : Fin 4 → ℕ) (ho : ∀ i, o i + (![a', b', c', d'] : Fin 4 → ℕ) i ≤ (![a, b, c, d] : Fin 4 → ℕ) i) (o0 o1 o2 o3 : ℕ)
    (eq : o = ![o0, o1, o2, o3]) (h0 : o0 + a' ≤ a) (h1 : o1 + b' ≤ b) (h2 : o2 + c' ≤ c) (h3 : o3 + d' ≤ d)
    (i : Fin a') (j : Fin b') (k : Fin c') (l : Fin d') :
    load (s := ⟨4, ![a, b, c, d]⟩) m h x ![a', b', c', d'] o ho (ix4 i j k l)
      = x (ix4 ⟨o0 + i.val, by omega⟩ ⟨o1 + j.val, by omega⟩ ⟨o2 + k.val, by omega⟩ ⟨o3 + l.val, by omega⟩) := by
  subst eq
  unfold load
  rw [Memref.IsWhole.readAt_unread]
  refine congrArg x (funext fun d => Fin.ext ?_)
  match d with
  | ⟨0, _⟩ => show o0 + 1 * i.val = o0 + i.val; omega
  | ⟨1, _⟩ => show o1 + 1 * j.val = o1 + j.val; omega
  | ⟨2, _⟩ => show o2 + 1 * k.val = o2 + k.val; omega
  | ⟨3, _⟩ => show o3 + 1 * l.val = o3 + l.val; omega

/-! ## What is stored -/

/-- Both stores of a pair hold the entries of the result. -/
theorem two_eq {A0 : S8x16x768x256.Idx → EReal} {A1 : S8x4096x768.Idx → EReal} {A2 : S8x768x4096.Idx → EReal} {A3 : S12x1152x128.Idx → EReal}
    {off : Bool} {p : Fin 6} {b : Fin 8} {j : Fin 16} {k : FVec Ideal S1x768x128 .bf16} {q : FVec Ideal S1x1x128x256 .bf16}
    {w : Fin 4 → FVec Ideal S1x640x128 .f32} {v : FVec Ideal S1x128x768 .bf16} {S : ℕ} {hS : S + 768 ≤ 4096}
    (h : Loads A0 A1 A2 A3 off p b j k q w v S hS) :
    ∀ pc ∈ two off p k q w v, ∀ x : pc.1.shape.Idx,
      pc.2 x = (fun y : S1x1x768x256.Idx => spec A0 A1 A2 A3 b j (y 2) (y 3)) (pc.1.emb x) := by
  intro pc hpc
  unfold two at hpc
  rcases List.mem_pair.mp hpc with rfl | rfl
  · intro (x : S1x1x64x256.Idx)
    obtain ⟨x0, x1, d, l, rfl⟩ : ∃ a b d l, x = ix4 a b d l := ⟨x 0, x 1, x 2, x 3, eq_ix4 x⟩
    obtain rfl : x0 = 0 := Subsingleton.elim _ _
    obtain rfl : x1 = 0 := Subsingleton.elim _ _
    refine (second_eq h d l).trans (congrArg₂ (spec A0 A1 A2 A3 b j) (Fin.ext ?_) (Fin.ext ?_))
    · show 128 * p.val + (64 + d.val) = 64 * (2 * p.val + 1) + 1 * d.val; omega
    · show l.val = 0 + 1 * l.val; omega
  · intro (x : S1x1x64x256.Idx)
    obtain ⟨x0, x1, d, l, rfl⟩ : ∃ a b d l, x = ix4 a b d l := ⟨x 0, x 1, x 2, x 3, eq_ix4 x⟩
    obtain rfl : x0 = 0 := Subsingleton.elim _ _
    obtain rfl : x1 = 0 := Subsingleton.elim _ _
    refine (first_eq h d l).trans (congrArg₂ (spec A0 A1 A2 A3 b j) (Fin.ext ?_) (Fin.ext ?_))
    · show 128 * p.val + d.val = 64 * (2 * p.val) + 1 * d.val; omega
    · show l.val = 0 + 1 * l.val; omega

/-! ## The blocks -/

theorem index0 : ∀ t : Fin grid0.N, win0_0.index t = ![t.val / 16, t.val % 16, 0, 0] := by decide +kernel
theorem index1 : ∀ t : Fin grid0.N, win0_1.index t = ![t.val / 16, 0, 0] := by decide +kernel
theorem index2 : ∀ t : Fin grid0.N, win0_2.index t = ![t.val / 16, 0, 0] := by decide +kernel
theorem index3 : ∀ t : Fin grid0.N, win0_3.index t = ![0, 0, 0] := by decide +kernel
theorem index4 : ∀ t : Fin grid0.N, win0_4.index t = ![t.val / 16, t.val % 16, 0, 0] := by decide +kernel

variable (m : (ℓ : Loc nD τ sig) → Buf (Elt Ideal) ℓ) (c : Dev nD) (t : Fin cfg0.N)

/-- The batch and the query block of a grid point. -/
def batch : Fin 8 := ⟨t.val / 16, by have : t.val < 128 := t.isLt; omega⟩
def block : Fin 16 := ⟨t.val % 16, by omega⟩

theorem iblk0 (f : Fin 768) (l : Fin 256) : iblk m c 0 t (ix4 0 0 f l) = V m c main_arg0 (ix4 (batch t) (block t) f l) := by
  unfold iblk
  refine congrArg (V m c main_arg0) (funext fun d => Fin.ext ?_)
  have h := congrFun (index0 t)
  match d with
  | ⟨0, _⟩ => have h : win0_0.index t 0 = t.val / 16 := h 0; show win0_0.index t 0 * 1 + 1 * 0 = t.val / 16; omega
  | ⟨1, _⟩ => have h : win0_0.index t 1 = t.val % 16 := h 1; show win0_0.index t 1 * 1 + 1 * 0 = t.val % 16; omega
  | ⟨2, _⟩ => have h : win0_0.index t 2 = 0 := h 2; show win0_0.index t 2 * 768 + 1 * f.val = f.val; omega
  | ⟨3, _⟩ => have h : win0_0.index t 3 = 0 := h 3; show win0_0.index t 3 * 256 + 1 * l.val = l.val; omega

theorem iblk1 (r : Fin 4096) (f : Fin 768) : iblk m c 1 t (ix3 0 r f) = V m c main_arg1 (ix3 (batch t) r f) := by
  unfold iblk
  refine congrArg (V m c main_arg1) (funext fun d => Fin.ext ?_)
  have h := congrFun (index1 t)
  match d with
  | ⟨0, _⟩ => have h : win0_1.index t 0 = t.val / 16 := h 0; show win0_1.index t 0 * 1 + 1 * 0 = t.val / 16; omega
  | ⟨1, _⟩ => have h : win0_1.index t 1 = 0 := h 1; show win0_1.index t 1 * 4096 + 1 * r.val = r.val; omega
  | ⟨2, _⟩ => have h : win0_1.index t 2 = 0 := h 2; show win0_1.index t 2 * 768 + 1 * f.val = f.val; omega

theorem iblk2 (f : Fin 768) (r : Fin 4096) : iblk m c 2 t (ix3 0 f r) = V m c main_arg2 (ix3 (batch t) f r) := by
  unfold iblk
  refine congrArg (V m c main_arg2) (funext fun d => Fin.ext ?_)
  have h := congrFun (index2 t)
  match d with
  | ⟨0, _⟩ => have h : win0_2.index t 0 = t.val / 16 := h 0; show win0_2.index t 0 * 1 + 1 * 0 = t.val / 16; omega
  | ⟨1, _⟩ => have h : win0_2.index t 1 = 0 := h 1; show win0_2.index t 1 * 768 + 1 * f.val = f.val; omega
  | ⟨2, _⟩ => have h : win0_2.index t 2 = 0 := h 2; show win0_2.index t 2 * 4096 + 1 * r.val = r.val; omega

theorem iblk3 (a : Fin 12) (r : Fin 1152) (l : Fin 128) : iblk m c 3 t (ix3 a r l) = V m c main_arg3 (ix3 a r l) := by
  unfold iblk
  refine congrArg (V m c main_arg3) (funext fun d => Fin.ext ?_)
  have h := congrFun (index3 t)
  match d with
  | ⟨0, _⟩ => have h : win0_3.index t 0 = 0 := h 0; show win0_3.index t 0 * 12 + 1 * a.val = a.val; omega
  | ⟨1, _⟩ => have h : win0_3.index t 1 = 0 := h 1; show win0_3.index t 1 * 1152 + 1 * r.val = r.val; omega
  | ⟨2, _⟩ => have h : win0_3.index t 2 = 0 := h 2; show win0_3.index t 2 * 128 + 1 * l.val = l.val; omega

/-! ## The loads of one grid point -/

section loads

variable (a2 : Memref sig .tc .vmem S1x1x768x256 .bf16) (h2 : a2.IsWhole) (a3 : Memref sig .tc .vmem S1x4096x768 .bf16) (h3 : a3.IsWhole)
  (a4 : Memref sig .tc .vmem S1x768x4096 .bf16) (h4 : a4.IsWhole) (a5 : Memref sig .tc .vmem S12x1152x128 .f32) (h5 : a5.IsWhole)

/-- The pair's loads are what its window needs. -/
theorem loads (off : Bool) (p : Fin 6) (hu : Uses off (t.val % 16)) (hw : When off (grid0.coords t)) :
    Loads (V m c main_arg0) (V m c main_arg1) (V m c main_arg2) (V m c main_arg3) off p (batch t) (block t)
      (load a3 h3 (iblk m c 1 t) S1x768x128.size (keysAt off p (grid0.coords t)) (keys_fit hw p))
      (load a2 h2 (iblk m c 0 t) S1x1x128x256.size ![0, 0, 128 * p.val, 0] (fits_queries p))
      (fun g => load a5 h5 (iblk m c 3 t) S1x640x128.size (biasAt off p g (grid0.coords t)) (bias_fit hw p g))
      (load a4 h4 (iblk m c 2 t) S1x128x768.size (valuesAt off p (grid0.coords t)) (values_fit hw p))
      (tileStart off (block t).val) (tileStart_le off (block t)) where
  keys r e := by
    refine (load3 a3 h3 _ _ _ 0 (tileStart off (t.val % 16)) (128 * p.val) (keys_at off t hu p) (by omega) (tileStart_le off (block t)) (by omega) 0 r e).trans ?_
    exact iblk1 m c t _ _
  queries e l := by
    refine (load4 a2 h2 _ _ (fits_queries p) 0 0 (128 * p.val) 0 rfl (by omega) (by omega) (by omega) (by omega) 0 0 e l).trans ?_
    refine (iblk0 m c t _ _).trans (congrArg (fun l => V m c main_arg0 (ix4 (batch t) (block t) _ l)) (Fin.ext ?_))
    show 0 + l.val = l.val; omega
  bias g r l := by
    have := brow_le (block t).val (128 * (g.val % 2))
    refine (load3 a5 h5 _ _ (bias_fit hw p g) _ _ 0 (bias_at off t hu p g) (by omega) (by show brow (block t).val _ + 640 ≤ 1152; omega) (by omega) 0 r l).trans ?_
    refine (iblk3 m c t _ _ _).trans (congrArg (V m c main_arg3) (ix3_congr (Fin.ext ?_) rfl (Fin.ext ?_)))
    · show 2 * p.val + g.val / 2 + 0 = 2 * p.val + g.val / 2; omega
    · show 0 + l.val = l.val; omega
  values d r := by
    refine (load3 a4 h4 _ _ _ 0 (128 * p.val) (tileStart off (t.val % 16)) (values_at off t hu p) (by omega) (by omega) (tileStart_le off (block t)) 0 d r).trans ?_
    exact iblk2 m c t _ _
  begins := begins_at off (block t) hu

/-- The block of the result at a grid point. -/
def result (y : S1x1x768x256.Idx) : EReal :=
  spec (V m c main_arg0) (V m c main_arg1) (V m c main_arg2) (V m c main_arg3) (batch t) (block t) (y 2) (y 3)

/-- Everything a pair stores is an entry of the result. -/
theorem stores_eq (off : Bool) (p : Fin 6) (hu : Uses off (t.val % 16)) (hw : When off (grid0.coords t)) :
    ∀ pc ∈ stores off hw p a2 h2 a3 h3 a4 h4 a5 h5 (iblk m c 0 t) (iblk m c 1 t) (iblk m c 2 t) (iblk m c 3 t),
      ∀ x : pc.1.shape.Idx, pc.2 x = result m c t (pc.1.emb x) :=
  two_eq (loads m c t a2 h2 a3 h3 a4 h4 a5 h5 off p hu hw)

end loads

end Cert.KernelIdeal.Pair

end
-- ==== Proof.Result.lean ====
/-
  The whole result of the attention kernel: every entry of the array after all grid points is the softmax-weighted mean `spec`.
-/
module

public import proofs.«01_k».proof.Proof.Grid

@[expose] public section

set_option maxRecDepth 16384

noncomputable section

namespace Cert.KernelIdeal.Pair

open Cert.KernelIdeal Cert.KernelIdeal.Gen Cert.KernelIdeal.Facts Cert.KernelIdeal.Value Idealize.ShloMosaic

variable (m : (ℓ : Loc nD τ sig) → Buf (Elt Ideal) ℓ) (c : Dev nD) (t : Fin cfg0.N)

/-- What a point from the third query block on leaves in the output block. -/
theorem out_B (h0 : 2 ≤ t.val % 16) (h1 : ¬t.val % 16 ≤ 1) (y : S1x1x768x256.Idx) :
    out0_B_4 c (grid0.coords t) (ms0_0 t) (hs0_0 t) (ms0_1 t) (hs0_1 t) (ms0_2 t) (hs0_2 t) (ms0_3 t) (hs0_3 t) (ms0_4 t) (hs0_4 t)
      ((hcond0_0 t).mpr h0) (fun h => h1 ((hcond0_1 t).mp h)) (iblk m c 0 t) (iblk m c 1 t) (iblk m c 2 t) (iblk m c 3 t) y
      = result m c t y := by
  refine View.read_writes_apply_of_pieces (v := VO0_4) (Val := Elt Ideal) (f := VO0_4.junk) (result m c t) _ ?_ y (cover0_B_4 c (grid0.coords t) (ms0_0 t) (hs0_0 t) (ms0_1 t) (hs0_1 t) (ms0_2 t) (hs0_2 t) (ms0_3 t) (hs0_3 t) (ms0_4 t) (hs0_4 t)
      ((hcond0_0 t).mpr h0) (fun h => h1 ((hcond0_1 t).mp h)) (iblk m c 0 t) (iblk m c 1 t) (iblk m c 2 t) (iblk m c 3 t) y)
  rw [pieces_B]
  simp only [List.forall_mem_append]
  refine ⟨⟨⟨⟨⟨?_, ?_⟩, ?_⟩, ?_⟩, ?_⟩, ?_⟩
  · exact stores_eq m c t _ _ _ _ _ _ _ _ true 5 h0 _
  · exact stores_eq m c t _ _ _ _ _ _ _ _ true 4 h0 _
  · exact stores_eq m c t _ _ _ _ _ _ _ _ true 3 h0 _
  · exact stores_eq m c t _ _ _ _ _ _ _ _ true 2 h0 _
  · exact stores_eq m c t _ _ _ _ _ _ _ _ true 1 h0 _
  · exact stores_eq m c t _ _ _ _ _ _ _ _ true 0 h0 _

/-- What a point of the first two query blocks leaves in the output block. -/
theorem out_A (h0 : ¬2 ≤ t.val % 16) (h1 : t.val % 16 ≤ 1) (y : S1x1x768x256.Idx) :
    out0_A_4 c (grid0.coords t) (ms0_0 t) (hs0_0 t) (ms0_1 t) (hs0_1 t) (ms0_2 t) (hs0_2 t) (ms0_3 t) (hs0_3 t) (ms0_4 t) (hs0_4 t)
      (fun h => h0 ((hcond0_0 t).mp h)) ((hcond0_1 t).mpr h1) (iblk m c 0 t) (iblk m c 1 t) (iblk m c 2 t) (iblk m c 3 t) y
      = result m c t y := by
  refine View.read_writes_apply_of_pieces (v := VO0_4) (Val := Elt Ideal) (f := VO0_4.junk) (result m c t) _ ?_ y (cover0_A_4 c (grid0.coords t) (ms0_0 t) (hs0_0 t) (ms0_1 t) (hs0_1 t) (ms0_2 t) (hs0_2 t) (ms0_3 t) (hs0_3 t) (ms0_4 t) (hs0_4 t)
      (fun h => h0 ((hcond0_0 t).mp h)) ((hcond0_1 t).mpr h1) (iblk m c 0 t) (iblk m c 1 t) (iblk m c 2 t) (iblk m c 3 t) y)
  rw [pieces_A]
  simp only [List.forall_mem_append]
  refine ⟨⟨⟨⟨⟨?_, ?_⟩, ?_⟩, ?_⟩, ?_⟩, ?_⟩
  · exact stores_eq m c t _ _ _ _ _ _ _ _ false 5 h1 _
  · exact stores_eq m c t _ _ _ _ _ _ _ _ false 4 h1 _
  · exact stores_eq m c t _ _ _ _ _ _ _ _ false 3 h1 _
  · exact stores_eq m c t _ _ _ _ _ _ _ _ false 2 h1 _
  · exact stores_eq m c t _ _ _ _ _ _ _ _ false 1 h1 _
  · exact stores_eq m c t _ _ _ _ _ _ _ _ false 0 h1 _

/-- Every point writes its block of the result. -/
theorem flushed_eq (l : Fin 256) (f : Fin 768) :
    (dats m 0 c).flushed 4 t (ix4 0 0 f l)
      = spec (V m c main_arg0) (V m c main_arg1) (V m c main_arg2) (V m c main_arg3) (batch t) (block t) f l := by
  by_cases h : 2 ≤ t.val % 16
  · rw [flushed4_B m c t h (by omega)]
    exact out_B m c t h (by omega) (ix4 0 0 f l)
  · rw [flushed4_A m c t h (by omega)]
    exact out_A m c t h (by omega) (ix4 0 0 f l)

theorem flush4 : ∀ t : Fin cfg0.N, (cfg0.win 4).flush t = true :=
  (by decide +kernel : ∀ t : Fin grid0.N, win0_4.flush t = true)

/-- The array after all grid points, entry by entry. -/
theorem array_eq (b : Fin 8) (j : Fin 16) (f : Fin 768) (l : Fin 256) :
    (dats m 0 c).arrAt 4 cfg0.N (ix4 b j f l)
      = spec (V m c main_arg0) (V m c main_arg1) (V m c main_arg2) (V m c main_arg3) b j f l := by
  let t : Fin cfg0.N := ⟨16 * b.val + j.val, (by omega : 16 * b.val + j.val < 128)⟩
  have hb : batch t = b := Fin.ext (by show (16 * b.val + j.val) / 16 = b.val; omega)
  have hj : block t = j := Fin.ext (by show (16 * b.val + j.val) % 16 = j.val; omega)
  have h := congrFun (blocks4 m c t (flush4 t)) (ix4 0 0 f l)
  rw [flushed_eq, hb, hj] at h
  refine Eq.trans (congrArg ((dats m 0 c).arrAt 4 cfg0.N) (funext fun d => Fin.ext ?_)) h
  have hi := congrFun (index4 t)
  match d with
  | ⟨0, _⟩ => have hi : win0_4.index t 0 = (16 * b.val + j.val) / 16 := hi 0; show b.val = win0_4.index t 0 * 1 + 1 * 0; omega
  | ⟨1, _⟩ => have hi : win0_4.index t 1 = (16 * b.val + j.val) % 16 := hi 1; show j.val = win0_4.index t 1 * 1 + 1 * 0; omega
  | ⟨2, _⟩ => have hi : win0_4.index t 2 = 0 := hi 2; show f.val = win0_4.index t 2 * 768 + 1 * f.val; omega
  | ⟨3, _⟩ => have hi : win0_4.index t 3 = 0 := hi 3; show l.val = win0_4.index t 3 * 256 + 1 * l.val; omega

end Cert.KernelIdeal.Pair

end
-- ==== Proof.MixerVocab.lean ====
/-
  What the kernel after the mixers computes for one tile of 512 tokens, as functions of what it loads: the attention over the
  memory, the output projection, the norms, the gated layer in chunks of 256 columns with its causal convolution, and the last
  sum. The printed body repeats the chunk's text eleven times.
-/
module

public import proofs.«01_k».proof.Proof.Gen.Kernel2Ideal

@[expose] public section

set_option maxRecDepth 16384

noncomputable section

namespace Cert.Kernel2Ideal.Tile

open Cert.Kernel2Ideal Cert.Kernel2Ideal.Gen Cert.Kernel2Ideal.Facts Idealize.ShloMosaic

variable {F : FTy → Type} [FloatOps F]

/-- The scores of the tile's queries against the memory's keys, the four heads side by side. -/
def scores (q : FVec F S1x512x256 .bf16) (k : FVec F S1x1x256x1024 .bf16) : FVec F S512x1024 .f32 :=
  matmul dot_S512x256_S256x1024_S512x1024_1_0_0_1_n_n none (shapeCast S512x256 q shapeCasts_S1x512x256_S512x256)
    (shapeCast S256x1024 k shapeCasts_S1x1x256x1024_S256x1024) (constant S512x1024 .f32 0x00000000#32)

/-- A column of row values, repeated along the rows. -/
def wide (x : FVec F S512x1 .f32) : FVec F S512x256 .f32 := broadcastTo S512x256 x broadcasts_S512x1_S512x256

/-- One head's exponentials, each row over its maximum. -/
def ex (s : FVec F S512x256 .f32) : FVec F S512x256 .f32 :=
  exp (subf s (wide (shapeCast S512x1 (multiReduction .maximumf [1] S512 s 0xFF800000#32 reduces_S512x256_S512 (.inl rfl) rfl)
    shapeCasts_S512_S512x1)))

/-- One head's softmax: the exponentials times the reciprocal of their sum. -/
def weights (s : FVec F S512x256 .f32) : FVec F S512x256 .bf16 :=
  truncf .bf16 (mulf (ex s) (wide (divf (broadcast S512x1 (Scalar.ofBits .f32 0x3F800000#32))
    (shapeCast S512x1 (multiReduction .add [1] S512 (ex s) 0x00000000#32 reduces_S512x256_S512 (.inl rfl) rfl)
      shapeCasts_S512_S512x1)))) bitsLt_bf16_f32

theorem slices_head (h : Fin 4) : S512x1024.Slices ![0, 256 * h.val] S512x256 := by
  revert h; decide

/-- Head `h`'s softmax. -/
def head (s : FVec F S512x1024 .f32) (h : Fin 4) : FVec F S512x256 .bf16 :=
  weights (extractStridedSlice S512x256 ![0, 256 * h.val] s (slices_head h))

/-- The heads' weights side by side. -/
def heads (s : FVec F S512x1024 .f32) : FVec F S512x1024 .bf16 :=
  concatenate S512x1024 1 [⟨S512x256, head s 0⟩, ⟨S512x256, head s 1⟩, ⟨S512x256, head s 2⟩, ⟨S512x256, head s 3⟩]
    concatenates_S512x256_S512x256_S512x256_S512x256_S512x1024_d1

/-- A tile times a matrix of 256 columns. -/
def by256 (x : FVec F S512x1024 .bf16) (w : FVec F S1024x256 .bf16) : FVec F S512x256 .f32 :=
  matmul dot_S512x1024_S1024x256_S512x256_1_0_0_1_n_n none x w (constant S512x256 .f32 0x00000000#32)

/-- The attention over the memory, projected. -/
def memory (s : FVec F S512x1024 .f32) (v : FVec F S1x1x1024x256 .bf16) (w : FVec F S256x1024 .bf16) : FVec F S512x1024 .f32 :=
  matmul dot_S512x256_S256x1024_S512x1024_1_0_0_1_n_n none
    (truncf .bf16 (by256 (heads s) (shapeCast S1024x256 v shapeCasts_S1x1x1024x256_S1024x256)) bitsLt_bf16_f32) w
    (constant S512x1024 .f32 0x00000000#32)

/-- Half a tile of the mixed heads, features by tokens, projected. -/
def mixed (x : FVec F S1x1x768x256 .bf16) (w : FVec F S768x1024 .bf16) : FVec F S256x1024 .f32 :=
  matmul dot_S768x256_S768x1024_S256x1024_0_0_1_1_n_n none (shapeCast S768x256 x shapeCasts_S1x1x768x256_S768x256) w
    (constant S256x1024 .f32 0x00000000#32)

/-- The tile plus what the mixers and the memory give. -/
def added (x : FVec F S1x512x1024 .f32) (y : FVec F S512x1024 .f32) (a b : FVec F S256x1024 .f32) : FVec F S512x1024 .f32 :=
  addf (shapeCast S512x1024 x shapeCasts_S1x512x1024_S512x1024)
    (addf y (concatenate S512x1024 0 [⟨S256x1024, a⟩, ⟨S256x1024, b⟩] concatenates_S256x1024_S256x1024_S512x1024_d0))

/-- Each row over its root mean square, times the gains. -/
def norm (x : FVec F S512x1024 .f32) (g : FVec F S1x1024 .f32) : FVec F S512x1024 .f32 :=
  mulf (mulf x (broadcastTo S512x1024 (rsqrt (addf (divf
      (shapeCast S512x1 (multiReduction .add [1] S512 (mulf x x) 0x00000000#32 reduces_S512x1024_S512 (.inl rfl) rfl)
        shapeCasts_S512_S512x1) (broadcast S512x1 (Scalar.ofBits .f32 0x44800000#32)))
      (broadcast S512x1 (Scalar.ofBits .f32 0x358637BD#32)))) broadcasts_S512x1_S512x1024))
    (broadcastTo S512x1024 g broadcasts_S1x1024_S512x1024)

/-- What the gated layer reads. -/
def hidden (x : FVec F S512x1024 .f32) (g : FVec F S1x1024 .f32) : FVec F S512x1024 .bf16 :=
  truncf .bf16 (norm x g) bitsLt_bf16_f32

/-- 256 columns of the gated layer's first product. -/
def up (h : FVec F S512x1024 .bf16) (w : FVec F S1x1024x256 .bf16) : FVec F S512x256 .f32 :=
  by256 h (shapeCast S1024x256 w shapeCasts_S1x1024x256_S1024x256)

/-- The rows `n` earlier: inside the tile by a rotation, the first ones from the last eight rows of the tile before. -/
def back (n : BitVec 32) (g : FVec F S512x256 .f32) (p : FVec F S8x256 .f32) : FVec F S512x256 .f32 :=
  concatenate S512x256 0
    [⟨S8x256, select (cmpi .slt (iota .tc S8x256 32 [0] iota_S8x256_d0_w32) (broadcast S8x256 n))
        (dynamicRotate 0 n none p rotates_S8x256_d0)
        (dynamicRotate 0 n none (extractStridedSlice S8x256 ![0, 0] g slices_S512x256_o0_0_S8x256) rotates_S8x256_d0)⟩,
      ⟨S504x256, extractStridedSlice S504x256 ![8, 0] (dynamicRotate 0 n none g rotates_S512x256_d0) slices_S512x256_o8_0_S504x256⟩]
    concatenates_S8x256_S504x256_S512x256_d0

theorem slices_tap (k : Fin 3) : S3x256.Slices ![k.val, 0] S1x256 := by
  revert k; decide

/-- Tap `k`'s weights, repeated along the rows. -/
def tap (w : FVec F S3x256 .f32) (k : Fin 3) : FVec F S512x256 .f32 :=
  broadcastTo S512x256 (extractStridedSlice S1x256 ![k.val, 0] w (slices_tap k)) broadcasts_S1x256_S512x256

/-- The causal convolution of the gate with three taps. -/
def gate (g : FVec F S512x256 .f32) (p : FVec F S8x256 .f32) (w : FVec F S3x256 .f32) (b : FVec F S1x256 .f32) : FVec F S512x256 .f32 :=
  addf (addf (addf (mulf (tap w 2) g) (mulf (tap w 1) (back 1#32 g p))) (mulf (tap w 0) (back 2#32 g p)))
    (broadcastTo S512x256 b broadcasts_S1x256_S512x256)

/-- The gated value: the gate times its sigmoid, written with a hyperbolic tangent, times the other half. -/
def act (u c : FVec F S512x256 .f32) : FVec F S512x256 .bf16 :=
  let h : FVec F S512x256 .f32 := mulf (broadcast S512x256 (Scalar.ofBits .f32 0x3F000000#32)) c
  shapeCast S512x256 (truncf .bf16 (mulf (addf h (mulf h (tanh h))) u) bitsLt_bf16_f32) shapeCasts_S512x256_S512x256

/-- The last eight rows. -/
def tail (g : FVec F S512x256 .f32) : FVec F S8x256 .f32 :=
  shapeCast S8x256 (extractStridedSlice S8x256 ![504, 0] g slices_S512x256_o504_0_S8x256) shapeCasts_S8x256_S8x256

/-- Eight rows of zeros: what stands before a sequence's first token. -/
def zeros : FVec F S8x2816 .f32 :=
  shapeCast S8x2816 (broadcast S8x2816 (Scalar.ofBits .f32 0x00000000#32)) shapeCasts_S8x2816_S8x2816

/-- The tile plus the gated layer's second product. -/
def down (x : FVec F S512x1024 .f32) (a : FVec F S512x2816 .bf16) (w : FVec F S1x2816x1024 .bf16) : FVec F S512x1024 .f32 :=
  addf x (matmul dot_S512x2816_S2816x1024_S512x1024_1_0_0_1_n_n none a (shapeCast S2816x1024 w shapeCasts_S1x2816x1024_S2816x1024)
    (constant S512x1024 .f32 0x00000000#32))

/-- The last norm, as the stored block. -/
def last (x : FVec F S512x1024 .f32) (g : FVec F S1x1024 .f32) : FVec F S1x512x1024 .f32 :=
  shapeCast S1x512x1024 (norm x g) shapeCasts_S512x1024_S1x512x1024

/-- What the body loads of its blocks: of the stacked weights, the columns of each chunk. -/
structure Loads (F : FTy → Type) where
  x : FVec F S1x512x1024 .f32
  m : Fin 2 → FVec F S1x1x768x256 .bf16
  q : FVec F S1x512x256 .bf16
  k : FVec F S1x1x256x1024 .bf16
  v : FVec F S1x1x1024x256 .bf16
  wup : Fin 22 → FVec F S1x1024x256 .bf16
  wdown : FVec F S1x2816x1024 .bf16
  wmix : FVec F S768x1024 .bf16
  wmem : FVec F S256x1024 .bf16
  g : FVec F S1x1024 .f32
  taps : Fin 11 → FVec F S3x256 .f32
  bias : Fin 11 → FVec F S1x256 .f32
  gl : FVec F S1x1024 .f32

namespace Loads

variable (L : Loads F)

/-- The tile after the mixers. -/
def mid : FVec F S512x1024 .f32 :=
  added L.x (memory (scores L.q L.k) L.v L.wmem) (mixed (L.m 0) L.wmix) (mixed (L.m 1) L.wmix)

/-- What the gated layer reads. -/
def hid : FVec F S512x1024 .bf16 := hidden L.mid L.g

/-- Chunk `c` of the gated layer's values, and of its gate before the convolution. -/
def value (c : Fin 11) : FVec F S512x256 .f32 := up L.hid (L.wup ⟨c.val, by omega⟩)
def raw (c : Fin 11) : FVec F S512x256 .f32 := up L.hid (L.wup ⟨11 + c.val, by omega⟩)

/-- Chunk `c` of the gated values, over the last rows `p` of the tile before. -/
def gated (p : FVec F S8x256 .f32) (c : Fin 11) : FVec F S512x256 .bf16 :=
  act (L.value c) (gate (L.raw c) p (L.taps c) (L.bias c))

end Loads

end Cert.Kernel2Ideal.Tile

end
-- ==== Proof.MixerValue.lean ====
/-
  The parts of the kernel after the mixers, at an index: sums over features, a softmax per head, a root mean square per row, and
  the convolution's three rows of the gate.
-/
module

public import proofs.«01_k».proof.Proof.MixerVocab
public import Idealize.ShloMosaic.Lib.Pointwise
public import Idealize.ShloMosaic.Lib.ValueIdx
public import Idealize.ShloMosaic.Lib.Pipeline.Value
public import Idealize.ShloMosaic.PureOps.Ideal.Laws

@[expose] public section

set_option maxRecDepth 16384

noncomputable section

namespace Cert.Kernel2Ideal.Tile

open Cert.Kernel2Ideal Cert.Kernel2Ideal.Gen Cert.Kernel2Ideal.Facts Idealize.ShloMosaic

/-- A softmax over 256 scores. -/
def soft (s : Fin 256 → EReal) (r : Fin 256) : EReal :=
  Ideal.exp (s r - Finset.univ.sup s) * Ideal.div 1 (∑ r, Ideal.exp (s r - Finset.univ.sup s))

/-- The reciprocal root of a row's mean square, of 1024 entries. -/
def scale (x : Fin 1024 → EReal) : EReal :=
  Ideal.rsqrt (Ideal.div (∑ e, x e * x e) (Ideal.ofBits .f32 0x44800000#32) + Ideal.ofBits .f32 0x358637BD#32)

/-- A row over its root mean square, times the gains. -/
def rms (x g : Fin 1024 → EReal) (d : Fin 1024) : EReal := x d * scale x * g d

/-- A gate times its sigmoid, with the hyperbolic tangent of half of it. -/
def swish (y : EReal) : EReal :=
  let h := Ideal.ofBits .f32 0x3F000000#32 * y
  h + h * Ideal.tanh h

theorem scores_apply (q : FVec Ideal S1x512x256 .bf16) (k : FVec Ideal S1x1x256x1024 .bf16) (i : Fin 512) (c : Fin 1024) :
    scores q k (ix2 i c) = ∑ e : Fin 256, q (ix3 0 i e) * k (ix4 0 0 e c) := by
  unfold scores
  pointwise

theorem ex_apply (s : FVec Ideal S512x256 .f32) (i : Fin 512) (r : Fin 256) :
    ex s (ix2 i r) = Ideal.exp (s (ix2 i r) - Finset.univ.sup fun r => s (ix2 i r)) := by
  unfold ex wide
  pointwise
  rw [show Ideal.ofBits FTy.f32 4286578688#32 = ⊥ by simp [Ideal.ofBits, Ideal.ieee]]
  rfl

theorem weights_apply (s : FVec Ideal S512x256 .f32) (i : Fin 512) (r : Fin 256) :
    weights s (ix2 i r) = soft (fun r => s (ix2 i r)) r := by
  unfold weights wide soft
  pointwise
  simp only [ex_apply]

theorem head_apply (s : FVec Ideal S512x1024 .f32) (h : Fin 4) (i : Fin 512) (r : Fin 256) :
    head s h (ix2 i r) = soft (fun r => s (ix2 i ⟨256 * h.val + r.val, by omega⟩)) r := by
  unfold head
  rw [weights_apply]
  refine congrArg (fun f => soft f r) (funext fun r => ?_)
  refine extractStridedSlice_apply _ s _ _ _ fun a => ?_
  match a with
  | ⟨0, _⟩ => show i.val = 0 + i.val; omega
  | ⟨1, _⟩ => rfl

theorem heads_apply (s : FVec Ideal S512x1024 .f32) (i : Fin 512) (c : Fin 1024) :
    heads s (ix2 i c) = soft (fun r => s (ix2 i ⟨256 * (c.val / 256) + r.val, by omega⟩)) ⟨c.val % 256, by omega⟩ := by
  refine Eq.trans ?_ (head_apply s ⟨c.val / 256, by omega⟩ i ⟨c.val % 256, by omega⟩)
  refine concatenate_ofFn_apply (t := S512x1024) (s₁ := S512x256) 1 (head s) _ rfl 256 rfl _ ⟨c.val / 256, by omega⟩ ?_ _ ?_ ?_
  · rfl
  · rfl
  · intro b hb
    match b, hb with
    | ⟨0, _⟩, _ => rfl
    | ⟨1, _⟩, hb => exact absurd rfl hb

theorem by256_apply (x : FVec Ideal S512x1024 .bf16) (w : FVec Ideal S1024x256 .bf16) (i : Fin 512) (c : Fin 256) :
    by256 x w (ix2 i c) = ∑ d : Fin 1024, x (ix2 i d) * w (ix2 d c) := by
  unfold by256
  pointwise

theorem memory_apply (s : FVec Ideal S512x1024 .f32) (v : FVec Ideal S1x1x1024x256 .bf16) (w : FVec Ideal S256x1024 .bf16) (i : Fin 512)
    (d : Fin 1024) : memory s v w (ix2 i d) = ∑ e : Fin 256, (∑ c : Fin 1024, heads s (ix2 i c) * v (ix4 0 0 c e)) * w (ix2 e d) := by
  unfold memory
  pointwise
  refine Finset.sum_congr rfl fun e _ => ?_
  rw [by256_apply]
  pointwise

theorem mixed_apply (x : FVec Ideal S1x1x768x256 .bf16) (w : FVec Ideal S768x1024 .bf16) (l : Fin 256) (d : Fin 1024) :
    mixed x w (ix2 l d) = ∑ f : Fin 768, x (ix4 0 0 f l) * w (ix2 f d) := by
  unfold mixed
  pointwise

theorem added_apply (x : FVec Ideal S1x512x1024 .f32) (y : FVec Ideal S512x1024 .f32) (a : Fin 2 → FVec Ideal S256x1024 .f32) (i : Fin 512)
    (d : Fin 1024) : added x y (a 0) (a 1) (ix2 i d)
      = x (ix3 0 i d) + (y (ix2 i d) + a ⟨i.val / 256, by omega⟩ (ix2 ⟨i.val % 256, by omega⟩ d)) := by
  have h : concatenate S512x1024 0 [⟨S256x1024, a 0⟩, ⟨S256x1024, a 1⟩] concatenates_S256x1024_S256x1024_S512x1024_d0 (ix2 i d)
      = a ⟨i.val / 256, by omega⟩ (ix2 ⟨i.val % 256, by omega⟩ d) := by
    refine concatenate_ofFn_apply (t := S512x1024) (s₁ := S256x1024) 0 a _ rfl 256 rfl _ ⟨i.val / 256, by omega⟩ ?_ _ ?_ ?_
    · rfl
    · rfl
    · intro b hb
      match b, hb with
      | ⟨0, _⟩, hb => exact absurd rfl hb
      | ⟨1, _⟩, _ => rfl
  rw [← h]
  unfold added
  pointwise

theorem norm_apply (x : FVec Ideal S512x1024 .f32) (g : FVec Ideal S1x1024 .f32) (i : Fin 512) (d : Fin 1024) :
    norm x g (ix2 i d) = rms (fun e => x (ix2 i e)) (fun e => g (ix2 0 e)) d := by
  unfold norm rms scale
  pointwise

theorem hidden_apply (x : FVec Ideal S512x1024 .f32) (g : FVec Ideal S1x1024 .f32) (i : Fin 512) (d : Fin 1024) :
    hidden x g (ix2 i d) = rms (fun e => x (ix2 i e)) (fun e => g (ix2 0 e)) d := norm_apply x g i d

theorem last_apply (x : FVec Ideal S512x1024 .f32) (g : FVec Ideal S1x1024 .f32) (i : Fin 512) (d : Fin 1024) :
    last x g (ix3 0 i d) = rms (fun e => x (ix2 i e)) (fun e => g (ix2 0 e)) d := by
  rw [← norm_apply]
  unfold last
  pointwise

theorem up_apply (h : FVec Ideal S512x1024 .bf16) (w : FVec Ideal S1x1024x256 .bf16) (i : Fin 512) (c : Fin 256) :
    up h w (ix2 i c) = ∑ d : Fin 1024, h (ix2 i d) * w (ix3 0 d c) := by
  unfold up
  rw [by256_apply]
  pointwise

theorem tail_apply (g : FVec Ideal S512x256 .f32) (i : Fin 8) (c : Fin 256) : tail g (ix2 i c) = g (ix2 ⟨504 + i.val, by omega⟩ c) := by
  unfold tail
  pointwise

theorem zeros_apply (i : S8x2816.Idx) : zeros (F := Ideal) i = 0 := Ideal.ofBits_zero .f32

theorem tap_apply (w : FVec Ideal S3x256 .f32) (k : Fin 3) (i : Fin 512) (c : Fin 256) : tap w k (ix2 i c) = w (ix2 k c) := by
  unfold tap
  pointwise

theorem early (n : Fin 3) (i : Fin 8) : IntOp.cmpi CmpIPredicate.slt (BitVec.ofNat 32 i.val) (BitVec.ofNat 32 n.val)
    = if i.val < n.val then 1#1 else 0#1 := by
  revert n i; decide

/-- The row `n` earlier: of the tile, or of the last rows of the tile before. -/
theorem back_apply (n : Fin 3) (g : FVec Ideal S512x256 .f32) (p : FVec Ideal S8x256 .f32) (i : Fin 512) (c : Fin 256) :
    back (BitVec.ofNat 32 n.val) g p (ix2 i c) = if n.val ≤ i.val then g (ix2 ⟨i.val - n.val, by omega⟩ c)
      else p (ix2 ⟨(8 + i.val - n.val) % 8, by omega⟩ c) := by
  unfold back
  pointwise
  have hn : (BitVec.ofNat 32 n.val).toNat = n.val := by revert n; decide
  by_cases h : i.val < 8
  · simp only [h, dif_pos]
    rw [show IntOp.cmpi CmpIPredicate.slt (BitVec.ofNat 32 i.val) (BitVec.ofNat 32 n.val) = _ from early n ⟨i.val, h⟩]
    by_cases h2 : n.val ≤ i.val
    · rw [if_neg (show ¬ i.val < n.val by omega), if_pos h2]
      refine congrArg g (congrArg (fun r => ix2 r c) (Fin.ext ?_))
      show (i.val + 8 - (BitVec.ofNat 32 n.val).toNat % 8) % 8 = i.val - n.val
      omega
    · rw [if_pos (show i.val < n.val by omega), if_neg h2]
      refine congrArg p (congrArg (fun r => ix2 r c) (Fin.ext ?_))
      show (i.val + 8 - (BitVec.ofNat 32 n.val).toNat % 8) % 8 = (8 + i.val - n.val) % 8
      omega
  · simp only [h, dif_neg, not_false_eq_true]
    rw [if_pos (show n.val ≤ i.val by omega)]
    refine congrArg g (congrArg (fun r => ix2 r c) (Fin.ext ?_))
    show (8 + (i.val - 8) + 512 - (BitVec.ofNat 32 n.val).toNat % 512) % 512 = i.val - n.val
    omega

/-- The gate's entry: its own row and the two before, each times its tap, plus the bias. -/
theorem gate_apply (g : FVec Ideal S512x256 .f32) (p : FVec Ideal S8x256 .f32) (w : FVec Ideal S3x256 .f32) (b : FVec Ideal S1x256 .f32)
    (i : Fin 512) (c : Fin 256) : gate g p w b (ix2 i c)
      = w (ix2 2 c) * g (ix2 i c) + w (ix2 1 c) * back 1#32 g p (ix2 i c) + w (ix2 0 c) * back 2#32 g p (ix2 i c) + b (ix2 0 c) := by
  unfold gate
  pointwise
  simp only [tap_apply]

theorem act_apply (u c : FVec Ideal S512x256 .f32) (i : Fin 512) (f : Fin 256) : act u c (ix2 i f) = swish (c (ix2 i f)) * u (ix2 i f) := by
  unfold act swish
  pointwise

theorem down_apply (x : FVec Ideal S512x1024 .f32) (a : FVec Ideal S512x2816 .bf16) (w : FVec Ideal S1x2816x1024 .bf16) (i : Fin 512)
    (d : Fin 1024) : down x a w (ix2 i d) = x (ix2 i d) + ∑ f : Fin 2816, a (ix2 i f) * w (ix3 0 f d) := by
  unfold down
  pointwise

end Cert.Kernel2Ideal.Tile

end
-- ==== Proof.MixerSpec.lean ====
/-
  What follows the mixers, as a function of the whole arrays, and the tile's parts as that function's entries.
-/
module

public import proofs.«01_k».proof.Proof.MixerValue

@[expose] public section

set_option maxRecDepth 16384

noncomputable section

namespace Cert.Kernel2Ideal.Tile

open Cert.Kernel2Ideal Cert.Kernel2Ideal.Gen Cert.Kernel2Ideal.Facts Idealize.ShloMosaic

/-- The whole arrays: the stream, the mixed heads, the memory's queries, keys and values, the weights and the gains. -/
structure Arrays where
  x : S8x4096x1024.Idx → EReal
  mix : S8x16x768x256.Idx → EReal
  q : S8x4096x256.Idx → EReal
  k : S2x8x256x1024.Idx → EReal
  v : S2x8x1024x256.Idx → EReal
  wup : S2x1024x5632.Idx → EReal
  wdown : S2x2816x1024.Idx → EReal
  wout : S1024x1024.Idx → EReal
  g : S1x1024.Idx → EReal
  taps : S3x2816.Idx → EReal
  bias : S1x2816.Idx → EReal
  gl : S1x1024.Idx → EReal

namespace Arrays

variable (A : Arrays) (ly : Fin 2) (b : Fin 8) (p : Fin 4096)

/-- The score of token `p` against column `c`: memory slot `c % 256` in head `c / 256`. -/
def score (c : Fin 1024) : EReal := ∑ e : Fin 256, A.q (ix3 b p e) * A.k (ix4 ly b e c)

/-- The softmax of a head's scores. -/
def prob (c : Fin 1024) : EReal := soft (fun r => A.score ly b p ⟨256 * (c.val / 256) + r.val, by omega⟩) ⟨c.val % 256, by omega⟩

/-- What the attention over the memory gives. -/
def mem (e : Fin 256) : EReal := ∑ c : Fin 1024, A.prob ly b p c * A.v (ix4 ly b c e)

/-- The stream after the output projection. -/
def mid (d : Fin 1024) : EReal :=
  A.x (ix3 b p d) + ((∑ e : Fin 256, A.mem ly b p e * A.wout (ix2 ⟨768 + e.val, by omega⟩ d))
    + ∑ f : Fin 768, A.mix (ix4 b ⟨p.val / 256, by omega⟩ f ⟨p.val % 256, by omega⟩) * A.wout (ix2 ⟨f.val, by omega⟩ d))

/-- What the gated layer reads. -/
def hid (d : Fin 1024) : EReal := rms (A.mid ly b p) (fun e => A.g (ix2 0 e)) d

/-- Column `n` of the gated layer's first product. -/
def first (n : Fin 5632) : EReal := ∑ d : Fin 1024, A.hid ly b p d * A.wup (ix3 ly d n)

/-- The gate before the convolution. -/
def raw (f : Fin 2816) : EReal := A.first ly b p ⟨2816 + f.val, by omega⟩

/-- The gate `n` tokens earlier, zero before the sequence's first. -/
def prev (n : ℕ) (f : Fin 2816) : EReal := if h : n ≤ p.val then A.raw ly b ⟨p.val - n, by omega⟩ f else 0

/-- The gate after the causal convolution. -/
def conv (f : Fin 2816) : EReal :=
  A.taps (ix2 2 f) * A.raw ly b p f + A.taps (ix2 1 f) * A.prev ly b p 1 f + A.taps (ix2 0 f) * A.prev ly b p 2 f + A.bias (ix2 0 f)

/-- The gated value. -/
def gated (f : Fin 2816) : EReal := swish (A.conv ly b p f) * A.first ly b p ⟨f.val, by omega⟩

/-- The stream after the gated layer. -/
def out (d : Fin 1024) : EReal := A.mid ly b p d + ∑ f : Fin 2816, A.gated ly b p f * A.wdown (ix3 ly f d)

/-- The stream after the last norm. -/
def final (d : Fin 1024) : EReal := rms (A.out ly b p) (fun e => A.gl (ix2 0 e)) d

/-- The gate's last eight rows before tile `j`, zero before the first tile. -/
def before (j : ℕ) (i : Fin 8) (f : Fin 2816) : EReal :=
  if h : 8 ≤ 512 * j + i.val ∧ j ≤ 8 then A.raw ly b ⟨512 * j + i.val - 8, by omega⟩ f else 0

end Arrays

/-- The loads of tile `j` of sequence `b`, with the weights of layer `ly`, are their parts of the arrays. -/
structure Fits (A : Arrays) (ly : Fin 2) (b : Fin 8) (j : Fin 8) (L : Loads Ideal) : Prop where
  x : ∀ (i : Fin 512) (d : Fin 1024), L.x (ix3 0 i d) = A.x (ix3 b ⟨512 * j.val + i.val, by omega⟩ d)
  m : ∀ (h : Fin 2) (f : Fin 768) (l : Fin 256), L.m h (ix4 0 0 f l) = A.mix (ix4 b ⟨2 * j.val + h.val, by omega⟩ f l)
  q : ∀ (i : Fin 512) (e : Fin 256), L.q (ix3 0 i e) = A.q (ix3 b ⟨512 * j.val + i.val, by omega⟩ e)
  k : ∀ (e : Fin 256) (c : Fin 1024), L.k (ix4 0 0 e c) = A.k (ix4 ly b e c)
  v : ∀ (c : Fin 1024) (e : Fin 256), L.v (ix4 0 0 c e) = A.v (ix4 ly b c e)
  wup : ∀ (c : Fin 22) (d : Fin 1024) (n : Fin 256), L.wup c (ix3 0 d n) = A.wup (ix3 ly d ⟨256 * c.val + n.val, by omega⟩)
  wdown : ∀ (f : Fin 2816) (d : Fin 1024), L.wdown (ix3 0 f d) = A.wdown (ix3 ly f d)
  wmix : ∀ (f : Fin 768) (d : Fin 1024), L.wmix (ix2 f d) = A.wout (ix2 ⟨f.val, by omega⟩ d)
  wmem : ∀ (e : Fin 256) (d : Fin 1024), L.wmem (ix2 e d) = A.wout (ix2 ⟨768 + e.val, by omega⟩ d)
  g : ∀ d : Fin 1024, L.g (ix2 0 d) = A.g (ix2 0 d)
  taps : ∀ (c : Fin 11) (k : Fin 3) (n : Fin 256), L.taps c (ix2 k n) = A.taps (ix2 k ⟨256 * c.val + n.val, by omega⟩)
  bias : ∀ (c : Fin 11) (n : Fin 256), L.bias c (ix2 0 n) = A.bias (ix2 0 ⟨256 * c.val + n.val, by omega⟩)
  gl : ∀ d : Fin 1024, L.gl (ix2 0 d) = A.gl (ix2 0 d)

section tile

variable {A : Arrays} {ly : Fin 2} {b : Fin 8} {j : Fin 8} {L : Loads Ideal} (h : Fits A ly b j L)
include h

/-- Row `i`'s token. -/
abbrev tok (j : Fin 8) (i : Fin 512) : Fin 4096 := ⟨512 * j.val + i.val, by omega⟩

theorem prob_eq (i : Fin 512) (c : Fin 1024) : heads (scores L.q L.k) (ix2 i c) = A.prob ly b (tok j i) c := by
  rw [heads_apply]
  unfold Arrays.prob
  refine congrArg (fun f => soft f _) (funext fun r => ?_)
  rw [scores_apply]
  unfold Arrays.score
  exact Finset.sum_congr rfl fun e _ => by rw [h.q, h.k]

theorem mid_eq (i : Fin 512) (d : Fin 1024) : L.mid (ix2 i d) = A.mid ly b (tok j i) d := by
  have hm := added_apply L.x (memory (scores L.q L.k) L.v L.wmem) (fun n => mixed (L.m n) L.wmix) i d
  refine hm.trans ?_
  unfold Arrays.mid Arrays.mem
  rw [h.x, memory_apply, mixed_apply]
  refine congrArg₂ (fun y z : EReal => _ + (y + z)) (Finset.sum_congr rfl fun e _ => ?_) (Finset.sum_congr rfl fun f _ => ?_)
  · rw [h.wmem]
    refine congrArg (fun y : EReal => y * _) (Finset.sum_congr rfl fun c _ => ?_)
    rw [prob_eq h, h.v]
  · rw [h.m, h.wmix]
    refine congrArg (fun y : EReal => y * _) (congrArg A.mix (funext fun a => Fin.ext ?_))
    match a with
    | ⟨0, _⟩ => rfl
    | ⟨1, _⟩ => show 2 * j.val + i.val / 256 = (512 * j.val + i.val) / 256; omega
    | ⟨2, _⟩ => rfl
    | ⟨3, _⟩ => show i.val % 256 = (512 * j.val + i.val) % 256; omega

theorem hid_eq (i : Fin 512) (d : Fin 1024) : L.hid (ix2 i d) = A.hid ly b (tok j i) d := by
  refine (hidden_apply L.mid L.g i d).trans ?_
  unfold Arrays.hid
  exact congrArg₂ (fun y z => rms y z d) (funext fun e => mid_eq h i e) (funext fun e => h.g e)

theorem up_eq (c : Fin 22) (i : Fin 512) (n : Fin 256) :
    up L.hid (L.wup c) (ix2 i n) = A.first ly b (tok j i) ⟨256 * c.val + n.val, by omega⟩ := by
  rw [up_apply]
  unfold Arrays.first
  exact Finset.sum_congr rfl fun d _ => by rw [hid_eq h, h.wup]

theorem value_eq (c : Fin 11) (i : Fin 512) (n : Fin 256) :
    L.value c (ix2 i n) = A.first ly b (tok j i) ⟨256 * c.val + n.val, by omega⟩ := up_eq h _ i n

theorem raw_eq (c : Fin 11) (i : Fin 512) (n : Fin 256) :
    L.raw c (ix2 i n) = A.raw ly b (tok j i) ⟨256 * c.val + n.val, by omega⟩ := by
  refine (up_eq h _ i n).trans (congrArg (A.first ly b (tok j i)) (Fin.ext ?_))
  show 256 * (11 + c.val) + n.val = 2816 + (256 * c.val + n.val); omega

theorem back_eq (c : Fin 11) (q : FVec Ideal S8x256 .f32)
    (hq : ∀ (i : Fin 8) (n : Fin 256), q (ix2 i n) = A.before ly b j.val i ⟨256 * c.val + n.val, by omega⟩)
    (k : Fin 3) (i : Fin 512) (n : Fin 256) :
    back (BitVec.ofNat 32 k.val) (L.raw c) q (ix2 i n) = A.prev ly b (tok j i) k.val ⟨256 * c.val + n.val, by omega⟩ := by
  rw [back_apply]
  unfold Arrays.prev
  by_cases hk : k.val ≤ i.val
  · rw [if_pos hk, dif_pos (show k.val ≤ 512 * j.val + i.val by omega), raw_eq h]
    refine congrArg (fun t => A.raw ly b t _) (Fin.ext ?_)
    show 512 * j.val + (i.val - k.val) = 512 * j.val + i.val - k.val; omega
  · rw [if_neg hk, hq]
    unfold Arrays.before
    by_cases hj : k.val ≤ 512 * j.val + i.val
    · rw [dif_pos (show 8 ≤ 512 * j.val + (8 + i.val - k.val) % 8 ∧ j.val ≤ 8 by omega), dif_pos hj]
      refine congrArg (fun t => A.raw ly b t _) (Fin.ext ?_)
      show 512 * j.val + (8 + i.val - k.val) % 8 - 8 = 512 * j.val + i.val - k.val; omega
    · rw [dif_neg (show ¬(8 ≤ 512 * j.val + (8 + i.val - k.val) % 8 ∧ j.val ≤ 8) by omega), dif_neg hj]

theorem gated_eq (c : Fin 11) (q : FVec Ideal S8x256 .f32)
    (hq : ∀ (i : Fin 8) (n : Fin 256), q (ix2 i n) = A.before ly b j.val i ⟨256 * c.val + n.val, by omega⟩)
    (i : Fin 512) (n : Fin 256) : L.gated q c (ix2 i n) = A.gated ly b (tok j i) ⟨256 * c.val + n.val, by omega⟩ := by
  have h1 := back_eq h c q hq 1 i n
  have h2 := back_eq h c q hq 2 i n
  refine (act_apply (L.value c) (gate (L.raw c) q (L.taps c) (L.bias c)) i n).trans ?_
  have hg : gate (L.raw c) q (L.taps c) (L.bias c) (ix2 i n) = A.conv ly b (tok j i) ⟨256 * c.val + n.val, by omega⟩ := by
    rw [gate_apply, h.taps, h.taps, h.taps, h.bias, raw_eq h, show back 1#32 (L.raw c) q (ix2 i n) = _ from h1,
      show back 2#32 (L.raw c) q (ix2 i n) = _ from h2]
    rfl
  rw [hg, value_eq h]
  rfl

theorem out_eq (a : FVec Ideal S512x2816 .bf16) (ha : ∀ (i : Fin 512) (f : Fin 2816), a (ix2 i f) = A.gated ly b (tok j i) f)
    (i : Fin 512) (d : Fin 1024) : down L.mid a L.wdown (ix2 i d) = A.out ly b (tok j i) d := by
  rw [down_apply, mid_eq h]
  unfold Arrays.out
  exact congrArg (fun y : EReal => _ + y) (Finset.sum_congr rfl fun f _ => by rw [ha, h.wdown])

theorem final_eq (a : FVec Ideal S512x2816 .bf16) (ha : ∀ (i : Fin 512) (f : Fin 2816), a (ix2 i f) = A.gated ly b (tok j i) f)
    (i : Fin 512) (d : Fin 1024) : last (down L.mid a L.wdown) L.gl (ix3 0 i d) = A.final ly b (tok j i) d := by
  rw [last_apply]
  unfold Arrays.final
  exact congrArg₂ (fun y z => rms y z d) (funext fun e => out_eq h a ha i e) (funext fun e => h.gl e)

theorem tail_eq (c : Fin 11) (i : Fin 8) (n : Fin 256) :
    tail (L.raw c) (ix2 i n) = A.before ly b (j.val + 1) i ⟨256 * c.val + n.val, by omega⟩ := by
  rw [tail_apply, raw_eq h]
  unfold Arrays.before
  rw [dif_pos (show 8 ≤ 512 * (j.val + 1) + i.val ∧ j.val + 1 ≤ 8 by omega)]
  refine congrArg (fun t => A.raw ly b t _) (Fin.ext ?_)
  show 512 * j.val + (504 + i.val) = 512 * (j.val + 1) + i.val - 8; omega

end tile

end Cert.Kernel2Ideal.Tile

end
-- ==== Proof.MixerStores.lean ====
/-
  One grid point's loads and stores after the mixers: the gated values go to a scratch in eleven column blocks and are read
  back whole; the gate's last rows go to a second scratch, which the next point of the same sequence reads. And what those
  stores leave, as entries of the whole arrays' function.
-/
module

public import proofs.«01_k».proof.Proof.MixerSpec
public import Idealize.ShloMosaic.Lib.WholeRead
public import Idealize.ShloMosaic.Lib.Pipeline.ReadBack
public import Idealize.ShloMosaic.Lib.Pipeline.Value

@[expose] public section

set_option maxRecDepth 16384

noncomputable section

namespace Cert.Kernel2Ideal.Tile

open Cert.Kernel2Ideal Cert.Kernel2Ideal.Gen Cert.Kernel2Ideal.Facts Idealize.ShloMosaic Idealize.SL

variable {F : FTy → Type} [FloatOps F]

/-- A load of a box of sizes `n` at the offsets `o` from a buffer that holds `x`. -/
abbrev load {sg : RefSig} {s : Shape} {e : EltTy} (m : Memref sg .tc .vmem s e) (h : m.IsWhole) (x : s.Idx → Elt F e) (n o : Fin s.rank → Nat)
    (ho : ∀ a, o a + n a ≤ s.size a) : (Rect.unit (s := s) o n ho).toLoadRect.shape.Idx → Elt F e :=
  View.readAt (Elt F) m.view (Rect.unit (s := s) o n ho).toLoadRect (h.unread x)

theorem fits_up (c : Fin 22) : ∀ a, (![0, 0, 256 * c.val] : Fin 3 → Nat) a + S1x1024x256.size a ≤ S1x1024x5632.size a := by
  revert c; decide

theorem fits_mix (i : Fin 2) : ∀ a, (![0, i.val, 0, 0] : Fin 4 → Nat) a + S1x1x768x256.size a ≤ S1x2x768x256.size a := by
  revert i; decide

theorem fits_taps (c : Fin 11) : ∀ a, (![0, 256 * c.val] : Fin 2 → Nat) a + S3x256.size a ≤ S3x2816.size a := by
  revert c; decide

theorem fits_bias (c : Fin 11) : ∀ a, (![0, 256 * c.val] : Fin 2 → Nat) a + S1x256.size a ≤ S1x2816.size a := by
  revert c; decide

theorem fits_halo (c : Fin 11) : ∀ a, (![0, 256 * c.val] : Fin 2 → Nat) a + S8x256.size a ≤ S8x2816.size a := by
  revert c; decide

theorem fits_gated (c : Fin 11) : ∀ a, (![0, 256 * c.val] : Fin 2 → Nat) a + S512x256.size a ≤ S512x2816.size a := by
  revert c; decide

/-- Chunk `c`'s columns of the last-rows scratch and of the gated values. -/
abbrev haloCols (c : Fin 11) : Rect S8x2816 := Rect.unit ![0, 256 * c.val] S8x256.size (fits_halo c)
abbrev gatedCols (c : Fin 11) : Rect S512x2816 := Rect.unit ![0, 256 * c.val] S512x256.size (fits_gated c)

/-- What the body loads of the blocks it is given. -/
def loads {sg : RefSig} (arg2 : Memref sg .tc .vmem S1x512x1024 .f32) (harg2 : arg2.IsWhole) (arg3 : Memref sg .tc .vmem S1x2x768x256 .bf16) (harg3 : arg3.IsWhole) (arg4 : Memref sg .tc .vmem S1x512x256 .bf16) (harg4 : arg4.IsWhole) (arg5 : Memref sg .tc .vmem S1x1x256x1024 .bf16) (harg5 : arg5.IsWhole) (arg6 : Memref sg .tc .vmem S1x1x1024x256 .bf16) (harg6 : arg6.IsWhole) (arg7 : Memref sg .tc .vmem S1x1024x5632 .bf16) (harg7 : arg7.IsWhole) (arg8 : Memref sg .tc .vmem S1x2816x1024 .bf16) (harg8 : arg8.IsWhole) (arg9 : Memref sg .tc .vmem S1024x1024 .bf16) (harg9 : arg9.IsWhole) (arg10 : Memref sg .tc .vmem S1x1024 .f32) (harg10 : arg10.IsWhole) (arg11 : Memref sg .tc .vmem S3x2816 .f32) (harg11 : arg11.IsWhole) (arg12 : Memref sg .tc .vmem S1x2816 .f32) (harg12 : arg12.IsWhole) (arg13 : Memref sg .tc .vmem S1x1024 .f32) (harg13 : arg13.IsWhole)
    (x0 : Vec F S1x512x1024 .f32) (x1 : Vec F S1x2x768x256 .bf16) (x2 : Vec F S1x512x256 .bf16) (x3 : Vec F S1x1x256x1024 .bf16) (x4 : Vec F S1x1x1024x256 .bf16) (x5 : Vec F S1x1024x5632 .bf16) (x6 : Vec F S1x2816x1024 .bf16) (x7 : Vec F S1024x1024 .bf16) (x8 : Vec F S1x1024 .f32) (x9 : Vec F S3x2816 .f32) (x10 : Vec F S1x2816 .f32) (x11 : Vec F S1x1024 .f32) : Loads F where
  x := load arg2 harg2 x0 S1x512x1024.size ![0, 0, 0] inb_S1x512x1024_S1x512x1024_0_0_0
  m i := load arg3 harg3 x1 S1x1x768x256.size ![0, i.val, 0, 0] (fits_mix i)
  q := load arg4 harg4 x2 S1x512x256.size ![0, 0, 0] inb_S1x512x256_S1x512x256_0_0_0
  k := load arg5 harg5 x3 S1x1x256x1024.size ![0, 0, 0, 0] inb_S1x1x256x1024_S1x1x256x1024_0_0_0_0
  v := load arg6 harg6 x4 S1x1x1024x256.size ![0, 0, 0, 0] inb_S1x1x1024x256_S1x1x1024x256_0_0_0_0
  wup c := load arg7 harg7 x5 S1x1024x256.size ![0, 0, 256 * c.val] (fits_up c)
  wdown := load arg8 harg8 x6 S1x2816x1024.size ![0, 0, 0] inb_S1x2816x1024_S1x2816x1024_0_0_0
  wmix := load arg9 harg9 x7 S768x1024.size ![0, 0] inb_S1024x1024_S768x1024_0_0
  wmem := load arg9 harg9 x7 S256x1024.size ![768, 0] inb_S1024x1024_S256x1024_768_0
  g := load arg10 harg10 x8 S1x1024.size ![0, 0] inb_S1x1024_S1x1024_0_0
  taps c := load arg11 harg11 x9 S3x256.size ![0, 256 * c.val] (fits_taps c)
  bias c := load arg12 harg12 x10 S1x256.size ![0, 256 * c.val] (fits_bias c)
  gl := load arg13 harg13 x11 S1x1024.size ![0, 0] inb_S1x1024_S1x1024_0_0

/-- The stores of the gated values, the last first, over the last rows `p` of the tile before. -/
def gatedStores (L : Loads F) (p : Fin 11 → FVec F S8x256 .f32) : List (View.Piece (Elt F) S512x2816 .bf16) :=
  ([10, 9, 8, 7, 6, 5, 4, 3, 2, 1, 0] : List (Fin 11)).map fun c => ⟨gatedCols c, L.gated (p c) c⟩

/-- The stores of the gate's last rows up to chunk `n`, the last first, on top of `base`. -/
def haloStores (L : Loads F) (base : List (View.Piece (Elt F) S8x2816 .f32)) : Nat → List (View.Piece (Elt F) S8x2816 .f32)
  | 0 => base
  | n + 1 => ⟨haloCols (Fin.ofNat 11 n), tail (L.raw (Fin.ofNat 11 n))⟩ :: haloStores L base n

/-- The first point of a sequence clears the last-rows scratch. -/
def cleared : List (View.Piece (Elt F) S8x2816 .f32) :=
  [⟨Rect.unit ![0, 0] S8x2816.size inb_S8x2816_S8x2816_0_0, zeros⟩]

/-- The stored block, from the gated values read back. -/
def stored {sg : RefSig} (L : Loads F) (arg16 : Memref sg .tc .vmem S512x2816 .bf16) (p : Fin 11 → FVec F S8x256 .f32) :
    List (View.Piece (Elt F) S1x512x1024 .f32) :=
  [⟨Rect.unit ![0, 0, 0] S1x512x1024.size inb_S1x512x1024_S1x512x1024_0_0_0,
    last (down L.mid (arg16.view.readCov (Val := Elt F) (gatedStores L p)
      (Rect.unit ![0, 0] S512x2816.size inb_S512x2816_S512x2816_0_0).toLoadRect) L.wdown) L.gl⟩]

/-- The last rows a later point of a sequence reads. -/
def haloB {sg : RefSig} (arg15 : Memref sg .tc .vmem S8x2816 .f32) (harg15 : arg15.IsWhole) (xs0 : Vec F S8x2816 .f32) (c : Fin 11) :
    FVec F S8x256 .f32 :=
  load arg15 harg15 xs0 S8x256.size ![0, 256 * c.val] (fits_halo c)

/-- The last rows the first point of a sequence reads: over its own stores so far. -/
def haloA {sg : RefSig} (L : Loads F) (arg15 : Memref sg .tc .vmem S8x2816 .f32) (c : Fin 11) : FVec F S8x256 .f32 :=
  arg15.view.readCov (Val := Elt F) (haloStores L cleared c.val) (haloCols c).toLoadRect

/-! ## What the stores leave -/

/-- A load at an index: the contents at the offsets plus that index. -/
theorem load_eq {sg : RefSig} {s : Shape} {e : EltTy} (m : Memref sg .tc .vmem s e) (h : m.IsWhole) (x : s.Idx → Elt F e)
    (n o : Fin s.rank → Nat) (ho : ∀ a, o a + n a ≤ s.size a) (y : (Rect.unit (s := s) o n ho).toLoadRect.shape.Idx) (z : s.Idx)
    (hz : ∀ a, (z a).val = o a + (y a).val) : load m h x n o ho y = x z := by
  unfold load
  rw [Memref.IsWhole.readAt_unread]
  refine congrArg x (funext fun a => Fin.ext ?_)
  show o a + 1 * (y a).val = (z a).val
  rw [hz]; omega

theorem ofNat_eq (n : Nat) (h : n < 11) : Fin.ofNat 11 n = ⟨n, h⟩ := Fin.ext (Nat.mod_eq_of_lt h)

/-- Of the first point's own stores, none before chunk `c` touches chunk `c`'s columns: the load reads zeros. -/
theorem haloA_eq {sg : RefSig} (L : Loads Ideal) (arg15 : Memref sg .tc .vmem S8x2816 .f32) (c : Fin 11) (i : Fin 8) (n : Fin 256) :
    haloA L arg15 c (ix2 i n) = 0 := by
  have key : ∀ k, k ≤ c.val → arg15.view.readCov (Val := Elt Ideal) (haloStores L cleared k) (haloCols c).toLoadRect
      = arg15.view.readCov (Val := Elt Ideal) cleared (haloCols c).toLoadRect := by
    intro k
    induction k with
    | zero => intro _; rfl
    | succ k ih =>
      intro hk
      refine Eq.trans ?_ (ih (by omega))
      refine View.readCov_cons_of_disjoint _ _ _ _ ?_
      show Disjoint (haloCols (Fin.ofNat 11 k)).set (haloCols c).set
      refine Rect.unit_disjoint (1 : Fin 2) (Or.inl ?_)
      rw [ofNat_eq k (by omega)]
      show 256 * k + 256 ≤ 256 * c.val
      omega
  unfold haloA
  rw [key c.val le_rfl]
  refine (congrFun (View.readCov_fill (Val := Elt Ideal) (e := EltTy.f32) arg15.view inb_S8x2816_S8x2816_0_0 (zeros (F := Ideal)) [] (haloCols c) ?_) (ix2 i n)).trans (zeros_apply _)
  intro a
  match a with
  | ⟨0, _⟩ => rfl
  | ⟨1, _⟩ => rfl

theorem haloStores_append (L : Loads F) (base : List (View.Piece (Elt F) S8x2816 .f32)) (n : Nat) :
    haloStores L base n = haloStores L [] n ++ base := by
  induction n with
  | zero => rfl
  | succ n ih => show _ :: haloStores L base n = _ :: (haloStores L [] n ++ base); rw [ih]

theorem mem_haloStores (L : Loads F) (n : Nat) (hn : n ≤ 11) (pc : View.Piece (Elt F) S8x2816 .f32) :
    pc ∈ haloStores L [] n ↔ ∃ c : Fin 11, c.val < n ∧ pc = ⟨haloCols c, tail (L.raw c)⟩ := by
  induction n with
  | zero => exact ⟨fun h => absurd h List.not_mem_nil, fun ⟨c, h, _⟩ => absurd h (by omega)⟩
  | succ n ih =>
    show pc ∈ _ :: haloStores L [] n ↔ _
    rw [List.mem_cons, ih (by omega), ofNat_eq n (by omega)]
    constructor
    · rintro (h | ⟨c, h, e⟩)
      · exact ⟨⟨n, by omega⟩, Nat.lt_succ_self n, h⟩
      · exact ⟨c, by omega, e⟩
    · rintro ⟨c, h, e⟩
      by_cases hc : c.val = n
      · left; rw [e, show c = ⟨n, by omega⟩ from Fin.ext hc]
      · exact Or.inr ⟨c, by omega, e⟩

section tile

variable {A : Arrays} {ly : Fin 2} {b : Fin 8} {j : Fin 8} {L : Loads Ideal} (h : Fits A ly b j L)
include h

/-- The last rows left for the next point. -/
theorem halo_left {sg : RefSig} {κ : Kind} {sp : Space} (v : View sg κ sp S8x2816 .f32) (f : v.ty.Contents (Elt Ideal))
    (base : List (View.Piece (Elt Ideal) S8x2816 .f32)) (i : Fin 8) (n : Fin 2816) :
    v.read (Elt Ideal) (v.writes (Elt Ideal) f (haloStores L base 11)) (ix2 i n) = A.before ly b (j.val + 1) i n := by
  rw [haloStores_append, View.writes_append]
  have hG := View.read_writes_apply_of_pieces (e := EltTy.f32) (Val := Elt Ideal) v (v.writes (Elt Ideal) f base)
    (fun y : S8x2816.Idx => A.before ly b (j.val + 1) (y 0) (y 1)) (haloStores L [] 11)
  refine hG ?_ (ix2 i n) ?_
  · intro pc hpc
    obtain ⟨c, _, rfl⟩ := (mem_haloStores L 11 le_rfl pc).mp hpc
    intro (x : S8x256.Idx)
    obtain ⟨x0, x1, rfl⟩ : ∃ a b, x = ix2 a b := ⟨x 0, x 1, eq_ix2 x⟩
    refine (tail_eq h c x0 x1).trans (congrArg₂ (A.before ly b (j.val + 1)) (Fin.ext ?_) (Fin.ext ?_))
    · show x0.val = 0 + 1 * x0.val; omega
    · show 256 * c.val + x1.val = 256 * c.val + 1 * x1.val; omega
  · refine ⟨_, (mem_haloStores L 11 le_rfl _).mpr ⟨⟨n.val / 256, by omega⟩, by show n.val / 256 < 11; omega, rfl⟩, ?_⟩
    show ix2 i n ∈ (haloCols ⟨n.val / 256, by omega⟩).set
    refine Rect.mem_set_unit.mpr fun a => ?_
    match a with
    | ⟨0, _⟩ => exact ⟨Nat.zero_le _, (by omega : i.val < 0 + 8)⟩
    | ⟨1, _⟩ => exact ⟨(by omega : 256 * (n.val / 256) ≤ n.val), (by omega : n.val < 256 * (n.val / 256) + 256)⟩

/-- The gated values read back whole. -/
theorem gated_read {sg : RefSig} {κ : Kind} {sp : Space} (v : View sg κ sp S512x2816 .bf16) (q : Fin 11 → FVec Ideal S8x256 .f32)
    (hq : ∀ (c : Fin 11) (i : Fin 8) (n : Fin 256), q c (ix2 i n) = A.before ly b j.val i ⟨256 * c.val + n.val, by omega⟩)
    (i : Fin 512) (f : Fin 2816) :
    v.readCov (Val := Elt Ideal) (gatedStores L q) (Rect.unit ![0, 0] S512x2816.size inb_S512x2816_S512x2816_0_0).toLoadRect (ix2 i f)
      = A.gated ly b (tok j i) f := by
  have hmem : ∀ y : S512x2816.Idx, ∃ pc ∈ gatedStores L q, y ∈ pc.1.set := by
    intro y
    have h1 : (y 1).val < 2816 := (y 1).isLt
    have h0 : (y 0).val < 512 := (y 0).isLt
    refine ⟨_, List.mem_map.mpr ⟨(⟨(y 1).val / 256, by omega⟩ : Fin 11), ?_, rfl⟩, ?_⟩
    · generalize (⟨(y 1).val / 256, by omega⟩ : Fin 11) = c
      revert c; decide
    · show y ∈ (gatedCols ⟨(y 1).val / 256, by omega⟩).set
      refine Rect.mem_set_unit.mpr fun a => ?_
      match a with
      | ⟨0, _⟩ => exact ⟨Nat.zero_le _, (by omega : (y 0).val < 0 + 512)⟩
      | ⟨1, _⟩ => exact ⟨(by omega : 256 * ((y 1).val / 256) ≤ (y 1).val), (by omega : (y 1).val < 256 * ((y 1).val / 256) + 256)⟩
  have hz : (![0, 0] : Fin 2 → ℕ) = fun _ => 0 := funext fun a => by
    match a with
    | ⟨0, _⟩ => rfl
    | ⟨1, _⟩ => rfl
  rw [View.readCov_eq_canon_ld _ _ _ hmem]
  refine (congrFun (View.ld_unit_zero hz inb_S512x2816_S512x2816_0_0 (View.canon (gatedStores L q))) (ix2 i f)).trans ?_
  refine View.canon_apply_of_pieces (fun y : S512x2816.Idx => A.gated ly b (tok j (y 0)) (y 1)) _ ?_ (ix2 i f) (hmem _)
  intro pc hpc
  obtain ⟨c, _, rfl⟩ := List.mem_map.mp hpc
  intro (x : S512x256.Idx)
  obtain ⟨x0, x1, rfl⟩ : ∃ a b, x = ix2 a b := ⟨x 0, x 1, eq_ix2 x⟩
  refine (gated_eq h c (q c) (hq c) x0 x1).trans (congrArg₂ (fun r n => A.gated ly b (tok j r) n) (Fin.ext ?_) (Fin.ext ?_))
  · show x0.val = 0 + 1 * x0.val; omega
  · show 256 * c.val + x1.val = 256 * c.val + 1 * x1.val; omega

end tile

end Cert.Kernel2Ideal.Tile

end
-- ==== Proof.FirstVocab.lean ====
/-
  What the call after the first mixer adds to what both calls share: from the stream it leaves, two more norms and the keys,
  values and queries that the next mixers read. For one tile of 512 tokens, what it stores, and each stored entry.
-/
module

public import proofs.«01_k».proof.Proof.MixerStores
public import proofs.«01_k».proof.Proof.Gen.Kernel3Ideal

@[expose] public section

set_option maxRecDepth 16384

noncomputable section

namespace Cert.Kernel3Ideal.Tile

open Cert.Kernel3Ideal Cert.Kernel3Ideal.Gen Cert.Kernel3Ideal.Facts Idealize.ShloMosaic Idealize.SL
open Cert.Kernel2Ideal.Tile (Arrays Loads load gatedStores haloStores down hidden by256 rms)

variable {F : FTy → Type} [FloatOps F]

/-- The stream, as the stored block. -/
def stream (x : FVec F S512x1024 .f32) : FVec F S1x512x1024 .f32 := shapeCast S1x512x1024 x shapeCasts_S512x1024_S1x512x1024

/-- The keys, one row per token. -/
def keys (h : FVec F S512x1024 .bf16) (w : FVec F S1024x768 .bf16) : FVec F S1x512x768 .bf16 :=
  shapeCast S1x512x768 (truncf .bf16 (matmul dot_S512x1024_S1024x768_S512x768_1_0_0_1_n_n none h w (constant S512x768 .f32 0x00000000#32))
    bitsLt_bf16_f32) shapeCasts_S512x768_S1x512x768

/-- A matrix times the tile's rows: one column per token. -/
def turned (w : FVec F S768x1024 .bf16) (h : FVec F S512x1024 .bf16) : FVec F S768x512 .bf16 :=
  truncf .bf16 (matmul dot_S768x1024_S512x1024_S768x512_1_1_0_0_n_n none w h (constant S768x512 .f32 0x00000000#32)) bitsLt_bf16_f32

/-- The values, one column per token. -/
def values (w : FVec F S768x1024 .bf16) (h : FVec F S512x1024 .bf16) : FVec F S1x768x512 .bf16 :=
  shapeCast S1x768x512 (turned w h) shapeCasts_S768x512_S1x768x512

theorem slices_half (s : Fin 2) : S768x512.Slices ![0, 256 * s.val] S768x256 := by
  revert s; decide

/-- The next mixer's queries: of the tile's two halves, one column per token. -/
def queries (w : FVec F S768x1024 .bf16) (h : FVec F S512x1024 .bf16) (s : Fin 2) : FVec F S1x1x768x256 .bf16 :=
  shapeCast S1x1x768x256 (extractStridedSlice S768x256 ![0, 256 * s.val] (turned w h) (slices_half s)) shapeCasts_S768x256_S1x1x768x256

/-- The queries into the memory, one row per token. -/
def memQueries (h : FVec F S512x1024 .bf16) (w : FVec F S1024x256 .bf16) : FVec F S1x512x256 .bf16 :=
  shapeCast S1x512x256 (truncf .bf16 (by256 h w) bitsLt_bf16_f32) shapeCasts_S512x256_S1x512x256

/-- What the body loads for the next mixers: three projections of keys, values and queries, a gain, and one more projection. -/
structure Next (F : FTy → Type) where
  wk : FVec F S1024x768 .bf16
  wvt : FVec F S768x1024 .bf16
  gn : FVec F S1x1024 .f32
  wqt : FVec F S768x1024 .bf16
  wqmem : FVec F S1024x256 .bf16

/-- The loads of those blocks, each whole. -/
def nextLoads {sg : RefSig} (arg14 : Memref sg .tc .vmem S1024x768 .bf16) (harg14 : arg14.IsWhole) (arg15 : Memref sg .tc .vmem S768x1024 .bf16) (harg15 : arg15.IsWhole)
    (arg16 : Memref sg .tc .vmem S1x1024 .f32) (harg16 : arg16.IsWhole) (arg17 : Memref sg .tc .vmem S768x1024 .bf16) (harg17 : arg17.IsWhole)
    (arg18 : Memref sg .tc .vmem S1024x256 .bf16) (harg18 : arg18.IsWhole)
    (x12 : Vec F S1024x768 .bf16) (x13 : Vec F S768x1024 .bf16) (x14 : Vec F S1x1024 .f32) (x15 : Vec F S768x1024 .bf16) (x16 : Vec F S1024x256 .bf16) : Next F where
  wk := load arg14 harg14 x12 S1024x768.size ![0, 0] inb_S1024x768_S1024x768_0_0
  wvt := load arg15 harg15 x13 S768x1024.size ![0, 0] inb_S768x1024_S768x1024_0_0
  gn := load arg16 harg16 x14 S1x1024.size ![0, 0] inb_S1x1024_S1x1024_0_0
  wqt := load arg17 harg17 x15 S768x1024.size ![0, 0] inb_S768x1024_S768x1024_0_0
  wqmem := load arg18 harg18 x16 S1024x256.size ![0, 0] inb_S1024x256_S1024x256_0_0

/-- The stores into the five result blocks and into the last-rows scratch, the last first. -/
structure Stores (F : FTy → Type) where
  stream : List (View.Piece (Elt F) S1x512x1024 .f32)
  keys : List (View.Piece (Elt F) S1x512x768 .bf16)
  values : List (View.Piece (Elt F) S1x768x512 .bf16)
  queries : List (View.Piece (Elt F) S1x2x768x256 .bf16)
  memQueries : List (View.Piece (Elt F) S1x512x256 .bf16)
  halo : List (View.Piece (Elt F) S8x2816 .f32)

theorem fits_half (s : Fin 2) : ∀ a, (![0, s.val, 0, 0] : Fin 4 → Nat) a + S1x1x768x256.size a ≤ S1x2x768x256.size a := by
  revert s; decide

/-- Half `s` of the next mixer's queries. -/
abbrev halfBlock (s : Fin 2) : Rect S1x2x768x256 := Rect.unit ![0, s.val, 0, 0] S1x1x768x256.size (fits_half s)

/-- The stores, from the stream `x` after the gated layer. -/
def leaves (x : FVec F S512x1024 .f32) (gl : FVec F S1x1024 .f32) (N : Next F) (halo : List (View.Piece (Elt F) S8x2816 .f32)) : Stores F where
  stream := [⟨Rect.unit ![0, 0, 0] S1x512x1024.size inb_S1x512x1024_S1x512x1024_0_0_0, stream x⟩]
  keys := [⟨Rect.unit ![0, 0, 0] S1x512x768.size inb_S1x512x768_S1x512x768_0_0_0, keys (hidden x gl) N.wk⟩]
  values := [⟨Rect.unit ![0, 0, 0] S1x768x512.size inb_S1x768x512_S1x768x512_0_0_0, values N.wvt (hidden x gl)⟩]
  queries := [⟨halfBlock 1, queries N.wqt (hidden x N.gn) 1⟩, ⟨halfBlock 0, queries N.wqt (hidden x N.gn) 0⟩]
  memQueries := [⟨Rect.unit ![0, 0, 0] S1x512x256.size inb_S1x512x256_S1x512x256_0_0_0, memQueries (hidden x N.gn) N.wqmem⟩]
  halo := halo

/-- The stream after the gated layer, from the gated values read back. -/
def after {sg : RefSig} (L : Loads F) (arg25 : Memref sg .tc .vmem S512x2816 .bf16) (p : Fin 11 → FVec F S8x256 .f32) : FVec F S512x1024 .f32 :=
  down L.mid (arg25.view.readCov (Val := Elt F) (gatedStores L p)
    (Rect.unit ![0, 0] S512x2816.size inb_S512x2816_S512x2816_0_0).toLoadRect) L.wdown

theorem stream_apply (x : FVec Ideal S512x1024 .f32) (i : Fin 512) (d : Fin 1024) : stream x (ix3 0 i d) = x (ix2 i d) := by
  unfold stream
  pointwise

theorem keys_apply (h : FVec Ideal S512x1024 .bf16) (w : FVec Ideal S1024x768 .bf16) (i : Fin 512) (f : Fin 768) :
    keys h w (ix3 0 i f) = ∑ d : Fin 1024, h (ix2 i d) * w (ix2 d f) := by
  unfold keys
  pointwise

theorem turned_apply (w : FVec Ideal S768x1024 .bf16) (h : FVec Ideal S512x1024 .bf16) (f : Fin 768) (i : Fin 512) :
    turned w h (ix2 f i) = ∑ d : Fin 1024, w (ix2 f d) * h (ix2 i d) := by
  unfold turned
  pointwise

theorem values_apply (w : FVec Ideal S768x1024 .bf16) (h : FVec Ideal S512x1024 .bf16) (f : Fin 768) (i : Fin 512) :
    values w h (ix3 0 f i) = ∑ d : Fin 1024, w (ix2 f d) * h (ix2 i d) := by
  refine Eq.trans ?_ (turned_apply w h f i)
  unfold values
  pointwise

theorem queries_apply (w : FVec Ideal S768x1024 .bf16) (h : FVec Ideal S512x1024 .bf16) (s : Fin 2) (f : Fin 768) (l : Fin 256) :
    queries w h s (ix4 0 0 f l) = ∑ d : Fin 1024, w (ix2 f d) * h (ix2 ⟨256 * s.val + l.val, by omega⟩ d) := by
  refine Eq.trans ?_ (turned_apply w h f ⟨256 * s.val + l.val, by omega⟩)
  unfold queries
  pointwise

theorem memQueries_apply (h : FVec Ideal S512x1024 .bf16) (w : FVec Ideal S1024x256 .bf16) (i : Fin 512) (n : Fin 256) :
    memQueries h w (ix3 0 i n) = ∑ d : Fin 1024, h (ix2 i d) * w (ix2 d n) := by
  unfold memQueries by256
  pointwise

/-! ## The results as functions of the whole arrays -/

variable (A : Arrays) (N : Next Ideal) (b : Fin 8) (p : Fin 4096)

/-- The stream under the next mixer's norm. -/
def nextRow (d : Fin 1024) : EReal := rms (A.out 0 b p) (fun e => N.gn (ix2 0 e)) d

/-- Feature `f` of token `p`'s key, value and query, and of its query into the memory. -/
def keyAt (f : Fin 768) : EReal := ∑ d : Fin 1024, A.final 0 b p d * N.wk (ix2 d f)
def valueAt (f : Fin 768) : EReal := ∑ d : Fin 1024, N.wvt (ix2 f d) * A.final 0 b p d
def queryAt (f : Fin 768) : EReal := ∑ d : Fin 1024, N.wqt (ix2 f d) * nextRow A N b p d
def memQueryAt (n : Fin 256) : EReal := ∑ d : Fin 1024, nextRow A N b p d * N.wqmem (ix2 d n)

end Cert.Kernel3Ideal.Tile

end
-- ==== Proof.FirstTile.lean ====
/-
  One grid point of the call after the first mixer: its stores are those of `leaves`, over the last rows it reads.
-/
module

public import proofs.«01_k».proof.Proof.FirstVocab
public import proofs.«01_k».proof.Proof.Gen.Kernel3Ideal.Frame.RunA
public import proofs.«01_k».proof.Proof.Gen.Kernel3Ideal.Frame.RunB

@[expose] public section

set_option maxRecDepth 16384

noncomputable section

namespace Cert.Kernel3Ideal.Tile

open Cert.Kernel3Ideal Cert.Kernel3Ideal.Gen Cert.Kernel3Ideal.Facts Idealize.ShloMosaic Idealize.SL
open Cert.Kernel2Ideal.Tile (Loads loads haloStores haloA haloB cleared)

variable {F : FTy → Type} [FloatOps F]

/-- The first six parts of a run, as the stores they are. -/
def parts {T : List (View.Piece (Elt F) S1x512x1024 .f32) → List (View.Piece (Elt F) S1x512x768 .bf16) → List (View.Piece (Elt F) S1x768x512 .bf16)
      → List (View.Piece (Elt F) S1x2x768x256 .bf16) → List (View.Piece (Elt F) S1x512x256 .bf16) → List (View.Piece (Elt F) S8x2816 .f32) → Type}
    (r : Σ' a b c d e f, T a b c d e f) : Stores F where
  stream := r.1
  keys := r.2.1
  values := r.2.2.1
  queries := r.2.2.2.1
  memQueries := r.2.2.2.2.1
  halo := r.2.2.2.2.2.1

/-- A later point's stores, over the last rows `xs0` the point before left. -/
def leavesB {sg : RefSig} (L : Loads F) (N : Next F) (arg24 : Memref sg .tc .vmem S8x2816 .f32) (harg24 : arg24.IsWhole)
    (arg25 : Memref sg .tc .vmem S512x2816 .bf16) (xs0 : Vec F S8x2816 .f32) : Stores F :=
  leaves (after L arg25 (haloB arg24 harg24 xs0)) L.gl N (haloStores L [] 11)

/-- The stores of a sequence's first point, over cleared last rows. -/
def leavesA {sg : RefSig} (L : Loads F) (N : Next F) (arg24 : Memref sg .tc .vmem S8x2816 .f32)
    (arg25 : Memref sg .tc .vmem S512x2816 .bf16) : Stores F :=
  leaves (after L arg25 (haloA L arg24)) L.gl N (haloStores L cleared 11)

variable (c : Dev nD) (i : grid0.Coords) (arg2 : Memref sig .tc .vmem S1x512x1024 .f32) (harg2 : arg2.IsWhole) (arg3 : Memref sig .tc .vmem S1x2x768x256 .bf16) (harg3 : arg3.IsWhole) (arg4 : Memref sig .tc .vmem S1x512x256 .bf16) (harg4 : arg4.IsWhole) (arg5 : Memref sig .tc .vmem S1x1x256x1024 .bf16) (harg5 : arg5.IsWhole) (arg6 : Memref sig .tc .vmem S1x1x1024x256 .bf16) (harg6 : arg6.IsWhole) (arg7 : Memref sig .tc .vmem S1x1024x5632 .bf16) (harg7 : arg7.IsWhole) (arg8 : Memref sig .tc .vmem S1x2816x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S3x2816 .f32) (harg11 : arg11.IsWhole) (arg12 : Memref sig .tc .vmem S1x2816 .f32) (harg12 : arg12.IsWhole) (arg13 : Memref sig .tc .vmem S1x1024 .f32) (harg13 : arg13.IsWhole) (arg14 : Memref sig .tc .vmem S1024x768 .bf16) (harg14 : arg14.IsWhole) (arg15 : Memref sig .tc .vmem S768x1024 .bf16) (harg15 : arg15.IsWhole) (arg16 : Memref sig .tc .vmem S1x1024 .f32) (harg16 : arg16.IsWhole) (arg17 : Memref sig .tc .vmem S768x1024 .bf16) (harg17 : arg17.IsWhole) (arg18 : Memref sig .tc .vmem S1024x256 .bf16) (harg18 : arg18.IsWhole) (arg19 : Memref sig .tc .vmem S1x512x1024 .f32) (harg19 : arg19.IsWhole) (arg20 : Memref sig .tc .vmem S1x512x768 .bf16) (harg20 : arg20.IsWhole) (arg21 : Memref sig .tc .vmem S1x768x512 .bf16) (harg21 : arg21.IsWhole) (arg22 : Memref sig .tc .vmem S1x2x768x256 .bf16) (harg22 : arg22.IsWhole) (arg23 : Memref sig .tc .vmem S1x512x256 .bf16) (harg23 : arg23.IsWhole) (arg24 : Memref sig .tc .vmem S8x2816 .f32) (harg24 : arg24.IsWhole) (arg25 : Memref sig .tc .vmem S512x2816 .bf16) (harg25 : arg25.IsWhole)
  (x0 : Vec F S1x512x1024 .f32) (x1 : Vec F S1x2x768x256 .bf16) (x2 : Vec F S1x512x256 .bf16) (x3 : Vec F S1x1x256x1024 .bf16) (x4 : Vec F S1x1x1024x256 .bf16) (x5 : Vec F S1x1024x5632 .bf16) (x6 : Vec F S1x2816x1024 .bf16) (x7 : Vec F S1024x1024 .bf16) (x8 : Vec F S1x1024 .f32) (x9 : Vec F S3x2816 .f32) (x10 : Vec F S1x2816 .f32) (x11 : Vec F S1x1024 .f32) (x12 : Vec F S1024x768 .bf16) (x13 : Vec F S768x1024 .bf16) (x14 : Vec F S1x1024 .f32) (x15 : Vec F S768x1024 .bf16) (x16 : Vec F S1024x256 .bf16)

theorem pieces_B (hc0 : ¬cond0_0 i) (xs0 : Vec F S8x2816 .f32) :
    parts (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 xs0)
      = leavesB (loads arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11) (nextLoads arg14 harg14 arg15 harg15 arg16 harg16 arg17 harg17 arg18 harg18 x12 x13 x14 x15 x16) arg24 harg24 arg25 xs0 := by
  sl_kernel_rfl

theorem pieces_A (hc0 : cond0_0 i) :
    parts (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16)
      = leavesA (loads arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11) (nextLoads arg14 harg14 arg15 harg15 arg16 harg16 arg17 harg17 arg18 harg18 x12 x13 x14 x15 x16) arg24 arg25 := by
  sl_kernel_rfl

end Cert.Kernel3Ideal.Tile

end
-- ==== Proof.MixerTile.lean ====
/-
  One grid point of the kernel after the mixers: what it stores, as functions of what it loads (`Loads`). The gated values go
  to a scratch in eleven column blocks and are read back whole; the last rows of the gate go to a second scratch, which the next
  point of the same sequence reads.
-/
module

public import proofs.«01_k».proof.Proof.MixerStores
public import proofs.«01_k».proof.Proof.Gen.Kernel2Ideal.Frame.RunA
public import proofs.«01_k».proof.Proof.Gen.Kernel2Ideal.Frame.RunB

@[expose] public section

set_option maxRecDepth 16384

noncomputable section

namespace Cert.Kernel2Ideal.Tile

open Cert.Kernel2Ideal Cert.Kernel2Ideal.Gen Cert.Kernel2Ideal.Facts Idealize.ShloMosaic Idealize.SL

variable {F : FTy → Type} [FloatOps F]

theorem pieces_B  (c : Dev nD) (i : grid0.Coords) (arg2 : Memref sig .tc .vmem S1x512x1024 .f32) (harg2 : arg2.IsWhole) (arg3 : Memref sig .tc .vmem S1x2x768x256 .bf16) (harg3 : arg3.IsWhole) (arg4 : Memref sig .tc .vmem S1x512x256 .bf16) (harg4 : arg4.IsWhole) (arg5 : Memref sig .tc .vmem S1x1x256x1024 .bf16) (harg5 : arg5.IsWhole) (arg6 : Memref sig .tc .vmem S1x1x1024x256 .bf16) (harg6 : arg6.IsWhole) (arg7 : Memref sig .tc .vmem S1x1024x5632 .bf16) (harg7 : arg7.IsWhole) (arg8 : Memref sig .tc .vmem S1x2816x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S3x2816 .f32) (harg11 : arg11.IsWhole) (arg12 : Memref sig .tc .vmem S1x2816 .f32) (harg12 : arg12.IsWhole) (arg13 : Memref sig .tc .vmem S1x1024 .f32) (harg13 : arg13.IsWhole) (arg14 : Memref sig .tc .vmem S1x512x1024 .f32) (harg14 : arg14.IsWhole) (arg15 : Memref sig .tc .vmem S8x2816 .f32) (harg15 : arg15.IsWhole) (arg16 : Memref sig .tc .vmem S512x2816 .bf16) (harg16 : arg16.IsWhole) (hc0 : ¬cond0_0 i)
    (x0 : Vec F S1x512x1024 .f32) (x1 : Vec F S1x2x768x256 .bf16) (x2 : Vec F S1x512x256 .bf16) (x3 : Vec F S1x1x256x1024 .bf16) (x4 : Vec F S1x1x1024x256 .bf16) (x5 : Vec F S1x1024x5632 .bf16) (x6 : Vec F S1x2816x1024 .bf16) (x7 : Vec F S1024x1024 .bf16) (x8 : Vec F S1x1024 .f32) (x9 : Vec F S3x2816 .f32) (x10 : Vec F S1x2816 .f32) (x11 : Vec F S1x1024 .f32) (xs0 : Vec F S8x2816 .f32) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs0).1 = stored (loads arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11) arg16 (haloB arg15 harg15 xs0) := by
  sl_kernel_rfl

theorem halo_B  (c : Dev nD) (i : grid0.Coords) (arg2 : Memref sig .tc .vmem S1x512x1024 .f32) (harg2 : arg2.IsWhole) (arg3 : Memref sig .tc .vmem S1x2x768x256 .bf16) (harg3 : arg3.IsWhole) (arg4 : Memref sig .tc .vmem S1x512x256 .bf16) (harg4 : arg4.IsWhole) (arg5 : Memref sig .tc .vmem S1x1x256x1024 .bf16) (harg5 : arg5.IsWhole) (arg6 : Memref sig .tc .vmem S1x1x1024x256 .bf16) (harg6 : arg6.IsWhole) (arg7 : Memref sig .tc .vmem S1x1024x5632 .bf16) (harg7 : arg7.IsWhole) (arg8 : Memref sig .tc .vmem S1x2816x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S3x2816 .f32) (harg11 : arg11.IsWhole) (arg12 : Memref sig .tc .vmem S1x2816 .f32) (harg12 : arg12.IsWhole) (arg13 : Memref sig .tc .vmem S1x1024 .f32) (harg13 : arg13.IsWhole) (arg14 : Memref sig .tc .vmem S1x512x1024 .f32) (harg14 : arg14.IsWhole) (arg15 : Memref sig .tc .vmem S8x2816 .f32) (harg15 : arg15.IsWhole) (arg16 : Memref sig .tc .vmem S512x2816 .bf16) (harg16 : arg16.IsWhole) (hc0 : ¬cond0_0 i)
    (x0 : Vec F S1x512x1024 .f32) (x1 : Vec F S1x2x768x256 .bf16) (x2 : Vec F S1x512x256 .bf16) (x3 : Vec F S1x1x256x1024 .bf16) (x4 : Vec F S1x1x1024x256 .bf16) (x5 : Vec F S1x1024x5632 .bf16) (x6 : Vec F S1x2816x1024 .bf16) (x7 : Vec F S1024x1024 .bf16) (x8 : Vec F S1x1024 .f32) (x9 : Vec F S3x2816 .f32) (x10 : Vec F S1x2816 .f32) (x11 : Vec F S1x1024 .f32) (xs0 : Vec F S8x2816 .f32) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs0).2.1 = haloStores (loads arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11) [] 11 := by
  sl_kernel_rfl

theorem pieces_A  (c : Dev nD) (i : grid0.Coords) (arg2 : Memref sig .tc .vmem S1x512x1024 .f32) (harg2 : arg2.IsWhole) (arg3 : Memref sig .tc .vmem S1x2x768x256 .bf16) (harg3 : arg3.IsWhole) (arg4 : Memref sig .tc .vmem S1x512x256 .bf16) (harg4 : arg4.IsWhole) (arg5 : Memref sig .tc .vmem S1x1x256x1024 .bf16) (harg5 : arg5.IsWhole) (arg6 : Memref sig .tc .vmem S1x1x1024x256 .bf16) (harg6 : arg6.IsWhole) (arg7 : Memref sig .tc .vmem S1x1024x5632 .bf16) (harg7 : arg7.IsWhole) (arg8 : Memref sig .tc .vmem S1x2816x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S3x2816 .f32) (harg11 : arg11.IsWhole) (arg12 : Memref sig .tc .vmem S1x2816 .f32) (harg12 : arg12.IsWhole) (arg13 : Memref sig .tc .vmem S1x1024 .f32) (harg13 : arg13.IsWhole) (arg14 : Memref sig .tc .vmem S1x512x1024 .f32) (harg14 : arg14.IsWhole) (arg15 : Memref sig .tc .vmem S8x2816 .f32) (harg15 : arg15.IsWhole) (arg16 : Memref sig .tc .vmem S512x2816 .bf16) (harg16 : arg16.IsWhole) (hc0 : cond0_0 i)
    (x0 : Vec F S1x512x1024 .f32) (x1 : Vec F S1x2x768x256 .bf16) (x2 : Vec F S1x512x256 .bf16) (x3 : Vec F S1x1x256x1024 .bf16) (x4 : Vec F S1x1x1024x256 .bf16) (x5 : Vec F S1x1024x5632 .bf16) (x6 : Vec F S1x2816x1024 .bf16) (x7 : Vec F S1024x1024 .bf16) (x8 : Vec F S1x1024 .f32) (x9 : Vec F S3x2816 .f32) (x10 : Vec F S1x2816 .f32) (x11 : Vec F S1x1024 .f32) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11).1 = stored (loads arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11) arg16 (haloA (loads arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11) arg15) := by
  sl_kernel_rfl

theorem halo_A  (c : Dev nD) (i : grid0.Coords) (arg2 : Memref sig .tc .vmem S1x512x1024 .f32) (harg2 : arg2.IsWhole) (arg3 : Memref sig .tc .vmem S1x2x768x256 .bf16) (harg3 : arg3.IsWhole) (arg4 : Memref sig .tc .vmem S1x512x256 .bf16) (harg4 : arg4.IsWhole) (arg5 : Memref sig .tc .vmem S1x1x256x1024 .bf16) (harg5 : arg5.IsWhole) (arg6 : Memref sig .tc .vmem S1x1x1024x256 .bf16) (harg6 : arg6.IsWhole) (arg7 : Memref sig .tc .vmem S1x1024x5632 .bf16) (harg7 : arg7.IsWhole) (arg8 : Memref sig .tc .vmem S1x2816x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S3x2816 .f32) (harg11 : arg11.IsWhole) (arg12 : Memref sig .tc .vmem S1x2816 .f32) (harg12 : arg12.IsWhole) (arg13 : Memref sig .tc .vmem S1x1024 .f32) (harg13 : arg13.IsWhole) (arg14 : Memref sig .tc .vmem S1x512x1024 .f32) (harg14 : arg14.IsWhole) (arg15 : Memref sig .tc .vmem S8x2816 .f32) (harg15 : arg15.IsWhole) (arg16 : Memref sig .tc .vmem S512x2816 .bf16) (harg16 : arg16.IsWhole) (hc0 : cond0_0 i)
    (x0 : Vec F S1x512x1024 .f32) (x1 : Vec F S1x2x768x256 .bf16) (x2 : Vec F S1x512x256 .bf16) (x3 : Vec F S1x1x256x1024 .bf16) (x4 : Vec F S1x1x1024x256 .bf16) (x5 : Vec F S1x1024x5632 .bf16) (x6 : Vec F S1x2816x1024 .bf16) (x7 : Vec F S1024x1024 .bf16) (x8 : Vec F S1x1024 .f32) (x9 : Vec F S3x2816 .f32) (x10 : Vec F S1x2816 .f32) (x11 : Vec F S1x1024 .f32) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11).2.1 = haloStores (loads arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11) cleared 11 := by
  sl_kernel_rfl

end Cert.Kernel2Ideal.Tile

end
-- ==== Proof.MixerResult.lean ====
/-
  The whole result of the kernel after the mixers: what each grid point loads, stores and leaves for the next, and so the array
  after all grid points.
-/
module

public import proofs.«01_k».proof.Proof.MixerTile
public import proofs.«01_k».proof.Proof.Gen.Kernel2Ideal.Value

@[expose] public section

set_option maxRecDepth 16384

noncomputable section

namespace Cert.Kernel2Ideal.Tile

open Cert.Kernel2Ideal Cert.Kernel2Ideal.Gen Cert.Kernel2Ideal.Facts Cert.Kernel2Ideal.Value Idealize.ShloMosaic

theorem index0 : ∀ t : Fin grid0.N, win0_0.index t = ![t.val / 8, t.val % 8, 0] := by decide +kernel
theorem index1 : ∀ t : Fin grid0.N, win0_1.index t = ![t.val / 8, t.val % 8, 0, 0] := by decide +kernel
theorem index2 : ∀ t : Fin grid0.N, win0_2.index t = ![t.val / 8, t.val % 8, 0] := by decide +kernel
theorem index3 : ∀ t : Fin grid0.N, win0_3.index t = ![1, t.val / 8, 0, 0] := by decide +kernel
theorem index4 : ∀ t : Fin grid0.N, win0_4.index t = ![1, t.val / 8, 0, 0] := by decide +kernel
theorem index5 : ∀ t : Fin grid0.N, win0_5.index t = ![1, 0, 0] := by decide +kernel
theorem index6 : ∀ t : Fin grid0.N, win0_6.index t = ![1, 0, 0] := by decide +kernel
theorem index7 : ∀ t : Fin grid0.N, win0_7.index t = ![0, 0] := by decide +kernel
theorem index8 : ∀ t : Fin grid0.N, win0_8.index t = ![0, 0] := by decide +kernel
theorem index9 : ∀ t : Fin grid0.N, win0_9.index t = ![0, 0] := by decide +kernel
theorem index10 : ∀ t : Fin grid0.N, win0_10.index t = ![0, 0] := by decide +kernel
theorem index11 : ∀ t : Fin grid0.N, win0_11.index t = ![0, 0] := by decide +kernel
theorem index12 : ∀ t : Fin grid0.N, win0_12.index t = ![t.val / 8, t.val % 8, 0] := by decide +kernel

variable (m : (ℓ : Loc nD τ sig) → Buf (Elt Ideal) ℓ) (c : Dev nD) (t : Fin cfg0.N)

/-- The sequence and the tile of a grid point. -/
def batch : Fin 8 := ⟨t.val / 8, by have : t.val < 64 := t.isLt; omega⟩
def tile : Fin 8 := ⟨t.val % 8, by omega⟩

theorem iblk0 (i : Fin 512) (d : Fin 1024) : iblk m c 0 t (ix3 0 i d) = V m c main_arg0 (ix3 (batch t) ⟨512 * (tile t).val + i.val, by omega⟩ d) := by
  unfold iblk
  refine congrArg (V m c main_arg0) (funext fun a => Fin.ext ?_)
  have h := congrFun (index0 t)
  match a with
  | ⟨0, _⟩ => have h : win0_0.index t 0 = t.val / 8 := h 0; show win0_0.index t 0 * 1 + 1 * 0 = t.val / 8; omega
  | ⟨1, _⟩ => have h : win0_0.index t 1 = t.val % 8 := h 1; show win0_0.index t 1 * 512 + 1 * i.val = 512 * (t.val % 8) + i.val; omega
  | ⟨2, _⟩ => have h : win0_0.index t 2 = 0 := h 2; show win0_0.index t 2 * 1024 + 1 * d.val = d.val; omega

theorem iblk1 (h : Fin 2) (f : Fin 768) (l : Fin 256) : iblk m c 1 t (ix4 0 h f l) = V m c main_arg1 (ix4 (batch t) ⟨2 * (tile t).val + h.val, by omega⟩ f l) := by
  unfold iblk
  refine congrArg (V m c main_arg1) (funext fun a => Fin.ext ?_)
  have hi := congrFun (index1 t)
  match a with
  | ⟨0, _⟩ => have hi : win0_1.index t 0 = t.val / 8 := hi 0; show win0_1.index t 0 * 1 + 1 * 0 = t.val / 8; omega
  | ⟨1, _⟩ => have hi : win0_1.index t 1 = t.val % 8 := hi 1; show win0_1.index t 1 * 2 + 1 * h.val = 2 * (t.val % 8) + h.val; omega
  | ⟨2, _⟩ => have hi : win0_1.index t 2 = 0 := hi 2; show win0_1.index t 2 * 768 + 1 * f.val = f.val; omega
  | ⟨3, _⟩ => have hi : win0_1.index t 3 = 0 := hi 3; show win0_1.index t 3 * 256 + 1 * l.val = l.val; omega

theorem iblk2 (i : Fin 512) (e : Fin 256) : iblk m c 2 t (ix3 0 i e) = V m c main_arg2 (ix3 (batch t) ⟨512 * (tile t).val + i.val, by omega⟩ e) := by
  unfold iblk
  refine congrArg (V m c main_arg2) (funext fun a => Fin.ext ?_)
  have h := congrFun (index2 t)
  match a with
  | ⟨0, _⟩ => have h : win0_2.index t 0 = t.val / 8 := h 0; show win0_2.index t 0 * 1 + 1 * 0 = t.val / 8; omega
  | ⟨1, _⟩ => have h : win0_2.index t 1 = t.val % 8 := h 1; show win0_2.index t 1 * 512 + 1 * i.val = 512 * (t.val % 8) + i.val; omega
  | ⟨2, _⟩ => have h : win0_2.index t 2 = 0 := h 2; show win0_2.index t 2 * 256 + 1 * e.val = e.val; omega

theorem iblk3 (e : Fin 256) (n : Fin 1024) : iblk m c 3 t (ix4 0 0 e n) = V m c main_arg3 (ix4 1 (batch t) e n) := by
  unfold iblk
  refine congrArg (V m c main_arg3) (funext fun a => Fin.ext ?_)
  have h := congrFun (index3 t)
  match a with
  | ⟨0, _⟩ => have h : win0_3.index t 0 = 1 := h 0; show win0_3.index t 0 * 1 + 1 * 0 = 1; omega
  | ⟨1, _⟩ => have h : win0_3.index t 1 = t.val / 8 := h 1; show win0_3.index t 1 * 1 + 1 * 0 = t.val / 8; omega
  | ⟨2, _⟩ => have h : win0_3.index t 2 = 0 := h 2; show win0_3.index t 2 * 256 + 1 * e.val = e.val; omega
  | ⟨3, _⟩ => have h : win0_3.index t 3 = 0 := h 3; show win0_3.index t 3 * 1024 + 1 * n.val = n.val; omega

theorem iblk4 (n : Fin 1024) (e : Fin 256) : iblk m c 4 t (ix4 0 0 n e) = V m c main_arg4 (ix4 1 (batch t) n e) := by
  unfold iblk
  refine congrArg (V m c main_arg4) (funext fun a => Fin.ext ?_)
  have h := congrFun (index4 t)
  match a with
  | ⟨0, _⟩ => have h : win0_4.index t 0 = 1 := h 0; show win0_4.index t 0 * 1 + 1 * 0 = 1; omega
  | ⟨1, _⟩ => have h : win0_4.index t 1 = t.val / 8 := h 1; show win0_4.index t 1 * 1 + 1 * 0 = t.val / 8; omega
  | ⟨2, _⟩ => have h : win0_4.index t 2 = 0 := h 2; show win0_4.index t 2 * 1024 + 1 * n.val = n.val; omega
  | ⟨3, _⟩ => have h : win0_4.index t 3 = 0 := h 3; show win0_4.index t 3 * 256 + 1 * e.val = e.val; omega

theorem iblk5 (d : Fin 1024) (n : Fin 5632) : iblk m c 5 t (ix3 0 d n) = V m c main_arg5 (ix3 1 d n) := by
  unfold iblk
  refine congrArg (V m c main_arg5) (funext fun a => Fin.ext ?_)
  have h := congrFun (index5 t)
  match a with
  | ⟨0, _⟩ => have h : win0_5.index t 0 = 1 := h 0; show win0_5.index t 0 * 1 + 1 * 0 = 1; omega
  | ⟨1, _⟩ => have h : win0_5.index t 1 = 0 := h 1; show win0_5.index t 1 * 1024 + 1 * d.val = d.val; omega
  | ⟨2, _⟩ => have h : win0_5.index t 2 = 0 := h 2; show win0_5.index t 2 * 5632 + 1 * n.val = n.val; omega

theorem iblk6 (f : Fin 2816) (d : Fin 1024) : iblk m c 6 t (ix3 0 f d) = V m c main_arg6 (ix3 1 f d) := by
  unfold iblk
  refine congrArg (V m c main_arg6) (funext fun a => Fin.ext ?_)
  have h := congrFun (index6 t)
  match a with
  | ⟨0, _⟩ => have h : win0_6.index t 0 = 1 := h 0; show win0_6.index t 0 * 1 + 1 * 0 = 1; omega
  | ⟨1, _⟩ => have h : win0_6.index t 1 = 0 := h 1; show win0_6.index t 1 * 2816 + 1 * f.val = f.val; omega
  | ⟨2, _⟩ => have h : win0_6.index t 2 = 0 := h 2; show win0_6.index t 2 * 1024 + 1 * d.val = d.val; omega

theorem iblk7 (e d : Fin 1024) : iblk m c 7 t (ix2 e d) = V m c main_arg7 (ix2 e d) := by
  unfold iblk
  refine congrArg (V m c main_arg7) (funext fun a => Fin.ext ?_)
  have h := congrFun (index7 t)
  match a with
  | ⟨0, _⟩ => have h : win0_7.index t 0 = 0 := h 0; show win0_7.index t 0 * 1024 + 1 * e.val = e.val; omega
  | ⟨1, _⟩ => have h : win0_7.index t 1 = 0 := h 1; show win0_7.index t 1 * 1024 + 1 * d.val = d.val; omega

theorem iblk8 (d : Fin 1024) : iblk m c 8 t (ix2 0 d) = V m c main_arg8 (ix2 0 d) := by
  unfold iblk
  refine congrArg (V m c main_arg8) (funext fun a => Fin.ext ?_)
  have h := congrFun (index8 t)
  match a with
  | ⟨0, _⟩ => have h : win0_8.index t 0 = 0 := h 0; show win0_8.index t 0 * 1 + 1 * 0 = 0; omega
  | ⟨1, _⟩ => have h : win0_8.index t 1 = 0 := h 1; show win0_8.index t 1 * 1024 + 1 * d.val = d.val; omega

theorem iblk9 (k : Fin 3) (n : Fin 2816) : iblk m c 9 t (ix2 k n) = V m c main_arg9 (ix2 k n) := by
  unfold iblk
  refine congrArg (V m c main_arg9) (funext fun a => Fin.ext ?_)
  have h := congrFun (index9 t)
  match a with
  | ⟨0, _⟩ => have h : win0_9.index t 0 = 0 := h 0; show win0_9.index t 0 * 3 + 1 * k.val = k.val; omega
  | ⟨1, _⟩ => have h : win0_9.index t 1 = 0 := h 1; show win0_9.index t 1 * 2816 + 1 * n.val = n.val; omega

theorem iblk10 (n : Fin 2816) : iblk m c 10 t (ix2 0 n) = V m c main_arg10 (ix2 0 n) := by
  unfold iblk
  refine congrArg (V m c main_arg10) (funext fun a => Fin.ext ?_)
  have h := congrFun (index10 t)
  match a with
  | ⟨0, _⟩ => have h : win0_10.index t 0 = 0 := h 0; show win0_10.index t 0 * 1 + 1 * 0 = 0; omega
  | ⟨1, _⟩ => have h : win0_10.index t 1 = 0 := h 1; show win0_10.index t 1 * 2816 + 1 * n.val = n.val; omega

theorem iblk11 (d : Fin 1024) : iblk m c 11 t (ix2 0 d) = V m c main_arg11 (ix2 0 d) := by
  unfold iblk
  refine congrArg (V m c main_arg11) (funext fun a => Fin.ext ?_)
  have h := congrFun (index11 t)
  match a with
  | ⟨0, _⟩ => have h : win0_11.index t 0 = 0 := h 0; show win0_11.index t 0 * 1 + 1 * 0 = 0; omega
  | ⟨1, _⟩ => have h : win0_11.index t 1 = 0 := h 1; show win0_11.index t 1 * 1024 + 1 * d.val = d.val; omega

/-- The kernel's arguments. -/
def arrays : Arrays where
  x := V m c main_arg0
  mix := V m c main_arg1
  q := V m c main_arg2
  k := V m c main_arg3
  v := V m c main_arg4
  wup := V m c main_arg5
  wdown := V m c main_arg6
  wout := V m c main_arg7
  g := V m c main_arg8
  taps := V m c main_arg9
  bias := V m c main_arg10
  gl := V m c main_arg11

theorem at2 {n0 n1 m0 m1 o0 o1 : ℕ} (i : Fin n0) (j : Fin n1) (z0 : Fin m0) (z1 : Fin m1) (h0 : z0.val = o0 + i.val) (h1 : z1.val = o1 + j.val) :
    ∀ a : Fin 2, (ix2 z0 z1 a).val = (![o0, o1] : Fin 2 → ℕ) a + (ix2 i j a).val
  | ⟨0, _⟩ => h0
  | ⟨1, _⟩ => h1

theorem at3 {n0 n1 n2 m0 m1 m2 o0 o1 o2 : ℕ} (i : Fin n0) (j : Fin n1) (k : Fin n2) (z0 : Fin m0) (z1 : Fin m1) (z2 : Fin m2)
    (h0 : z0.val = o0 + i.val) (h1 : z1.val = o1 + j.val) (h2 : z2.val = o2 + k.val) :
    ∀ a : Fin 3, (ix3 z0 z1 z2 a).val = (![o0, o1, o2] : Fin 3 → ℕ) a + (ix3 i j k a).val
  | ⟨0, _⟩ => h0
  | ⟨1, _⟩ => h1
  | ⟨2, _⟩ => h2

theorem at4 {n0 n1 n2 n3 m0 m1 m2 m3 o0 o1 o2 o3 : ℕ} (i : Fin n0) (j : Fin n1) (k : Fin n2) (l : Fin n3)
    (z0 : Fin m0) (z1 : Fin m1) (z2 : Fin m2) (z3 : Fin m3)
    (h0 : z0.val = o0 + i.val) (h1 : z1.val = o1 + j.val) (h2 : z2.val = o2 + k.val) (h3 : z3.val = o3 + l.val) :
    ∀ a : Fin 4, (ix4 z0 z1 z2 z3 a).val = (![o0, o1, o2, o3] : Fin 4 → ℕ) a + (ix4 i j k l a).val
  | ⟨0, _⟩ => h0
  | ⟨1, _⟩ => h1
  | ⟨2, _⟩ => h2
  | ⟨3, _⟩ => h3

/-- The point's loads. -/
def pointLoads : Loads Ideal := loads (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t)
  (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

theorem fits : Fits (arrays m c) 1 (batch t) (tile t) (pointLoads m c t) where
  x i d := (load_eq _ _ _ _ _ _ _ _ (at3 0 i d 0 i d (Nat.zero_add _).symm (Nat.zero_add _).symm (Nat.zero_add _).symm)).trans (iblk0 m c t i d)
  m h f l := (load_eq _ _ _ _ _ _ _ _ (at4 0 (0 : Fin 1) f l 0 h f l rfl rfl (Nat.zero_add _).symm (Nat.zero_add _).symm)).trans (iblk1 m c t h f l)
  q i e := (load_eq _ _ _ _ _ _ _ _ (at3 0 i e 0 i e (Nat.zero_add _).symm (Nat.zero_add _).symm (Nat.zero_add _).symm)).trans (iblk2 m c t i e)
  k e n := (load_eq _ _ _ _ _ _ _ _ (at4 0 0 e n 0 0 e n (Nat.zero_add _).symm (Nat.zero_add _).symm (Nat.zero_add _).symm (Nat.zero_add _).symm)).trans (iblk3 m c t e n)
  v n e := (load_eq _ _ _ _ _ _ _ _ (at4 0 0 n e 0 0 n e (Nat.zero_add _).symm (Nat.zero_add _).symm (Nat.zero_add _).symm (Nat.zero_add _).symm)).trans (iblk4 m c t n e)
  wup g d n := (load_eq _ _ _ _ _ _ _ _ (at3 0 d n 0 d ⟨256 * g.val + n.val, by omega⟩ rfl (Nat.zero_add _).symm rfl)).trans (iblk5 m c t d _)
  wdown f d := (load_eq _ _ _ _ _ _ _ _ (at3 0 f d 0 f d (Nat.zero_add _).symm (Nat.zero_add _).symm (Nat.zero_add _).symm)).trans (iblk6 m c t f d)
  wmix f d := (load_eq _ _ _ _ _ _ _ _ (at2 f d (⟨f.val, by omega⟩ : Fin 1024) d (Nat.zero_add _).symm (Nat.zero_add _).symm)).trans (iblk7 m c t _ d)
  wmem e d := (load_eq _ _ _ _ _ _ _ _ (at2 e d (⟨768 + e.val, by omega⟩ : Fin 1024) d rfl (Nat.zero_add _).symm)).trans (iblk7 m c t _ d)
  g d := (load_eq _ _ _ _ _ _ _ _ (at2 0 d 0 d (Nat.zero_add _).symm (Nat.zero_add _).symm)).trans (iblk8 m c t d)
  taps g k n := (load_eq _ _ _ _ _ _ _ _ (at2 k n k ⟨256 * g.val + n.val, by omega⟩ (Nat.zero_add _).symm rfl)).trans (iblk9 m c t k _)
  bias g n := (load_eq _ _ _ _ _ _ _ _ (at2 0 n 0 ⟨256 * g.val + n.val, by omega⟩ rfl rfl)).trans (iblk10 m c t _)
  gl d := (load_eq _ _ _ _ _ _ _ _ (at2 0 d 0 d (Nat.zero_add _).symm (Nat.zero_add _).symm)).trans (iblk11 m c t d)

/-- The block a point leaves, over the last rows `q` it reads. -/
theorem stored_eq (q : Fin 11 → FVec Ideal S8x256 .f32)
    (hq : ∀ (k : Fin 11) (i : Fin 8) (n : Fin 256), q k (ix2 i n) = (arrays m c).before 1 (batch t) (tile t).val i ⟨256 * k.val + n.val, by omega⟩)
    (i : Fin 512) (d : Fin 1024) :
    VO0_12.read (Elt Ideal) (VO0_12.writes (Elt Ideal) VO0_12.junk (stored (pointLoads m c t) scM0_1 q)) (ix3 0 i d)
      = (arrays m c).final 1 (batch t) (tok (tile t) i) d := by
  have hG := View.read_writes_apply_of_pieces (e := EltTy.f32) (Val := Elt Ideal) VO0_12 VO0_12.junk
    (fun y : S1x512x1024.Idx => (arrays m c).final 1 (batch t) (tok (tile t) (y 1)) (y 2)) (stored (pointLoads m c t) scM0_1 q)
  refine hG ?_ (ix3 0 i d) ?_
  · intro pc hpc
    obtain rfl := List.mem_singleton.mp hpc
    intro (x : S1x512x1024.Idx)
    obtain ⟨x0, x1, x2, rfl⟩ : ∃ a b d, x = ix3 a b d := ⟨x 0, x 1, x 2, eq_ix3 x⟩
    obtain rfl : x0 = 0 := Subsingleton.elim _ _
    refine (final_eq (fits m c t) _ (gated_read (fits m c t) _ q hq) x1 x2).trans
      (congrArg₂ (fun r n => (arrays m c).final 1 (batch t) (tok (tile t) r) n) (Fin.ext ?_) (Fin.ext ?_))
    · show x1.val = 0 + 1 * x1.val; omega
    · show x2.val = 0 + 1 * x2.val; omega
  · refine ⟨_, List.mem_singleton_self _, ?_⟩
    show ix3 0 i d ∈ (Rect.unit (s := S1x512x1024) ![0, 0, 0] S1x512x1024.size inb_S1x512x1024_S1x512x1024_0_0_0).set
    refine Rect.mem_set_unit.mpr fun a => ?_
    match a with
    | ⟨0, _⟩ => exact ⟨Nat.zero_le _, (by omega : 0 < 0 + 1)⟩
    | ⟨1, _⟩ => exact ⟨Nat.zero_le _, (by omega : i.val < 0 + 512)⟩
    | ⟨2, _⟩ => exact ⟨Nat.zero_le _, (by omega : d.val < 0 + 1024)⟩

theorem point_A (hc : cond0_0 (grid0.coords t)) :
    (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) hc
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)).1 = stored (pointLoads m c t) scM0_1 (haloA (pointLoads m c t) scM0_0) := by
  unfold pointLoads
  exact pieces_A ..

theorem left_A (hc : cond0_0 (grid0.coords t)) :
    (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) hc
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)).2.1 = haloStores (pointLoads m c t) cleared 11 := by
  unfold pointLoads
  exact halo_A ..

theorem point_B (hc : ¬cond0_0 (grid0.coords t)) (p : Vec Ideal S8x2816 .f32) :
    (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) hc
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p).1 = stored (pointLoads m c t) scM0_1 (haloB scM0_0 (Memref.isWhole_whole _) p) := by
  unfold pointLoads
  exact pieces_B ..

theorem left_B (hc : ¬cond0_0 (grid0.coords t)) (p : Vec Ideal S8x2816 .f32) :
    (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) hc
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p).2.1 = haloStores (pointLoads m c t) [] 11 := by
  unfold pointLoads
  exact halo_B ..

/-- What holds after a point: its block of the result, and the gate's last rows. -/
def Done (t : Fin cfg0.N) : Prop :=
  (∀ (i : Fin 512) (d : Fin 1024), (outsAt0 m c t.val t.isLt).1 (ix3 0 i d) = (arrays m c).final 1 (batch t) (tok (tile t) i) d) ∧
  ∀ (i : Fin 8) (n : Fin 2816), (outsAt0 m c t.val t.isLt).2 (ix2 i n) = (arrays m c).before 1 (batch t) ((tile t).val + 1) i n

theorem done_A (h0 : t.val % 8 = 0) : Done m c t := by
  unfold Done
  rw [outsAt0_A m c t h0]
  constructor
  · intro i d
    dsimp only
    unfold out0_A_12
    rw [point_A m c t]
    refine stored_eq m c t _ (fun k i n => ?_) i d
    refine (haloA_eq _ _ k i n).trans ?_
    unfold Arrays.before
    have h : ¬(8 ≤ 512 * (tile t).val + i.val ∧ (tile t).val ≤ 8) := by
      show ¬(8 ≤ 512 * (t.val % 8) + i.val ∧ t.val % 8 ≤ 8); omega
    rw [dif_neg h]
  · intro i n
    dsimp only
    unfold sout0_A_0
    rw [left_A m c t]
    exact halo_left (fits m c t) _ _ _ i n

theorem done_B (h0 : ¬t.val % 8 = 0) (hp : Done m c ⟨t.val - 1, Nat.lt_of_le_of_lt (Nat.sub_le _ _) t.isLt⟩) : Done m c t := by
  have hp2 : ∀ (i : Fin 8) (n : Fin 2816), (outsAt0 m c (t.val - 1) (Nat.lt_of_le_of_lt (Nat.sub_le _ _) t.isLt)).2 (ix2 i n)
      = (arrays m c).before 1 (batch t) (tile t).val i n := by
    intro i n
    refine (hp.2 i n).trans (congrArg₂ (fun b j => (arrays m c).before 1 b j i n) (Fin.ext ?_) ?_)
    · show (t.val - 1) / 8 = t.val / 8; omega
    · show (t.val - 1) % 8 + 1 = t.val % 8; omega
  unfold Done
  rw [outsAt0_B m c t h0]
  constructor
  · intro i d
    dsimp only
    unfold out0_B_12
    rw [point_B m c t]
    refine stored_eq m c t _ (fun k i n => ?_) i d
    exact (load_eq _ _ _ _ _ _ _ _ (at2 i n i ⟨256 * k.val + n.val, by omega⟩ (Nat.zero_add _).symm rfl)).trans (hp2 i _)
  · intro i n
    dsimp only
    unfold sout0_B_0
    rw [left_B m c t]
    exact halo_left (fits m c t) _ _ _ i n

theorem done (t : Fin cfg0.N) : Done m c t := by
  obtain ⟨k, hk⟩ := t
  induction k with
  | zero => exact done_A m c ⟨0, hk⟩ rfl
  | succ k ih =>
    by_cases h0 : (k + 1) % 8 = 0
    · exact done_A m c ⟨k + 1, hk⟩ h0
    · exact done_B m c ⟨k + 1, hk⟩ h0 (ih (by omega))

theorem flush12 : ∀ t : Fin cfg0.N, (cfg0.win 12).flush t = true :=
  (by decide +kernel : ∀ t : Fin grid0.N, win0_12.flush t = true)

/-- The array after all grid points, entry by entry. -/
theorem array_eq (b : Fin 8) (p : Fin 4096) (d : Fin 1024) :
    (dats m 0 c).arrAt 12 cfg0.N (ix3 b p d) = (arrays m c).final 1 b p d := by
  let t : Fin cfg0.N := ⟨8 * b.val + p.val / 512, (by omega : 8 * b.val + p.val / 512 < 64)⟩
  have hb : batch t = b := Fin.ext (by show (8 * b.val + p.val / 512) / 8 = b.val; omega)
  have hj : tok (tile t) ⟨p.val % 512, by omega⟩ = p := Fin.ext (by show 512 * ((8 * b.val + p.val / 512) % 8) + p.val % 512 = p.val; omega)
  have h := congrFun (blocks12 m c t (flush12 t)) (ix3 0 ⟨p.val % 512, by omega⟩ d)
  have hd := (done m c t).1 ⟨p.val % 512, by omega⟩ d
  rw [hb, hj] at hd
  rw [flushed12] at h
  refine Eq.trans (congrArg ((dats m 0 c).arrAt 12 cfg0.N) (funext fun a => Fin.ext ?_)) (h.trans hd)
  have hi := congrFun (index12 t)
  match a with
  | ⟨0, _⟩ => have hi : win0_12.index t 0 = (8 * b.val + p.val / 512) / 8 := hi 0; show b.val = win0_12.index t 0 * 1 + 1 * 0; omega
  | ⟨1, _⟩ => have hi : win0_12.index t 1 = (8 * b.val + p.val / 512) % 8 := hi 1; show p.val = win0_12.index t 1 * 512 + 1 * (p.val % 512); omega
  | ⟨2, _⟩ => have hi : win0_12.index t 2 = 0 := hi 2; show d.val = win0_12.index t 2 * 1024 + 1 * d.val; omega

end Cert.Kernel2Ideal.Tile

end
-- ==== Proof.FirstResult.lean ====
/-
  The whole results of the call after the first mixer: each entry of the five arrays after all grid points, as the functions of
  the whole arrays the tile computes parts of.
-/
module

public import Idealize.ShloMosaic.Lib.VecWindow
public import proofs.«01_k».proof.Proof.FirstTile
public import proofs.«01_k».proof.Proof.MixerResult
public import proofs.«01_k».proof.Proof.Gen.Kernel3Ideal.Frame
public import proofs.«01_k».proof.Proof.Gen.Kernel3Ideal.Value

@[expose] public section

set_option maxRecDepth 16384

noncomputable section

namespace Cert.Kernel3Ideal.Tile

open Cert.Kernel3Ideal Cert.Kernel3Ideal.Gen Cert.Kernel3Ideal.Facts Cert.Kernel3Ideal.Value Idealize.ShloMosaic
open Cert.Kernel2Ideal.Tile (Arrays Loads Fits load loads haloA haloB haloStores cleared load_eq haloA_eq halo_left gated_read tok hidden hidden_apply)

/-! ## What a point's stores leave, from what it loads -/

/-- The stores leave tile `j` of sequence `b` of the five results, and the gate's last rows. -/
structure Right (A : Arrays) (N : Next Ideal) (b j : Fin 8) (S : Stores Ideal) : Prop where
  stream : ∀ {sg : RefSig} {κ : Kind} {sp : Space} (v : View sg κ sp S1x512x1024 .f32) (f : v.ty.Contents (Elt Ideal)) (i : Fin 512) (d : Fin 1024),
    v.read (Elt Ideal) (v.writes (Elt Ideal) f S.stream) (ix3 0 i d) = A.out 0 b (tok j i) d
  keys : ∀ {sg : RefSig} {κ : Kind} {sp : Space} (v : View sg κ sp S1x512x768 .bf16) (f : v.ty.Contents (Elt Ideal)) (i : Fin 512) (n : Fin 768),
    v.read (Elt Ideal) (v.writes (Elt Ideal) f S.keys) (ix3 0 i n) = keyAt A N b (tok j i) n
  values : ∀ {sg : RefSig} {κ : Kind} {sp : Space} (v : View sg κ sp S1x768x512 .bf16) (f : v.ty.Contents (Elt Ideal)) (n : Fin 768) (i : Fin 512),
    v.read (Elt Ideal) (v.writes (Elt Ideal) f S.values) (ix3 0 n i) = valueAt A N b (tok j i) n
  queries : ∀ {sg : RefSig} {κ : Kind} {sp : Space} (v : View sg κ sp S1x2x768x256 .bf16) (f : v.ty.Contents (Elt Ideal)) (s : Fin 2) (n : Fin 768)
    (l : Fin 256), v.read (Elt Ideal) (v.writes (Elt Ideal) f S.queries) (ix4 0 s n l) = queryAt A N b (tok j ⟨256 * s.val + l.val, by omega⟩) n
  memQueries : ∀ {sg : RefSig} {κ : Kind} {sp : Space} (v : View sg κ sp S1x512x256 .bf16) (f : v.ty.Contents (Elt Ideal)) (i : Fin 512) (n : Fin 256),
    v.read (Elt Ideal) (v.writes (Elt Ideal) f S.memQueries) (ix3 0 i n) = memQueryAt A N b (tok j i) n
  halo : ∀ {sg : RefSig} {κ : Kind} {sp : Space} (v : View sg κ sp S8x2816 .f32) (f : v.ty.Contents (Elt Ideal)) (i : Fin 8) (n : Fin 2816),
    v.read (Elt Ideal) (v.writes (Elt Ideal) f S.halo) (ix2 i n) = A.before 0 b (j.val + 1) i n

section tile

variable {A : Arrays} {b j : Fin 8} {L : Loads Ideal} (N : Next Ideal) (h : Fits A 0 b j L)

theorem mem_half (s : Fin 2) (n : Fin 768) (l : Fin 256) : ix4 0 s n l ∈ (halfBlock s).set := by
  refine Rect.mem_set_unit.mpr fun a => ?_
  match a with
  | ⟨0, _⟩ => exact ⟨Nat.zero_le _, (by omega : 0 < 0 + 1)⟩
  | ⟨1, _⟩ => exact ⟨le_rfl, (by omega : s.val < s.val + 1)⟩
  | ⟨2, _⟩ => exact ⟨Nat.zero_le _, (by omega : n.val < 0 + 768)⟩
  | ⟨3, _⟩ => exact ⟨Nat.zero_le _, (by omega : l.val < 0 + 256)⟩

include h

/-- Rows under a norm, from rows of the stream. -/
theorem rows_eq (x : FVec Ideal S512x1024 .f32) (hx : ∀ i d, x (ix2 i d) = A.out 0 b (tok j i) d) (i : Fin 512) (d : Fin 1024) :
    hidden x L.gl (ix2 i d) = A.final 0 b (tok j i) d ∧ hidden x N.gn (ix2 i d) = nextRow A N b (tok j i) d := by
  rw [hidden_apply, hidden_apply, show (fun e => x (ix2 i e)) = A.out 0 b (tok j i) from funext fun e => hx i e,
    show (fun e => L.gl (ix2 0 e)) = fun e => A.gl (ix2 0 e) from funext fun e => h.gl e]
  exact ⟨rfl, rfl⟩

theorem leaves_right (x : FVec Ideal S512x1024 .f32) (hx : ∀ i d, x (ix2 i d) = A.out 0 b (tok j i) d)
    (base : List (View.Piece (Elt Ideal) S8x2816 .f32)) : Right A N b j (leaves x L.gl N (haloStores L base 11)) where
  stream v f i d := by
    refine (congrFun (View.read_writes_full v f _ (stream x) []) (ix3 0 i d)).trans ?_
    rw [stream_apply, hx]
  keys v f i n := by
    refine (congrFun (View.read_writes_full v f _ (keys (hidden x L.gl) N.wk) []) (ix3 0 i n)).trans ?_
    rw [keys_apply]
    exact Finset.sum_congr rfl fun d _ => by rw [(rows_eq N h x hx i d).1]
  values v f n i := by
    refine (congrFun (View.read_writes_full v f _ (values N.wvt (hidden x L.gl)) []) (ix3 0 n i)).trans ?_
    rw [values_apply]
    exact Finset.sum_congr rfl fun d _ => by rw [(rows_eq N h x hx i d).1]
  queries v f s n l := by
    have hG := View.read_writes_apply_of_pieces (e := EltTy.bf16) (Val := Elt Ideal) v f
      (fun y : S1x2x768x256.Idx => queryAt A N b (tok j ⟨256 * (y 1).val + (y 3).val, by
        have h1 : (y 1).val < 2 := (y 1).isLt
        have h3 : (y 3).val < 256 := (y 3).isLt
        omega⟩) (y 2)) (leaves x L.gl N (haloStores L base 11)).queries
    have hq : ∀ (s : Fin 2) (y : S1x1x768x256.Idx), queries N.wqt (hidden x N.gn) s y
        = (fun y : S1x2x768x256.Idx => queryAt A N b (tok j ⟨256 * (y 1).val + (y 3).val, by
          have h1 : (y 1).val < 2 := (y 1).isLt
          have h3 : (y 3).val < 256 := (y 3).isLt
          omega⟩) (y 2)) ((halfBlock s).emb y) := by
      intro s y
      obtain ⟨y0, y1, y2, y3, rfl⟩ : ∃ a b c d, y = ix4 a b c d := ⟨y 0, y 1, y 2, y 3, eq_ix4 y⟩
      obtain rfl : y0 = 0 := Subsingleton.elim _ _
      obtain rfl : y1 = 0 := Subsingleton.elim _ _
      rw [queries_apply]
      refine (Finset.sum_congr rfl fun d _ => by rw [(rows_eq N h x hx _ d).2]).trans
        (congrArg₂ (fun r n => queryAt A N b (tok j r) n) (Fin.ext ?_) (Fin.ext ?_))
      · show 256 * s.val + y3.val = 256 * (s.val + 1 * 0) + (0 + 1 * y3.val); omega
      · show y2.val = 0 + 1 * y2.val; omega
    refine hG ?_ (ix4 0 s n l) ?_
    · intro pc hpc
      rcases List.mem_cons.mp hpc with rfl | hpc
      · exact hq 1
      · obtain rfl := List.mem_singleton.mp hpc
        exact hq 0
    · match s with
      | ⟨0, _⟩ => exact ⟨_, List.mem_cons_of_mem _ (List.mem_singleton_self _), mem_half 0 n l⟩
      | ⟨1, _⟩ => exact ⟨_, List.mem_cons_self, mem_half 1 n l⟩
  memQueries v f i n := by
    refine (congrFun (View.read_writes_full v f _ (memQueries (hidden x N.gn) N.wqmem) []) (ix3 0 i n)).trans ?_
    rw [memQueries_apply]
    exact Finset.sum_congr rfl fun d _ => by rw [(rows_eq N h x hx i d).2]
  halo v f i n := halo_left h v f base i n

theorem after_eq {sg : RefSig} (arg25 : Memref sg .tc .vmem S512x2816 .bf16) (q : Fin 11 → FVec Ideal S8x256 .f32)
    (hq : ∀ (c : Fin 11) (i : Fin 8) (n : Fin 256), q c (ix2 i n) = A.before 0 b j.val i ⟨256 * c.val + n.val, by omega⟩)
    (i : Fin 512) (d : Fin 1024) : after L arg25 q (ix2 i d) = A.out 0 b (tok j i) d :=
  Cert.Kernel2Ideal.Tile.out_eq h _ (gated_read h _ q hq) i d

end tile

/-! ## The blocks a grid point is given -/

/-- A block's entry in its array, axis by axis. -/
theorem at3 {n0 n1 n2 m0 m1 m2 o0 o1 o2 : ℕ} (s0 s1 s2 : ℕ) {w : Fin 3 → ℕ} (hw : w = ![o0, o1, o2]) (i : Fin n0) (j : Fin n1) (k : Fin n2)
    (z0 : Fin m0) (z1 : Fin m1) (z2 : Fin m2) (h0 : z0.val = o0 * s0 + i.val) (h1 : z1.val = o1 * s1 + j.val) (h2 : z2.val = o2 * s2 + k.val) :
    ∀ a : Fin 3, w a * (![s0, s1, s2] : Fin 3 → ℕ) a + 1 * (ix3 i j k a).val = (ix3 z0 z1 z2 a).val := by
  subst hw
  intro a
  match a with
  | ⟨0, _⟩ => show o0 * s0 + 1 * i.val = z0.val; omega
  | ⟨1, _⟩ => show o1 * s1 + 1 * j.val = z1.val; omega
  | ⟨2, _⟩ => show o2 * s2 + 1 * k.val = z2.val; omega

theorem at4 {n0 n1 n2 n3 m0 m1 m2 m3 o0 o1 o2 o3 : ℕ} (s0 s1 s2 s3 : ℕ) {w : Fin 4 → ℕ} (hw : w = ![o0, o1, o2, o3])
    (i : Fin n0) (j : Fin n1) (k : Fin n2) (l : Fin n3) (z0 : Fin m0) (z1 : Fin m1) (z2 : Fin m2) (z3 : Fin m3)
    (h0 : z0.val = o0 * s0 + i.val) (h1 : z1.val = o1 * s1 + j.val) (h2 : z2.val = o2 * s2 + k.val) (h3 : z3.val = o3 * s3 + l.val) :
    ∀ a : Fin 4, w a * (![s0, s1, s2, s3] : Fin 4 → ℕ) a + 1 * (ix4 i j k l a).val = (ix4 z0 z1 z2 z3 a).val := by
  subst hw
  intro a
  match a with
  | ⟨0, _⟩ => show o0 * s0 + 1 * i.val = z0.val; omega
  | ⟨1, _⟩ => show o1 * s1 + 1 * j.val = z1.val; omega
  | ⟨2, _⟩ => show o2 * s2 + 1 * k.val = z2.val; omega
  | ⟨3, _⟩ => show o3 * s3 + 1 * l.val = z3.val; omega

/-- A block that is the whole of a matrix. -/
theorem at_whole {n0 n1 : ℕ} {w : Fin 2 → ℕ} (hw : w = ![0, 0]) (y : (a : Fin 2) → Fin ((![n0, n1] : Fin 2 → ℕ) a)) :
    ∀ a : Fin 2, w a * (![n0, n1] : Fin 2 → ℕ) a + 1 * (y a).val = (y a).val := by
  subst hw
  intro a
  match a with
  | ⟨0, _⟩ => show 0 * n0 + 1 * (y 0).val = (y 0).val; omega
  | ⟨1, _⟩ => show 0 * n1 + 1 * (y 1).val = (y 1).val; omega

theorem index0 : ∀ t : Fin grid0.N, win0_0.index t = ![t.val / 8, t.val % 8, 0] := by decide +kernel
theorem index1 : ∀ t : Fin grid0.N, win0_1.index t = ![t.val / 8, t.val % 8, 0, 0] := by decide +kernel
theorem index2 : ∀ t : Fin grid0.N, win0_2.index t = ![t.val / 8, t.val % 8, 0] := by decide +kernel
theorem index3 : ∀ t : Fin grid0.N, win0_3.index t = ![0, t.val / 8, 0, 0] := by decide +kernel
theorem index4 : ∀ t : Fin grid0.N, win0_4.index t = ![0, t.val / 8, 0, 0] := by decide +kernel
theorem index5 : ∀ t : Fin grid0.N, win0_5.index t = ![0, 0, 0] := by decide +kernel
theorem index6 : ∀ t : Fin grid0.N, win0_6.index t = ![0, 0, 0] := by decide +kernel
theorem index7 : ∀ t : Fin grid0.N, win0_7.index t = ![0, 0] := by decide +kernel
theorem index8 : ∀ t : Fin grid0.N, win0_8.index t = ![0, 0] := by decide +kernel
theorem index9 : ∀ t : Fin grid0.N, win0_9.index t = ![0, 0] := by decide +kernel
theorem index10 : ∀ t : Fin grid0.N, win0_10.index t = ![0, 0] := by decide +kernel
theorem index11 : ∀ t : Fin grid0.N, win0_11.index t = ![0, 0] := by decide +kernel
theorem index12 : ∀ t : Fin grid0.N, win0_12.index t = ![0, 0] := by decide +kernel
theorem index13 : ∀ t : Fin grid0.N, win0_13.index t = ![0, 0] := by decide +kernel
theorem index14 : ∀ t : Fin grid0.N, win0_14.index t = ![0, 0] := by decide +kernel
theorem index15 : ∀ t : Fin grid0.N, win0_15.index t = ![0, 0] := by decide +kernel
theorem index16 : ∀ t : Fin grid0.N, win0_16.index t = ![0, 0] := by decide +kernel
theorem index17 : ∀ t : Fin grid0.N, win0_17.index t = ![t.val / 8, t.val % 8, 0] := by decide +kernel
theorem index18 : ∀ t : Fin grid0.N, win0_18.index t = ![t.val / 8, t.val % 8, 0] := by decide +kernel
theorem index19 : ∀ t : Fin grid0.N, win0_19.index t = ![t.val / 8, 0, t.val % 8] := by decide +kernel
theorem index20 : ∀ t : Fin grid0.N, win0_20.index t = ![t.val / 8, t.val % 8, 0, 0] := by decide +kernel
theorem index21 : ∀ t : Fin grid0.N, win0_21.index t = ![t.val / 8, t.val % 8, 0] := by decide +kernel

variable (m : (ℓ : Loc nD τ sig) → Buf (Elt Ideal) ℓ) (c : Dev nD) (t : Fin cfg0.N)

/-- The sequence and the tile of a grid point. -/
def batch : Fin 8 := ⟨t.val / 8, by have : t.val < 64 := t.isLt; omega⟩
def tile : Fin 8 := ⟨t.val % 8, by omega⟩

theorem iblk0 (i : Fin 512) (d : Fin 1024) : iblk m c 0 t (ix3 0 i d) = V m c main_arg0 (ix3 (batch t) (tok (tile t) i) d) :=
  congrArg (V m c main_arg0) (funext fun a => Fin.ext (at3 1 512 1024 (index0 t) (0 : Fin 1) i d (batch t) (tok (tile t) i) d
    (by show t.val / 8 = t.val / 8 * 1 + 0; omega) (by show 512 * (t.val % 8) + i.val = _; omega) (by omega) a))

theorem iblk1 (s : Fin 2) (f : Fin 768) (l : Fin 256) :
    iblk m c 1 t (ix4 0 s f l) = V m c main_arg1 (ix4 (batch t) ⟨2 * (tile t).val + s.val, by omega⟩ f l) :=
  congrArg (V m c main_arg1) (funext fun a => Fin.ext (at4 1 2 768 256 (index1 t) (0 : Fin 1) s f l (batch t) ⟨2 * (tile t).val + s.val, by omega⟩ f l
    (by show t.val / 8 = t.val / 8 * 1 + 0; omega) (by show 2 * (t.val % 8) + s.val = _; omega) (by omega) (by omega) a))

theorem iblk2 (i : Fin 512) (e : Fin 256) : iblk m c 2 t (ix3 0 i e) = V m c main_arg2 (ix3 (batch t) (tok (tile t) i) e) :=
  congrArg (V m c main_arg2) (funext fun a => Fin.ext (at3 1 512 256 (index2 t) (0 : Fin 1) i e (batch t) (tok (tile t) i) e
    (by show t.val / 8 = t.val / 8 * 1 + 0; omega) (by show 512 * (t.val % 8) + i.val = _; omega) (by omega) a))

theorem iblk3 (e : Fin 256) (n : Fin 1024) : iblk m c 3 t (ix4 0 0 e n) = V m c main_arg3 (ix4 0 (batch t) e n) :=
  congrArg (V m c main_arg3) (funext fun a => Fin.ext (at4 1 1 256 1024 (index3 t) (0 : Fin 1) (0 : Fin 1) e n 0 (batch t) e n
    rfl (by show t.val / 8 = t.val / 8 * 1 + 0; omega) (by omega) (by omega) a))

theorem iblk4 (n : Fin 1024) (e : Fin 256) : iblk m c 4 t (ix4 0 0 n e) = V m c main_arg4 (ix4 0 (batch t) n e) :=
  congrArg (V m c main_arg4) (funext fun a => Fin.ext (at4 1 1 1024 256 (index4 t) (0 : Fin 1) (0 : Fin 1) n e 0 (batch t) n e
    rfl (by show t.val / 8 = t.val / 8 * 1 + 0; omega) (by omega) (by omega) a))

theorem iblk5 (d : Fin 1024) (n : Fin 5632) : iblk m c 5 t (ix3 0 d n) = V m c main_arg5 (ix3 0 d n) :=
  congrArg (V m c main_arg5) (funext fun a => Fin.ext (at3 1 1024 5632 (index5 t) (0 : Fin 1) d n 0 d n rfl (by omega) (by omega) a))

theorem iblk6 (f : Fin 2816) (d : Fin 1024) : iblk m c 6 t (ix3 0 f d) = V m c main_arg6 (ix3 0 f d) :=
  congrArg (V m c main_arg6) (funext fun a => Fin.ext (at3 1 2816 1024 (index6 t) (0 : Fin 1) f d 0 f d rfl (by omega) (by omega) a))

theorem iblk7 : iblk m c 7 t = V m c main_arg7 :=
  funext fun y => congrArg (V m c main_arg7) (funext fun a => Fin.ext (at_whole (index7 t) y a))
theorem iblk8 : iblk m c 8 t = V m c main_arg8 :=
  funext fun y => congrArg (V m c main_arg8) (funext fun a => Fin.ext (at_whole (index8 t) y a))
theorem iblk9 : iblk m c 9 t = V m c main_arg9 :=
  funext fun y => congrArg (V m c main_arg9) (funext fun a => Fin.ext (at_whole (index9 t) y a))
theorem iblk10 : iblk m c 10 t = V m c main_arg10 :=
  funext fun y => congrArg (V m c main_arg10) (funext fun a => Fin.ext (at_whole (index10 t) y a))
theorem iblk11 : iblk m c 11 t = V m c main_arg11 :=
  funext fun y => congrArg (V m c main_arg11) (funext fun a => Fin.ext (at_whole (index11 t) y a))
theorem iblk12 : iblk m c 12 t = V m c main_arg12 :=
  funext fun y => congrArg (V m c main_arg12) (funext fun a => Fin.ext (at_whole (index12 t) y a))
theorem iblk13 : iblk m c 13 t = V m c main_arg13 :=
  funext fun y => congrArg (V m c main_arg13) (funext fun a => Fin.ext (at_whole (index13 t) y a))
theorem iblk14 : iblk m c 14 t = V m c main_arg14 :=
  funext fun y => congrArg (V m c main_arg14) (funext fun a => Fin.ext (at_whole (index14 t) y a))
theorem iblk15 : iblk m c 15 t = V m c main_arg15 :=
  funext fun y => congrArg (V m c main_arg15) (funext fun a => Fin.ext (at_whole (index15 t) y a))
theorem iblk16 : iblk m c 16 t = V m c main_arg16 :=
  funext fun y => congrArg (V m c main_arg16) (funext fun a => Fin.ext (at_whole (index16 t) y a))

/-- The kernel's arguments. -/
def arrays : Arrays where
  x := V m c main_arg0
  mix := V m c main_arg1
  q := V m c main_arg2
  k := V m c main_arg3
  v := V m c main_arg4
  wup := V m c main_arg5
  wdown := V m c main_arg6
  wout := V m c main_arg7
  g := V m c main_arg8
  taps := V m c main_arg9
  bias := V m c main_arg10
  gl := V m c main_arg11

/-- Its arguments for the next mixers. -/
def next : Next Ideal where
  wk := V m c main_arg12
  wvt := V m c main_arg13
  gn := V m c main_arg14
  wqt := V m c main_arg15
  wqmem := V m c main_arg16

/-- The point's loads. -/
def pointLoads : Loads Ideal := loads (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t)
  (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

def pointNext : Next Ideal := nextLoads (ms0_12 t) (hs0_12 t) (ms0_13 t) (hs0_13 t) (ms0_14 t) (hs0_14 t) (ms0_15 t) (hs0_15 t) (ms0_16 t) (hs0_16 t)
  (iblk m c 12 t) (iblk m c 13 t) (iblk m c 14 t) (iblk m c 15 t) (iblk m c 16 t)

theorem fits : Fits (arrays m c) 0 (batch t) (tile t) (pointLoads m c t) where
  x i d := (load_eq _ _ _ _ _ _ _ _ (Cert.Kernel2Ideal.Tile.at3 0 i d 0 i d (Nat.zero_add _).symm (Nat.zero_add _).symm (Nat.zero_add _).symm)).trans (iblk0 m c t i d)
  m h f l := (load_eq _ _ _ _ _ _ _ _ (Cert.Kernel2Ideal.Tile.at4 0 (0 : Fin 1) f l 0 h f l rfl rfl (Nat.zero_add _).symm (Nat.zero_add _).symm)).trans (iblk1 m c t h f l)
  q i e := (load_eq _ _ _ _ _ _ _ _ (Cert.Kernel2Ideal.Tile.at3 0 i e 0 i e (Nat.zero_add _).symm (Nat.zero_add _).symm (Nat.zero_add _).symm)).trans (iblk2 m c t i e)
  k e n := (load_eq _ _ _ _ _ _ _ _ (Cert.Kernel2Ideal.Tile.at4 0 0 e n 0 0 e n (Nat.zero_add _).symm (Nat.zero_add _).symm (Nat.zero_add _).symm (Nat.zero_add _).symm)).trans (iblk3 m c t e n)
  v n e := (load_eq _ _ _ _ _ _ _ _ (Cert.Kernel2Ideal.Tile.at4 0 0 n e 0 0 n e (Nat.zero_add _).symm (Nat.zero_add _).symm (Nat.zero_add _).symm (Nat.zero_add _).symm)).trans (iblk4 m c t n e)
  wup g d n := (load_eq _ _ _ _ _ _ _ _ (Cert.Kernel2Ideal.Tile.at3 0 d n 0 d ⟨256 * g.val + n.val, by omega⟩ rfl (Nat.zero_add _).symm rfl)).trans (iblk5 m c t d _)
  wdown f d := (load_eq _ _ _ _ _ _ _ _ (Cert.Kernel2Ideal.Tile.at3 0 f d 0 f d (Nat.zero_add _).symm (Nat.zero_add _).symm (Nat.zero_add _).symm)).trans (iblk6 m c t f d)
  wmix f d := (load_eq _ _ _ _ _ _ _ _ (Cert.Kernel2Ideal.Tile.at2 f d (⟨f.val, by omega⟩ : Fin 1024) d (Nat.zero_add _).symm (Nat.zero_add _).symm)).trans (congrFun (iblk7 m c t) _)
  wmem e d := (load_eq _ _ _ _ _ _ _ _ (Cert.Kernel2Ideal.Tile.at2 e d (⟨768 + e.val, by omega⟩ : Fin 1024) d rfl (Nat.zero_add _).symm)).trans (congrFun (iblk7 m c t) _)
  g d := (load_eq _ _ _ _ _ _ _ _ (Cert.Kernel2Ideal.Tile.at2 0 d 0 d (Nat.zero_add _).symm (Nat.zero_add _).symm)).trans (congrFun (iblk8 m c t) _)
  taps g k n := (load_eq _ _ _ _ _ _ _ _ (Cert.Kernel2Ideal.Tile.at2 k n k ⟨256 * g.val + n.val, by omega⟩ (Nat.zero_add _).symm rfl)).trans (congrFun (iblk9 m c t) _)
  bias g n := (load_eq _ _ _ _ _ _ _ _ (Cert.Kernel2Ideal.Tile.at2 0 n 0 ⟨256 * g.val + n.val, by omega⟩ rfl rfl)).trans (congrFun (iblk10 m c t) _)
  gl d := (load_eq _ _ _ _ _ _ _ _ (Cert.Kernel2Ideal.Tile.at2 0 d 0 d (Nat.zero_add _).symm (Nat.zero_add _).symm)).trans (congrFun (iblk11 m c t) _)

/-- A load of a whole matrix. -/
theorem load_all {sg : RefSig} {n0 n1 : ℕ} {e : EltTy} (r : Memref sg .tc .vmem ⟨2, ![n0, n1]⟩ e) (h : r.IsWhole)
    (x : Shape.Idx ⟨2, ![n0, n1]⟩ → Elt Ideal e) (ho : ∀ a, (![0, 0] : Fin 2 → ℕ) a + (![n0, n1] : Fin 2 → ℕ) a ≤ (![n0, n1] : Fin 2 → ℕ) a) :
    load r h x ![n0, n1] ![0, 0] ho = x :=
  funext fun y => load_eq r h x _ _ ho y y fun a => by
    match a with
    | ⟨0, _⟩ => exact (Nat.zero_add _).symm
    | ⟨1, _⟩ => exact (Nat.zero_add _).symm

theorem next_eq : pointNext m c t = next m c := by
  unfold pointNext nextLoads next
  rw [iblk12, iblk13, iblk14, iblk15, iblk16]
  congr 1
  · exact load_all ..
  · exact load_all ..
  · exact load_all ..
  · exact load_all ..
  · exact load_all ..

/-! ## A run's parts, read back -/

section read

variable {T : List (View.Piece (Elt Ideal) S1x512x1024 .f32) → List (View.Piece (Elt Ideal) S1x512x768 .bf16) → List (View.Piece (Elt Ideal) S1x768x512 .bf16)
      → List (View.Piece (Elt Ideal) S1x2x768x256 .bf16) → List (View.Piece (Elt Ideal) S1x512x256 .bf16) → List (View.Piece (Elt Ideal) S8x2816 .f32) → Type}
  {r : Σ' a b c d e f, T a b c d e f} {A : Arrays} {N : Next Ideal} {b j : Fin 8} (hr : Right A N b j (parts r))
include hr

theorem read_stream (i : Fin 512) (d : Fin 1024) :
    VO0_17.read (Elt Ideal) (VO0_17.writes (Elt Ideal) VO0_17.junk r.1) (ix3 0 i d) = A.out 0 b (tok j i) d := hr.stream _ _ i d

theorem read_keys (i : Fin 512) (n : Fin 768) :
    VO0_18.read (Elt Ideal) (VO0_18.writes (Elt Ideal) VO0_18.junk r.2.1) (ix3 0 i n) = keyAt A N b (tok j i) n := hr.keys _ _ i n

theorem read_values (n : Fin 768) (i : Fin 512) :
    VO0_19.read (Elt Ideal) (VO0_19.writes (Elt Ideal) VO0_19.junk r.2.2.1) (ix3 0 n i) = valueAt A N b (tok j i) n := hr.values _ _ n i

theorem read_queries (s : Fin 2) (n : Fin 768) (l : Fin 256) :
    VO0_20.read (Elt Ideal) (VO0_20.writes (Elt Ideal) VO0_20.junk r.2.2.2.1) (ix4 0 s n l)
      = queryAt A N b (tok j ⟨256 * s.val + l.val, by omega⟩) n := hr.queries _ _ s n l

theorem read_memQueries (i : Fin 512) (n : Fin 256) :
    VO0_21.read (Elt Ideal) (VO0_21.writes (Elt Ideal) VO0_21.junk r.2.2.2.2.1) (ix3 0 i n) = memQueryAt A N b (tok j i) n := hr.memQueries _ _ i n

theorem read_halo (i : Fin 8) (n : Fin 2816) :
    VS0_0.read (Elt Ideal) (VS0_0.writes (Elt Ideal) VS0_0.junk r.2.2.2.2.2.1) (ix2 i n) = A.before 0 b (j.val + 1) i n := hr.halo _ _ i n

end read

/-! ## All grid points -/

theorem right_A (hc : cond0_0 (grid0.coords t)) (h0 : t.val % 8 = 0) : Right (arrays m c) (next m c) (batch t) (tile t)
    (parts (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) hc
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t))) := by
  rw [pieces_A]
  show Right (arrays m c) (next m c) (batch t) (tile t) (leavesA (pointLoads m c t) (pointNext m c t) scM0_0 scM0_1)
  rw [next_eq]
  refine leaves_right (next m c) (fits m c t) _ (after_eq (fits m c t) _ _ fun k i n => ?_) _
  refine (haloA_eq _ _ k i n).trans ?_
  unfold Arrays.before
  have h : ¬(8 ≤ 512 * (tile t).val + i.val ∧ (tile t).val ≤ 8) := by
    show ¬(8 ≤ 512 * (t.val % 8) + i.val ∧ t.val % 8 ≤ 8); omega
  rw [dif_neg h]

theorem right_B (hc : ¬cond0_0 (grid0.coords t)) (p : Vec Ideal S8x2816 .f32)
    (hp : ∀ (i : Fin 8) (n : Fin 2816), p (ix2 i n) = (arrays m c).before 0 (batch t) (tile t).val i n) :
    Right (arrays m c) (next m c) (batch t) (tile t)
    (parts (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) hc
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) p)) := by
  rw [pieces_B]
  show Right (arrays m c) (next m c) (batch t) (tile t)
    (leavesB (pointLoads m c t) (pointNext m c t) scM0_0 (Memref.isWhole_whole _) scM0_1 p)
  rw [next_eq]
  refine leaves_right (next m c) (fits m c t) _ (after_eq (fits m c t) _ _ fun k i n => ?_) _
  exact (load_eq _ _ _ _ _ _ _ _ (Cert.Kernel2Ideal.Tile.at2 i n i ⟨256 * k.val + n.val, by omega⟩ (Nat.zero_add _).symm rfl)).trans (hp i _)

/-- What holds after a point: its blocks of the five results, and the gate's last rows. -/
structure Done (t : Fin cfg0.N) : Prop where
  stream : ∀ (i : Fin 512) (d : Fin 1024), (outsAt0 m c t.val t.isLt).1 (ix3 0 i d) = (arrays m c).out 0 (batch t) (tok (tile t) i) d
  keys : ∀ (i : Fin 512) (n : Fin 768), (outsAt0 m c t.val t.isLt).2.1 (ix3 0 i n) = keyAt (arrays m c) (next m c) (batch t) (tok (tile t) i) n
  values : ∀ (n : Fin 768) (i : Fin 512), (outsAt0 m c t.val t.isLt).2.2.1 (ix3 0 n i) = valueAt (arrays m c) (next m c) (batch t) (tok (tile t) i) n
  queries : ∀ (s : Fin 2) (n : Fin 768) (l : Fin 256), (outsAt0 m c t.val t.isLt).2.2.2.1 (ix4 0 s n l)
    = queryAt (arrays m c) (next m c) (batch t) (tok (tile t) ⟨256 * s.val + l.val, by omega⟩) n
  memQueries : ∀ (i : Fin 512) (n : Fin 256), (outsAt0 m c t.val t.isLt).2.2.2.2.1 (ix3 0 i n)
    = memQueryAt (arrays m c) (next m c) (batch t) (tok (tile t) i) n
  halo : ∀ (i : Fin 8) (n : Fin 2816), (outsAt0 m c t.val t.isLt).2.2.2.2.2 (ix2 i n) = (arrays m c).before 0 (batch t) ((tile t).val + 1) i n

theorem done_A (h0 : t.val % 8 = 0) : Done m c t := by
  have hr := right_A m c t ((hcond0_0 t).mpr h0) h0
  constructor <;> rw [outsAt0_A m c t h0] <;> dsimp only
  · unfold out0_A_17
    exact read_stream hr
  · unfold out0_A_18
    exact read_keys hr
  · unfold out0_A_19
    exact read_values hr
  · unfold out0_A_20
    exact read_queries hr
  · unfold out0_A_21
    exact read_memQueries hr
  · unfold sout0_A_0
    exact read_halo hr

theorem done_B (h0 : ¬t.val % 8 = 0) (hp : Done m c ⟨t.val - 1, Nat.lt_of_le_of_lt (Nat.sub_le _ _) t.isLt⟩) : Done m c t := by
  have hr := right_B m c t (fun h => h0 ((hcond0_0 t).mp h)) (outsAt0 m c (t.val - 1) (Nat.lt_of_le_of_lt (Nat.sub_le _ _) t.isLt)).2.2.2.2.2
    fun i n => (hp.halo i n).trans (congrArg₂ (fun b j => (arrays m c).before 0 b j i n)
      (Fin.ext (by show (t.val - 1) / 8 = t.val / 8; omega)) (by show (t.val - 1) % 8 + 1 = t.val % 8; omega))
  constructor <;> rw [outsAt0_B m c t h0] <;> dsimp only
  · unfold out0_B_17
    exact read_stream hr
  · unfold out0_B_18
    exact read_keys hr
  · unfold out0_B_19
    exact read_values hr
  · unfold out0_B_20
    exact read_queries hr
  · unfold out0_B_21
    exact read_memQueries hr
  · unfold sout0_B_0
    exact read_halo hr

theorem done (t : Fin cfg0.N) : Done m c t := by
  obtain ⟨k, hk⟩ := t
  induction k with
  | zero => exact done_A m c ⟨0, hk⟩ rfl
  | succ k ih =>
    by_cases h0 : (k + 1) % 8 = 0
    · exact done_A m c ⟨k + 1, hk⟩ h0
    · exact done_B m c ⟨k + 1, hk⟩ h0 (ih (by omega))

/-! ## The whole arrays -/

theorem flush17 : ∀ t : Fin cfg0.N, (cfg0.win 17).flush t = true := (by decide +kernel : ∀ t : Fin grid0.N, win0_17.flush t = true)
theorem flush18 : ∀ t : Fin cfg0.N, (cfg0.win 18).flush t = true := (by decide +kernel : ∀ t : Fin grid0.N, win0_18.flush t = true)
theorem flush19 : ∀ t : Fin cfg0.N, (cfg0.win 19).flush t = true := (by decide +kernel : ∀ t : Fin grid0.N, win0_19.flush t = true)
theorem flush20 : ∀ t : Fin cfg0.N, (cfg0.win 20).flush t = true := (by decide +kernel : ∀ t : Fin grid0.N, win0_20.flush t = true)
theorem flush21 : ∀ t : Fin cfg0.N, (cfg0.win 21).flush t = true := (by decide +kernel : ∀ t : Fin grid0.N, win0_21.flush t = true)

/-- The point whose tile holds token `p`, and the token's row in it. -/
def point (b : Fin 8) (p : Fin 4096) : Fin cfg0.N := ⟨8 * b.val + p.val / 512, (by omega : 8 * b.val + p.val / 512 < 64)⟩
def row (p : Fin 4096) : Fin 512 := ⟨p.val % 512, by omega⟩

theorem batch_point (b : Fin 8) (p : Fin 4096) : batch (point b p) = b := Fin.ext (by show (8 * b.val + p.val / 512) / 8 = b.val; omega)

theorem tok_point (b : Fin 8) (p : Fin 4096) : tok (tile (point b p)) (row p) = p :=
  Fin.ext (by show 512 * ((8 * b.val + p.val / 512) % 8) + p.val % 512 = p.val; omega)

theorem first_axis (b : Fin 8) (p : Fin 4096) : b.val = (point b p).val / 8 * 1 + (0 : Fin 1).val := by
  show b.val = (8 * b.val + p.val / 512) / 8 * 1 + 0; omega

theorem token_axis (b : Fin 8) (p : Fin 4096) : p.val = (point b p).val % 8 * 512 + (row p).val := by
  show p.val = (8 * b.val + p.val / 512) % 8 * 512 + p.val % 512; omega

theorem free_axis {n : ℕ} (s : ℕ) (d : Fin n) : d.val = 0 * s + d.val := by omega

variable (b : Fin 8) (p : Fin 4096)

theorem stream_eq (d : Fin 1024) : (dats m 0 c).arrAt 17 cfg0.N (ix3 b p d) = (arrays m c).out 0 b p d := by
  have h := congrFun (blocks17 m c (point b p) (flush17 (point b p))) (ix3 0 (row p) d)
  have hd := (done m c (point b p)).stream (row p) d
  rw [batch_point, tok_point] at hd
  rw [flushed17] at h
  exact (congrArg ((dats m 0 c).arrAt 17 cfg0.N) (funext fun a => Fin.ext (at3 1 512 1024 (index17 (point b p)) (0 : Fin 1) (row p) d b p d
    (first_axis b p) (token_axis b p) (free_axis _ d) a).symm)).trans (h.trans hd)

theorem keys_eq (n : Fin 768) : (dats m 0 c).arrAt 18 cfg0.N (ix3 b p n) = keyAt (arrays m c) (next m c) b p n := by
  have h := congrFun (blocks18 m c (point b p) (flush18 (point b p))) (ix3 0 (row p) n)
  have hd := (done m c (point b p)).keys (row p) n
  rw [batch_point, tok_point] at hd
  rw [flushed18] at h
  exact (congrArg ((dats m 0 c).arrAt 18 cfg0.N) (funext fun a => Fin.ext (at3 1 512 768 (index18 (point b p)) (0 : Fin 1) (row p) n b p n
    (first_axis b p) (token_axis b p) (free_axis _ n) a).symm)).trans (h.trans hd)

theorem values_eq (n : Fin 768) : (dats m 0 c).arrAt 19 cfg0.N (ix3 b n p) = valueAt (arrays m c) (next m c) b p n := by
  have h := congrFun (blocks19 m c (point b p) (flush19 (point b p))) (ix3 0 n (row p))
  have hd := (done m c (point b p)).values n (row p)
  rw [batch_point, tok_point] at hd
  rw [flushed19] at h
  exact (congrArg ((dats m 0 c).arrAt 19 cfg0.N) (funext fun a => Fin.ext (at3 1 768 512 (index19 (point b p)) (0 : Fin 1) n (row p) b n p
    (first_axis b p) (free_axis _ n) (token_axis b p) a).symm)).trans (h.trans hd)

theorem queries_eq (j : Fin 16) (n : Fin 768) (l : Fin 256) : (dats m 0 c).arrAt 20 cfg0.N (ix4 b j n l)
    = queryAt (arrays m c) (next m c) b ⟨256 * j.val + l.val, by omega⟩ n := by
  let t : Fin cfg0.N := ⟨8 * b.val + j.val / 2, (by omega : 8 * b.val + j.val / 2 < 64)⟩
  let s : Fin 2 := ⟨j.val % 2, by omega⟩
  have hb : batch t = b := Fin.ext (by show (8 * b.val + j.val / 2) / 8 = b.val; omega)
  have hj : tok (tile t) ⟨256 * s.val + l.val, by omega⟩ = ⟨256 * j.val + l.val, by omega⟩ := Fin.ext (by
    show 512 * ((8 * b.val + j.val / 2) % 8) + (256 * (j.val % 2) + l.val) = 256 * j.val + l.val; omega)
  have h := congrFun (blocks20 m c t (flush20 t)) (ix4 0 s n l)
  have hd := (done m c t).queries s n l
  rw [hb, hj] at hd
  rw [flushed20] at h
  exact (congrArg ((dats m 0 c).arrAt 20 cfg0.N) (funext fun a => Fin.ext (at4 1 2 768 256 (index20 t) (0 : Fin 1) s n l b j n l
    (by show b.val = (8 * b.val + j.val / 2) / 8 * 1 + 0; omega) (by show j.val = (8 * b.val + j.val / 2) % 8 * 2 + j.val % 2; omega)
    (free_axis _ n) (free_axis _ l) a).symm)).trans (h.trans hd)

theorem memQueries_eq (n : Fin 256) : (dats m 0 c).arrAt 21 cfg0.N (ix3 b p n) = memQueryAt (arrays m c) (next m c) b p n := by
  have h := congrFun (blocks21 m c (point b p) (flush21 (point b p))) (ix3 0 (row p) n)
  have hd := (done m c (point b p)).memQueries (row p) n
  rw [batch_point, tok_point] at hd
  rw [flushed21] at h
  exact (congrArg ((dats m 0 c).arrAt 21 cfg0.N) (funext fun a => Fin.ext (at3 1 512 256 (index21 (point b p)) (0 : Fin 1) (row p) n b p n
    (first_axis b p) (token_axis b p) (free_axis _ n) a).symm)).trans (h.trans hd)

end Cert.Kernel3Ideal.Tile

end
-- ==== Proof.MemoryTile.lean ====
/-
  The call that lays out the memory's keys and values: each entry of its two results, as a function of the memory and the
  weights. A quotient of indices tells which head a row and a column belong to; where the heads differ the entry is zero.
-/
module

public import proofs.«01_k».proof.Proof.FirstResult
public import proofs.«01_k».proof.Proof.Gen.Kernel4Ideal.Frame
public import proofs.«01_k».proof.Proof.Gen.Kernel4Ideal.Value

@[expose] public section

set_option maxRecDepth 16384

noncomputable section

namespace Cert.Kernel4Ideal.Tile

open Cert.Kernel4Ideal Cert.Kernel4Ideal.Gen Cert.Kernel4Ideal.Facts Cert.Kernel4Ideal.Value Idealize.ShloMosaic

/-! ## Which head an index belongs to -/

/-- The quotient of `n` by `k` rounded down, as the kernel computes it: the quotient rounded towards zero, less one where the
    signs differ and there is a remainder. -/
def quotient (n k : BitVec 32) : BitVec 32 :=
  Scalar.select
    (IntOp.andi
      (IntOp.cmpi .ne (IntOp.subi ((IntOp.cmpi .sgt n 0#32).setWidth 32) ((IntOp.cmpi .slt n 0#32).setWidth 32))
        (Scalar.subi (Scalar.extui (Scalar.cmpi .sgt k 0#32)) (Scalar.extui (Scalar.cmpi .slt k 0#32))))
      (IntOp.cmpi .ne (IntOp.remsi .vector n k) 0#32))
    (IntOp.subi (IntOp.divsi .vector n k) 1#32) (IntOp.divsi .vector n k)

theorem quotient_64 : ∀ f : Fin 256, quotient (BitVec.ofNat 32 f.val) 64#32 = BitVec.ofNat 32 (f.val / 64) := by decide +kernel
theorem quotient_256 : ∀ c : Fin 1024, quotient (BitVec.ofNat 32 c.val) 256#32 = BitVec.ofNat 32 (c.val / 256) := by decide +kernel

/-- Two heads, compared as words. -/
theorem same_head : ∀ a b : Fin 4, IntOp.cmpi .eq (BitVec.ofNat 32 a.val) (BitVec.ofNat 32 b.val) = if a.val = b.val then 1#1 else 0#1 := by
  decide +kernel

theorem select_head {α : Type} (a b : ℕ) (ha : a < 4) (hb : b < 4) (x y : α) :
    Scalar.select (IntOp.cmpi .eq (BitVec.ofNat 32 a) (BitVec.ofNat 32 b)) x y = if a = b then x else y := by
  rw [same_head ⟨a, ha⟩ ⟨b, hb⟩]
  by_cases h : a = b
  · rw [if_pos h, if_pos h]; rfl
  · rw [if_neg h, if_neg h]; rfl

/-! ## One grid point -/

/-- Feature `f` of memory slot `s` of sequence `b` under layer `l`'s weights: the keys' features come first, then the values'. -/
def feature (mem : FVec Ideal S8x256x1024 .f32) (w : FVec Ideal S2x1024x512 .f32) (l : Fin 2) (b : Fin 8) (s : Fin 256) (f : Fin 512) : EReal :=
  ∑ d : Fin 1024, mem (ix3 b s d) * w (ix3 l d f)

/-- Entry `(f, c)` of the matrix of keys: column `c` is a head and a slot, and row `f` a feature of some head. -/
def keyAt (mem : FVec Ideal S8x256x1024 .f32) (w : FVec Ideal S2x1024x512 .f32) (l : Fin 2) (b : Fin 8) (f : Fin 256) (c : Fin 1024) : EReal :=
  if f.val / 64 = c.val / 256 then feature mem w l b ⟨c.val % 256, by omega⟩ ⟨f.val, by omega⟩ else 0

/-- Entry `(c, f)` of the matrix of values: row `c` is a head and a slot, and column `f` a feature of some head. -/
def valueAt (mem : FVec Ideal S8x256x1024 .f32) (w : FVec Ideal S2x1024x512 .f32) (l : Fin 2) (b : Fin 8) (c : Fin 1024) (f : Fin 256) : EReal :=
  if c.val / 256 = f.val / 64 then feature mem w l b ⟨c.val % 256, by omega⟩ ⟨256 + f.val, by omega⟩ else 0

variable (x0 : Vec Ideal S1x256x1024 .f32) (x1 : Vec Ideal S1x1024x512 .f32)

/-- The keys, transposed: one column per slot. -/
def keyCols : FVec Ideal S256x256 .f32 :=
  transpose S256x256 [1, 0] (matmul dot_S256x1024_S1024x256_S256x256_1_0_0_1_n_n none (k0_pay2 x0)
    (extractStridedSlice S1024x256 ![0, 0] (k0_pay3 x1) slices_S1024x512_o0_0_S1024x256) (constant S256x256 .f32 0x00000000#32))
    transposes_S256x256_p1_0_S256x256

theorem keyCols_apply (f s : Fin 256) : keyCols x0 x1 (ix2 f s) = ∑ d : Fin 1024, x0 (ix3 0 s d) * x1 (ix3 0 d ⟨f.val, by omega⟩) := by
  unfold keyCols k0_pay2 k0_pay3
  pointwise

theorem valueRows_apply (s f : Fin 256) :
    k0_pay4 x0 x1 (ix2 s f) = ∑ d : Fin 1024, x0 (ix3 0 s d) * x1 (ix3 0 d ⟨256 + f.val, by omega⟩) := by
  unfold k0_pay4 k0_pay2 k0_pay3
  pointwise

/-- Four copies side by side. -/
theorem keyTiles_apply (f : Fin 256) (c : Fin 1024) : k0_pay5 x0 x1 (ix2 f c) = keyCols x0 x1 (ix2 f ⟨c.val % 256, by omega⟩) := by
  refine concatenate_ofFn_apply (t := S256x1024) (s₁ := S256x256) 1 (fun _ : Fin 4 => keyCols x0 x1)
    concatenates_S256x256_S256x256_S256x256_S256x256_S256x1024_d1 rfl 256 rfl _ ⟨c.val / 256, by omega⟩ ?_ _ ?_ ?_
  · rfl
  · rfl
  · intro b hb
    match b, hb with
    | ⟨0, _⟩, _ => rfl
    | ⟨1, _⟩, hb => exact absurd rfl hb

/-- Four copies, one under the other. -/
theorem valueTiles_apply (v : FVec Ideal S256x256 .f32) (c : Fin 1024) (f : Fin 256) : k0_pay10 v (ix2 c f) = v (ix2 ⟨c.val % 256, by omega⟩ f) := by
  refine concatenate_ofFn_apply (t := S1024x256) (s₁ := S256x256) 0 (fun _ : Fin 4 => v)
    concatenates_S256x256_S256x256_S256x256_S256x256_S1024x256_d0 rfl 256 rfl _ ⟨c.val / 256, by omega⟩ ?_ _ ?_ ?_
  · rfl
  · rfl
  · intro b hb
    match b, hb with
    | ⟨0, _⟩, hb => exact absurd rfl hb
    | ⟨1, _⟩, _ => rfl

theorem zero_word : (Scalar.ofBits .f32 0x00000000#32 : Ideal .f32) = 0 := by
  pointwise

theorem keys_apply (f : Fin 256) (c : Fin 1024) : out0_2 x0 x1 (ix4 0 0 f c)
    = if f.val / 64 = c.val / 256 then ∑ d : Fin 1024, x0 (ix3 0 ⟨c.val % 256, by omega⟩ d) * x1 (ix3 0 d ⟨f.val, by omega⟩) else 0 := by
  unfold out0_2
  rw [View.canon_unit_zero (by decide), View.ld_unit_zero (by decide), View.ld_unit_zero (by decide)]
  unfold k0_pay9
  refine (shapeCast_apply _ shapeCasts_S256x1024_S1x1x256x1024 (ix4 0 0 f c) (ix2 f c) (by
    rw [Shape.rowMajor_val_two, Shape.rowMajor_val_four]
    show f.val * 1024 + c.val = ((0 * 1 + 0) * 256 + f.val) * 1024 + c.val; omega)).trans ?_
  show Scalar.select (IntOp.cmpi .eq (quotient (BitVec.ofNat 32 (0 * 256 + f.val)) 64#32) (quotient (BitVec.ofNat 32 (0 * 1024 + c.val)) 256#32))
    (k0_pay5 x0 x1 (ix2 f c)) (Scalar.ofBits .f32 0x00000000#32 : Ideal .f32) = _
  rw [Nat.zero_mul, Nat.zero_add, Nat.zero_add, quotient_64 f, quotient_256 c, select_head _ _ (by omega) (by omega), keyTiles_apply,
    keyCols_apply, zero_word]

theorem values_apply (c : Fin 1024) (f : Fin 256) : out0_3 x0 x1 (ix4 0 0 c f)
    = if c.val / 256 = f.val / 64 then ∑ d : Fin 1024, x0 (ix3 0 ⟨c.val % 256, by omega⟩ d) * x1 (ix3 0 d ⟨256 + f.val, by omega⟩) else 0 := by
  unfold out0_3
  rw [View.canon_unit_zero (by decide), View.ld_unit_zero (by decide), View.ld_unit_zero (by decide)]
  unfold k0_pay1
  refine (shapeCast_apply _ shapeCasts_S1024x256_S1x1x1024x256 (ix4 0 0 c f) (ix2 c f) (by
    rw [Shape.rowMajor_val_two, Shape.rowMajor_val_four]
    show c.val * 256 + f.val = ((0 * 1 + 0) * 1024 + c.val) * 256 + f.val; omega)).trans ?_
  show Scalar.select (IntOp.cmpi .eq (quotient (BitVec.ofNat 32 (0 * 1024 + c.val)) 256#32) (quotient (BitVec.ofNat 32 (0 * 256 + f.val)) 64#32))
    (k0_pay10 (k0_pay4 x0 x1) (ix2 c f)) (Scalar.ofBits .f32 0x00000000#32 : Ideal .f32) = _
  rw [Nat.zero_mul, Nat.zero_add, Nat.zero_add, quotient_64 f, quotient_256 c, select_head _ _ (by omega) (by omega), valueTiles_apply,
    valueRows_apply, zero_word]

/-! ## The whole arrays -/

theorem index0 : ∀ t : Fin grid0.N, win0_0.index t = ![t.val % 8, 0, 0] := by decide +kernel
theorem index1 : ∀ t : Fin grid0.N, win0_1.index t = ![t.val / 8, 0, 0] := by decide +kernel
theorem index2 : ∀ t : Fin grid0.N, win0_2.index t = ![t.val / 8, t.val % 8, 0, 0] := by decide +kernel
theorem index3 : ∀ t : Fin grid0.N, win0_3.index t = ![t.val / 8, t.val % 8, 0, 0] := by decide +kernel
theorem flush2 : ∀ t : Fin cfg0.N, (cfg0.win 2).flush t = true := (by decide +kernel : ∀ t : Fin grid0.N, win0_2.flush t = true)
theorem flush3 : ∀ t : Fin cfg0.N, (cfg0.win 3).flush t = true := (by decide +kernel : ∀ t : Fin grid0.N, win0_3.flush t = true)

open Cert.Kernel3Ideal.Tile (at3 at4 free_axis)

variable (m : (ℓ : Loc nD τ sig) → Buf (Elt Ideal) ℓ) (c : Dev nD)

/-- The point of layer `l` and sequence `b`. -/
def point (l : Fin 2) (b : Fin 8) : Fin cfg0.N := ⟨8 * l.val + b.val, (by omega : 8 * l.val + b.val < 16)⟩

theorem layer_axis (l : Fin 2) (b : Fin 8) : l.val = (point l b).val / 8 * 1 + (0 : Fin 1).val := by
  show l.val = (8 * l.val + b.val) / 8 * 1 + 0; omega

theorem sequence_axis (l : Fin 2) (b : Fin 8) : b.val = (point l b).val % 8 * 1 + (0 : Fin 1).val := by
  show b.val = (8 * l.val + b.val) % 8 * 1 + 0; omega

variable (l : Fin 2) (b : Fin 8)

theorem iblk0 (s : Fin 256) (d : Fin 1024) : iblk m c 0 (point l b) (ix3 0 s d) = V m c main_arg0 (ix3 b s d) :=
  congrArg (V m c main_arg0) (funext fun a => Fin.ext (at3 1 256 1024 (index0 (point l b)) (0 : Fin 1) s d b s d
    (sequence_axis l b) (free_axis _ s) (free_axis _ d) a))

theorem iblk1 (d : Fin 1024) (f : Fin 512) : iblk m c 1 (point l b) (ix3 0 d f) = V m c main_arg1 (ix3 l d f) :=
  congrArg (V m c main_arg1) (funext fun a => Fin.ext (at3 1 1024 512 (index1 (point l b)) (0 : Fin 1) d f l d f
    (layer_axis l b) (free_axis _ d) (free_axis _ f) a))

theorem keys_eq (f : Fin 256) (n : Fin 1024) :
    (dats m 0 c).arrAt 2 cfg0.N (ix4 l b f n) = keyAt (V m c main_arg0) (V m c main_arg1) l b f n := by
  have h := congrFun (blocks2 m c (point l b) (flush2 (point l b))) (ix4 0 0 f n)
  rw [flushed2] at h
  refine (congrArg ((dats m 0 c).arrAt 2 cfg0.N) (funext fun a => Fin.ext (at4 1 1 256 1024 (index2 (point l b)) (0 : Fin 1) (0 : Fin 1) f n l b f n
    (layer_axis l b) (sequence_axis l b) (free_axis _ f) (free_axis _ n) a).symm)).trans (h.trans ((keys_apply _ _ f n).trans ?_))
  unfold keyAt feature
  refine if_congr Iff.rfl (Finset.sum_congr rfl fun d _ => ?_) rfl
  rw [iblk0, iblk1]

theorem values_eq (n : Fin 1024) (f : Fin 256) :
    (dats m 0 c).arrAt 3 cfg0.N (ix4 l b n f) = valueAt (V m c main_arg0) (V m c main_arg1) l b n f := by
  have h := congrFun (blocks3 m c (point l b) (flush3 (point l b))) (ix4 0 0 n f)
  rw [flushed3] at h
  refine (congrArg ((dats m 0 c).arrAt 3 cfg0.N) (funext fun a => Fin.ext (at4 1 1 1024 256 (index3 (point l b)) (0 : Fin 1) (0 : Fin 1) n f l b n f
    (layer_axis l b) (sequence_axis l b) (free_axis _ n) (free_axis _ f) a).symm)).trans (h.trans ((values_apply _ _ n f).trans ?_))
  unfold valueAt feature
  refine if_congr Iff.rfl (Finset.sum_congr rfl fun d _ => ?_) rfl
  rw [iblk0, iblk1]

end Cert.Kernel4Ideal.Tile

end
-- ==== Proof.MemoryRef.lean ====
/-
  The plain reference of the memory's keys and values, read at an index.
-/
module

public import Idealize.ShloMosaic.Lib.ValueIdxRank6
public import proofs.«01_k».proof.Proof.Gen.Reference4Ideal.Read
public import proofs.«01_k».proof.Proof.MemoryTile

@[expose] public section

set_option maxRecDepth 16384

noncomputable section

namespace Cert.Reference4Ideal.Read

open Cert.Reference4Ideal Cert.Reference4Ideal.Facts₀ Idealize.ShloMosaic
open Cert.Kernel4Ideal.Tile (feature keyAt valueAt select_head zero_word)

variable (mem : FVec Ideal S8x256x1024 .f32) (w : FVec Ideal S2x1024x512 .f32)

/-- The features, before they are split. -/
theorem feature_eq (l : Fin 2) (b : Fin 8) (s : Fin 256) (f : Fin 512) : val_main_v1 (F := Ideal) mem w (ix4 l b s f) = feature mem w l b s f := by
  rw [val_main_v1_apply, val_main_v0_apply]
  unfold feature
  refine Finset.sum_congr rfl fun d _ => (mul_comm _ _).trans (congrArg₂ (fun i j => mem i * w j) ?_ ?_)
  · exact funext fun a => by match a with | ⟨0, _⟩ => rfl | ⟨1, _⟩ => rfl | ⟨2, _⟩ => rfl
  · exact funext fun a => by match a with | ⟨0, _⟩ => rfl | ⟨1, _⟩ => rfl | ⟨2, _⟩ => rfl

/-- Feature `d` of head `h`, of the keys and of the values. -/
theorem head_key (l : Fin 2) (b : Fin 8) (s : Fin 256) (h : Fin 4) (d : Fin 64) :
    val_main_v4 (F := Ideal) mem w (ix5 l b s h d) = feature mem w l b s ⟨64 * h.val + d.val, by omega⟩ := by
  rw [val_main_v4_apply, val_main_v2_apply, ← feature_eq]
  refine congrArg _ (funext fun a => Fin.ext ?_)
  match a with
  | ⟨0, _⟩ => show ((((l.val * 8 + b.val) * 256 + s.val) * 4 + h.val) * 64 + d.val) / 524288 = l.val; omega
  | ⟨1, _⟩ => show ((((l.val * 8 + b.val) * 256 + s.val) * 4 + h.val) * 64 + d.val) / 65536 % 8 = b.val; omega
  | ⟨2, _⟩ => show ((((l.val * 8 + b.val) * 256 + s.val) * 4 + h.val) * 64 + d.val) / 256 % 256 = s.val; omega
  | ⟨3, _⟩ => show ((((l.val * 8 + b.val) * 256 + s.val) * 4 + h.val) * 64 + d.val) % 256 = 64 * h.val + d.val; omega

theorem head_value (l : Fin 2) (b : Fin 8) (s : Fin 256) (h : Fin 4) (d : Fin 64) :
    val_main_v5 (F := Ideal) mem w (ix5 l b s h d) = feature mem w l b s ⟨256 + (64 * h.val + d.val), by omega⟩ := by
  rw [val_main_v5_apply, val_main_v3_apply, ← feature_eq]
  refine congrArg _ (funext fun a => Fin.ext ?_)
  match a with
  | ⟨0, _⟩ => show ((((l.val * 8 + b.val) * 256 + s.val) * 4 + h.val) * 64 + d.val) / 524288 = l.val; omega
  | ⟨1, _⟩ => show ((((l.val * 8 + b.val) * 256 + s.val) * 4 + h.val) * 64 + d.val) / 65536 % 8 = b.val; omega
  | ⟨2, _⟩ => show ((((l.val * 8 + b.val) * 256 + s.val) * 4 + h.val) * 64 + d.val) / 256 % 256 = s.val; omega
  | ⟨3, _⟩ => show 256 + ((((l.val * 8 + b.val) * 256 + s.val) * 4 + h.val) * 64 + d.val) % 256 = 256 + (64 * h.val + d.val); omega

/-- The block of heads `(h, g)`: head `h`'s where they are the same head, and zero elsewhere. -/
theorem block_key (l : Fin 2) (b : Fin 8) (h : Fin 4) (d : Fin 64) (g : Fin 4) (s : Fin 256) :
    val_main_v12 (F := Ideal) mem w (ix6 l b h d g s) = if h.val = g.val then feature mem w l b s ⟨64 * h.val + d.val, by omega⟩ else 0 := by
  rw [val_main_v12_apply, val_main_call0_v1_apply, val_main_v9_apply, val_main_call0_v2_apply, val_main_v11_apply, val_main_v10_apply,
    val_main_call0_v3_apply, ← head_key]
  refine (select_head h.val g.val h.isLt g.isLt _ _).trans (if_congr Iff.rfl (congrArg _ (funext fun a => ?_)) zero_word)
  match a with | ⟨0, _⟩ => rfl | ⟨1, _⟩ => rfl | ⟨2, _⟩ => rfl | ⟨3, _⟩ => rfl | ⟨4, _⟩ => rfl

theorem block_value (l : Fin 2) (b : Fin 8) (h : Fin 4) (s : Fin 256) (g : Fin 4) (d : Fin 64) :
    val_main_v17 (F := Ideal) mem w (ix6 l b h s g d) = if h.val = g.val then feature mem w l b s ⟨256 + (64 * h.val + d.val), by omega⟩ else 0 := by
  rw [val_main_v17_apply, val_main_call1_v1_apply, val_main_v14_apply, val_main_call1_v2_apply, val_main_v16_apply, val_main_v15_apply,
    val_main_call1_v3_apply, ← head_value]
  refine (select_head h.val g.val h.isLt g.isLt _ _).trans (if_congr Iff.rfl (congrArg _ (funext fun a => ?_)) zero_word)
  match a with | ⟨0, _⟩ => rfl | ⟨1, _⟩ => rfl | ⟨2, _⟩ => rfl | ⟨3, _⟩ => rfl | ⟨4, _⟩ => rfl

theorem key_eq (l : Fin 2) (b : Fin 8) (f : Fin 256) (c : Fin 1024) : val_main_v19 (F := Ideal) mem w (ix4 l b f c) = keyAt mem w l b f c := by
  refine (shapeCast_apply (val_main_v12 (F := Ideal) mem w) shapeCasts_S2x8x4x64x4x256_S2x8x256x1024 (ix4 l b f c)
    (ix6 l b ⟨f.val / 64, by omega⟩ ⟨f.val % 64, by omega⟩ ⟨c.val / 256, by omega⟩ ⟨c.val % 256, by omega⟩) (by
      rw [Shape.rowMajor_val_six, Shape.rowMajor_val_four]
      show ((((l.val * 8 + b.val) * 4 + f.val / 64) * 64 + f.val % 64) * 4 + c.val / 256) * 256 + c.val % 256
        = ((l.val * 8 + b.val) * 256 + f.val) * 1024 + c.val
      omega)).trans ((block_key mem w l b _ _ _ _).trans ?_)
  unfold keyAt
  exact if_congr Iff.rfl (congrArg (feature mem w l b _) (Fin.ext (by show 64 * (f.val / 64) + f.val % 64 = f.val; omega))) rfl

theorem value_eq (l : Fin 2) (b : Fin 8) (c : Fin 1024) (f : Fin 256) : val_main_v21 (F := Ideal) mem w (ix4 l b c f) = valueAt mem w l b c f := by
  refine (shapeCast_apply (val_main_v17 (F := Ideal) mem w) shapeCasts_S2x8x4x256x4x64_S2x8x1024x256 (ix4 l b c f)
    (ix6 l b ⟨c.val / 256, by omega⟩ ⟨c.val % 256, by omega⟩ ⟨f.val / 64, by omega⟩ ⟨f.val % 64, by omega⟩) (by
      rw [Shape.rowMajor_val_six, Shape.rowMajor_val_four]
      show ((((l.val * 8 + b.val) * 4 + c.val / 256) * 256 + c.val % 256) * 4 + f.val / 64) * 64 + f.val % 64
        = ((l.val * 8 + b.val) * 1024 + c.val) * 256 + f.val
      omega)).trans ((block_value mem w l b _ _ _ _).trans ?_)
  unfold valueAt
  by_cases h : c.val / 256 = f.val / 64
  · rw [if_pos h, if_pos h]
    exact congrArg (feature mem w l b _) (Fin.ext (by show 256 + (64 * (c.val / 256) + f.val % 64) = 256 + f.val; omega))
  · rw [if_neg h, if_neg h]

end Cert.Reference4Ideal.Read

end
-- ==== Proof.Softmax.lean ====
/-
  Softmax over a window: a softmax over all keys whose scores are −∞ outside a window is the softmax over the window, and dividing
  each weight by the total before the sum over the values is dividing the sum.
-/
module

public import proofs.«01_k».proof.Proof.PairValue

@[expose] public section

noncomputable section

namespace Cert.KernelIdeal.Pair

open Idealize.ShloMosaic

theorem sum_mul_of_real {ι : Type} (s : Finset ι) (f : ι → EReal) (c : EReal) (h0 : 0 ≤ c) (h1 : c ≠ ⊤) :
    ∑ i ∈ s, f i * c = (∑ i ∈ s, f i) * c := by
  classical
  induction s using Finset.induction_on with
  | empty => simp
  | insert a s ha ih => rw [Finset.sum_insert ha, Finset.sum_insert ha, ih, EReal.right_distrib_of_nonneg_of_ne_top h0 h1]

/-- The exponential of a score less a real maximum is a nonnegative real. -/
theorem exp_real (x : EReal) (hx : x ≠ ⊤) (M : ℝ) : ∃ e : ℝ, 0 ≤ e ∧ Ideal.exp (x - M) = e ∧ (x ≠ ⊥ → 0 < e) := by
  induction x with
  | bot => exact ⟨0, le_refl _, by rw [EReal.bot_sub]; rfl, fun h => absurd rfl h⟩
  | top => exact absurd rfl hx
  | coe x => exact ⟨Real.exp (x - M), (Real.exp_pos _).le, by rw [← EReal.coe_sub]; rfl, fun _ => Real.exp_pos _⟩

/-- The total of the weights is a positive real, if no score is +∞ and some score is not −∞. -/
theorem total_real {n : ℕ} (s : Fin n → EReal) (h1 : ∀ r, s r ≠ ⊤) (r0 : Fin n) (h0 : s r0 ≠ ⊥) :
    ∃ Z : ℝ, 0 < Z ∧ ∑ r, Ideal.exp (s r - Finset.univ.sup s) = Z := by
  have hM1 : Finset.univ.sup s ≠ ⊤ := ((Finset.sup_lt_iff (bot_lt_top)).mpr fun r _ => lt_top_iff_ne_top.mpr (h1 r)).ne
  have hM0 : Finset.univ.sup s ≠ ⊥ := ((bot_lt_iff_ne_bot.mpr h0).trans_le (Finset.le_sup (Finset.mem_univ r0))).ne'
  obtain ⟨M, hM⟩ : ∃ M : ℝ, Finset.univ.sup s = M := ⟨_, (EReal.coe_toReal hM1 hM0).symm⟩
  rw [hM]
  choose e he0 he hpos using fun r => exp_real (s r) (h1 r) M
  refine ⟨∑ r, e r, ?_, ?_⟩
  · exact Finset.sum_pos' (fun r _ => he0 r) ⟨r0, Finset.mem_univ _, hpos r0 h0⟩
  · simp only [he]
    exact (map_sum (⟨⟨Real.toEReal, rfl⟩, EReal.coe_add⟩ : ℝ →+ EReal) e Finset.univ).symm

/-- The sum over all keys of the values weighted by the softmax of the masked scores. -/
theorem softmax_window {N n : ℕ} (o : ℕ) (ho : o + n ≤ N) (S v : Fin N → EReal) (s w : Fin n → EReal)
    (hin : ∀ r : Fin n, S ⟨o + r.val, by omega⟩ = s r) (hout : ∀ k : Fin N, ¬(o ≤ k.val ∧ k.val < o + n) → S k = ⊥)
    (hv : ∀ r : Fin n, v ⟨o + r.val, by omega⟩ = w r)
    (h1 : ∀ r, s r ≠ ⊤) (r0 : Fin n) (h0 : s r0 ≠ ⊥) :
    ∑ k, v k * Ideal.div (Ideal.exp (S k - Finset.univ.sup S)) (∑ k, Ideal.exp (S k - Finset.univ.sup S)) = attend s w := by
  let at' : Fin n → Fin N := fun r => ⟨o + r.val, by omega⟩
  have inj : Function.Injective at' := fun a b h => Fin.ext (by have : o + a.val = o + b.val := congrArg Fin.val h; omega)
  have hsum : ∀ f : Fin N → EReal, (∀ k : Fin N, ¬(o ≤ k.val ∧ k.val < o + n) → f k = 0) → ∑ k, f k = ∑ r, f (at' r) := by
    intro f hf
    rw [← Finset.sum_image (f := f) (s := Finset.univ) (g := at') (fun a _ b _ h => inj h)]
    refine (Finset.sum_subset (Finset.subset_univ _) fun k _ hk => hf k fun h => hk ?_).symm
    exact Finset.mem_image.mpr ⟨⟨k.val - o, by omega⟩, Finset.mem_univ _, Fin.ext (by show o + (k.val - o) = k.val; omega)⟩
  have hsup : Finset.univ.sup S = Finset.univ.sup s := by
    refine le_antisymm (Finset.sup_le fun k _ => ?_) (Finset.sup_le fun r _ => ?_)
    · by_cases h : o ≤ k.val ∧ k.val < o + n
      · have : S k = s ⟨k.val - o, by omega⟩ := (congrArg S (Fin.ext (by show k.val = o + (k.val - o); omega))).trans (hin _)
        rw [this]; exact Finset.le_sup (Finset.mem_univ _)
      · rw [hout k h]; exact bot_le
    · rw [← hin r]; exact Finset.le_sup (Finset.mem_univ _)
  have hE : ∀ k : Fin N, ¬(o ≤ k.val ∧ k.val < o + n) → Ideal.exp (S k - Finset.univ.sup s) = 0 := by
    intro k h; rw [hout k h, EReal.bot_sub]; rfl
  rw [hsup, hsum (fun k => Ideal.exp (S k - Finset.univ.sup s)) hE]
  simp only [at', hin]
  obtain ⟨Z, hZ, hZe⟩ := total_real s h1 r0 h0
  have hZ0 : (Z : EReal) ≠ 0 := by exact_mod_cast hZ.ne'
  unfold attend
  rw [hZe, hsum _ (fun k h => by rw [hE k h, Ideal.zero_div hZ0, mul_zero])]
  simp only [at', hin, hv, Ideal.div, if_neg hZ0, one_mul]
  rw [← sum_mul_of_real _ _ _ (EReal.inv_nonneg_of_nonneg (by exact_mod_cast hZ.le)) (by rw [← EReal.coe_inv]; exact EReal.coe_ne_top _)]
  exact Finset.sum_congr rfl fun r _ => (mul_assoc _ _ _).symm

end Cert.KernelIdeal.Pair

end
-- ==== Proof.RefValue.lean ====
/-
  The reference's index arithmetic: which keys a query sees, and the row and column of the bias table its score takes.
-/
module

public import proofs.«01_k».proof.Proof.Gen.ReferenceIdeal.Read
public import Idealize.ShloMosaic.Lib.Pointwise
public import Idealize.ShloMosaic.Lib.ValueIdx
public import Idealize.ShloMosaic.Lib.WordCmp
public import Idealize.ShloMosaic.Lib.KernelVsHost
public import Idealize.ShloMosaic.PureOps.Ideal.Laws

@[expose] public section

set_option maxRecDepth 16384

noncomputable section

namespace Cert.ReferenceIdeal.Read

open Cert.ReferenceIdeal Cert.ReferenceIdeal.Facts Idealize.ShloMosaic Idealize.ShloMosaic.WordCmp

/-- The first key a query sees. -/
def firstKey (q : ℕ) : ℕ := 128 * (q / 128 - 4)

theorem firstWord : ∀ q : Fin 4096, IntOp.muli (IntOp.maxsi (IntOp.subi (IntOp.divsi .host (BitVec.ofNat 32 q.val) 128#32) 4#32) 0#32) 128#32
    = BitVec.ofNat 32 (firstKey q.val) := by
  decide +kernel

theorem blockWord : ∀ q : Fin 4096, IntOp.muli (IntOp.divsi .host (BitVec.ofNat 32 q.val) 128#32) 128#32 = BitVec.ofNat 32 (128 * (q.val / 128)) := by
  decide +kernel

theorem laneWord : ∀ q : Fin 4096, IntOp.remsi .host (BitVec.ofNat 32 q.val) 128#32 = BitVec.ofNat 32 (q.val % 128) := by
  decide +kernel

/-- Whether a query sees a key. -/
def Sees (q k : ℕ) : Prop := firstKey q ≤ k ∧ k < firstKey q + 640

instance (q k : ℕ) : Decidable (Sees q k) := by unfold Sees; infer_instance

theorem v14_eq (q k : Fin 4096) : val_main_v14 (F := Ideal) (ix2 q k) = BitVec.ofNat 32 (firstKey q.val) := firstWord q

theorem firstKey_le (q : Fin 4096) : firstKey q.val ≤ 3456 := by unfold firstKey; omega

theorem seen_eq (q k : Fin 4096) : val_main_v19 (F := Ideal) (ix2 q k) = if Sees q.val k.val then 1#1 else 0#1 := by
  have hf := firstKey_le q
  have h1 : val_main_v15 (F := Ideal) (ix2 q k) = BitVec.ofBool (decide (firstKey q.val ≤ k.val)) := by
    rw [val_main_v15_apply, v14_eq]
    exact cmpi_sge_ofNat (show k.val < 2 ^ 31 by omega) (by omega)
  have h2 : val_main_v17 (F := Ideal) (ix2 q k) = BitVec.ofNat 32 (firstKey q.val + 640) := by
    rw [val_main_v17_apply, v14_eq]
    exact (BitVec.ofNat_add _ _).symm
  have h3 : val_main_v18 (F := Ideal) (ix2 q k) = BitVec.ofBool (decide (k.val < firstKey q.val + 640)) := by
    rw [val_main_v18_apply, h2]
    exact cmpi_slt_ofNat (show k.val < 2 ^ 31 by omega) (by omega)
  rw [val_main_v19_apply, h1, h3]
  unfold Sees
  by_cases a : firstKey q.val ≤ k.val <;> by_cases b : k.val < firstKey q.val + 640 <;> simp [a, b] <;> rfl

/-- The row of the bias table a seen key takes. -/
def biasRow (q k : ℕ) : ℕ := if Sees q k then k + 512 - 128 * (q / 128) else 0

theorem biasRow_lt (q k : Fin 4096) : biasRow q.val k.val < 1152 := by
  unfold biasRow
  by_cases h : Sees q.val k.val
  · rw [if_pos h]; unfold Sees firstKey at h; omega
  · rw [if_neg h]; omega

theorem v24_eq (q k : Fin 4096) (h : Sees q.val k.val) : val_main_v24 (F := Ideal) (ix2 q k) = BitVec.ofNat 32 (k.val + 512 - 128 * (q.val / 128)) := by
  have hb : val_main_v21 (F := Ideal) (ix2 q k) = BitVec.ofNat 32 (128 * (q.val / 128)) := blockWord q
  rw [val_main_v24_apply, val_main_v22_apply, hb]
  show BitVec.ofNat 32 k.val - BitVec.ofNat 32 (128 * (q.val / 128)) + 512#32 = _
  unfold Sees firstKey at h
  apply BitVec.eq_of_toNat_eq
  simp only [BitVec.toNat_add, BitVec.toNat_sub, BitVec.toNat_ofNat]
  omega

theorem row_eq (q k : Fin 4096) : val_main_v25 (F := Ideal) (ix2 q k) = BitVec.ofNat 32 (biasRow q.val k.val) := by
  rw [val_main_v25_apply, seen_eq]
  unfold biasRow
  by_cases h : Sees q.val k.val
  · rw [if_pos h, if_pos h, v24_eq q k h]; rfl
  · rw [if_neg h, if_neg h]; rfl

theorem v33_eq (q k : Fin 4096) : val_main_v33 (F := Ideal) (ix2 q k) = BitVec.ofNat 32 (biasRow q.val k.val) := by
  have hr := biasRow_lt q k
  have h : val_main_v30 (F := Ideal) (ix2 q k) = 0#1 := by
    rw [val_main_v30_apply, row_eq]
    refine (cmpi_slt_ofNat (a := biasRow q.val k.val) (b := 0) (by omega) (by omega)).trans ?_
    rw [decide_eq_false (by omega)]; rfl
  rw [val_main_v33_apply, h, row_eq]; rfl

theorem v38_eq (q k : Fin 4096) : val_main_v38 (F := Ideal) (ix2 q k) = BitVec.ofNat 32 (q.val % 128) := by
  have hl : val_main_v27 (F := Ideal) (ix2 q k) = BitVec.ofNat 32 (q.val % 128) := laneWord q
  have h : val_main_v35 (F := Ideal) (ix2 q k) = 0#1 := by
    rw [val_main_v35_apply, hl]
    refine (cmpi_slt_ofNat (a := q.val % 128) (b := 0) (by omega) (by omega)).trans ?_
    rw [decide_eq_false (by omega)]; rfl
  rw [val_main_v38_apply, h, hl]; rfl

theorem v41_0 (q k : Fin 4096) : val_main_v41 (F := Ideal) (ix3 q k 0) = BitVec.ofNat 32 (biasRow q.val k.val) := by
  unfold val_main_v41
  pointwise
  rw [val_main_v39_apply]
  exact v33_eq q k

theorem v41_1 (q k : Fin 4096) : val_main_v41 (F := Ideal) (ix3 q k 1) = BitVec.ofNat 32 (q.val % 128) := by
  unfold val_main_v41
  pointwise
  rw [val_main_v40_apply]
  exact v38_eq q k

/-- A small word read as a signed integer and kept within bounds. -/
theorem clamp {a n : ℕ} (h : a ≤ n) (h2 : a < 2 ^ 31) : min (BitVec.ofNat 32 a).toInt.toNat n = a := by
  have : (BitVec.ofNat 32 a).toInt = a := by
    rw [BitVec.toInt_eq_toNat_cond, BitVec.toNat_ofNat, Nat.mod_eq_of_lt (by omega : a < 2 ^ 32), if_pos (by omega)]
  rw [this]; simpa using h

theorem v42_eq (x3 : (⟨S12x1152x128, .f32⟩ : BufTy).Contents (Elt Ideal)) (h : Fin 12) (q k : Fin 4096) :
    val_main_v42 (F := Ideal) x3 (ix3 h q k) = x3 (ix3 h ⟨biasRow q.val k.val, biasRow_lt q k⟩ ⟨q.val % 128, by omega⟩) := by
  have hr := biasRow_lt q k
  unfold val_main_v42 Host.gather
  refine congrArg x3 (funext fun a => Fin.ext ?_)
  match a with
  | ⟨0, _⟩ => show 0 + 0 + h.val = h.val; omega
  | ⟨1, _⟩ =>
    show min (val_main_v41 (F := Ideal) _).toInt.toNat 1151 + 0 + 0 = biasRow q.val k.val
    have : val_main_v41 (F := Ideal) _ = _ := v41_0 q k
    refine Eq.trans (congrArg (fun w : BitVec 32 => min w.toInt.toNat 1151 + 0 + 0) ((congrArg (val_main_v41 (F := Ideal)) (funext fun b => ?_)).trans (v41_0 q k))) ?_
    · match b with
      | ⟨0, _⟩ => rfl
      | ⟨1, _⟩ => rfl
      | ⟨2, _⟩ => rfl
    · show min (BitVec.ofNat 32 (biasRow q.val k.val)).toInt.toNat 1151 = _
      exact clamp (by omega) (by omega)
  | ⟨2, _⟩ =>
    show min (val_main_v41 (F := Ideal) _).toInt.toNat 127 + 0 + 0 = q.val % 128
    refine Eq.trans (congrArg (fun w : BitVec 32 => min w.toInt.toNat 127 + 0 + 0) ((congrArg (val_main_v41 (F := Ideal)) (funext fun b => ?_)).trans (v41_1 q k))) ?_
    · match b with
      | ⟨0, _⟩ => rfl
      | ⟨1, _⟩ => rfl
      | ⟨2, _⟩ => rfl
    · show min (BitVec.ofNat 32 (q.val % 128)).toInt.toNat 127 = _
      exact clamp (by omega) (by omega)

variable (x0 : (⟨S8x16x768x256, .bf16⟩ : BufTy).Contents (Elt Ideal)) (x1 : (⟨S8x4096x768, .bf16⟩ : BufTy).Contents (Elt Ideal))
  (x2 : (⟨S8x768x4096, .bf16⟩ : BufTy).Contents (Elt Ideal)) (x3 : (⟨S12x1152x128, .f32⟩ : BufTy).Contents (Elt Ideal))

/-- The score of a query and a key it sees. -/
def refScore (b : Fin 8) (h : Fin 12) (q k : Fin 4096) : EReal :=
  (∑ e : Fin 64, x1 (ix3 b k ⟨64 * h.val + e.val, by omega⟩) * x0 (ix4 b ⟨q.val / 256, by omega⟩ ⟨64 * h.val + e.val, by omega⟩ ⟨q.val % 256, by omega⟩))
    + x3 (ix3 h ⟨biasRow q.val k.val, biasRow_lt q k⟩ ⟨q.val % 128, by omega⟩)

theorem bot_word : Ideal.ofBits FTy.f32 4286578688#32 = ⊥ := by simp [Ideal.ofBits, Ideal.ieee]

theorem q_eq (b : Fin 8) (q : Fin 4096) (h : Fin 12) (e : Fin 64) : val_main_v1 (F := Ideal) x0 (ix4 b q h e)
    = x0 (ix4 b ⟨q.val / 256, by omega⟩ ⟨64 * h.val + e.val, by omega⟩ ⟨q.val % 256, by omega⟩) := by
  rw [val_main_v1_apply, val_main_v0_apply]
  refine congrArg x0 (funext fun a => Fin.ext ?_)
  match a with
  | ⟨0, _⟩ => show (((b.val * 4096 + q.val) * 12 + h.val) * 64 + e.val) / 3145728 = b.val; omega
  | ⟨1, _⟩ => show (((b.val * 4096 + q.val) * 12 + h.val) * 64 + e.val) / 196608 % 16 = q.val / 256; omega
  | ⟨2, _⟩ => show (((b.val * 4096 + q.val) * 12 + h.val) * 64 + e.val) % 768 = 64 * h.val + e.val; omega
  | ⟨3, _⟩ => show (((b.val * 4096 + q.val) * 12 + h.val) * 64 + e.val) / 768 % 256 = q.val % 256; omega

theorem k_eq (b : Fin 8) (k : Fin 4096) (h : Fin 12) (e : Fin 64) : val_main_v2 (F := Ideal) x1 (ix4 b k h e)
    = x1 (ix3 b k ⟨64 * h.val + e.val, by omega⟩) := by
  rw [val_main_v2_apply]
  refine congrArg x1 (funext fun a => Fin.ext ?_)
  match a with
  | ⟨0, _⟩ => show (((b.val * 4096 + k.val) * 12 + h.val) * 64 + e.val) / 3145728 = b.val; omega
  | ⟨1, _⟩ => show (((b.val * 4096 + k.val) * 12 + h.val) * 64 + e.val) / 768 % 4096 = k.val; omega
  | ⟨2, _⟩ => show (((b.val * 4096 + k.val) * 12 + h.val) * 64 + e.val) % 768 = 64 * h.val + e.val; omega

theorem v_eq (b : Fin 8) (k : Fin 4096) (h : Fin 12) (e : Fin 64) : val_main_v4 (F := Ideal) x2 (ix4 b k h e)
    = x2 (ix3 b ⟨64 * h.val + e.val, by omega⟩ k) := by
  rw [val_main_v4_apply, val_main_v3_apply]
  refine congrArg x2 (funext fun a => Fin.ext ?_)
  match a with
  | ⟨0, _⟩ => show (((b.val * 4096 + k.val) * 12 + h.val) * 64 + e.val) / 3145728 = b.val; omega
  | ⟨1, _⟩ => show (((b.val * 4096 + k.val) * 12 + h.val) * 64 + e.val) % 768 = 64 * h.val + e.val; omega
  | ⟨2, _⟩ => show (((b.val * 4096 + k.val) * 12 + h.val) * 64 + e.val) / 768 % 4096 = k.val; omega

/-- The masked scores. -/
def masked (b : Fin 8) (h : Fin 12) (q k : Fin 4096) : EReal := if Sees q.val k.val then refScore x0 x1 x3 b h q k else ⊥

theorem v46_eq (b : Fin 8) (h : Fin 12) (q k : Fin 4096) : val_main_v46 (F := Ideal) x0 x1 x3 (ix4 b h q k) = masked x0 x1 x3 b h q k := by
  have h1 : val_main_call1_v1 (F := Ideal) (ix4 b h q k) = if Sees q.val k.val then 1#1 else 0#1 := by
    rw [val_main_call1_v1_apply]; exact seen_eq q k
  have h2 : val_main_call1_v2 (F := Ideal) (ix4 b h q k) = (⊥ : EReal) := by
    rw [val_main_call1_v2_apply, val_main_call1_v0_apply]; exact bot_word
  have h3 : val_main_v45 (F := Ideal) x0 x1 x3 (ix4 b h q k) = refScore x0 x1 x3 b h q k := by
    rw [val_main_v45_apply, val_main_v28_apply, val_main_v44_apply, val_main_v43_apply]
    unfold refScore
    refine congrArg₂ (fun x y : EReal => x + y) (Finset.sum_congr rfl fun e _ => ?_)
      ((congrArg (val_main_v42 (F := Ideal) x3) (funext fun a => ?_)).trans (v42_eq x3 h q k))
    · rw [mul_comm]
      refine congrArg₂ (fun x y : EReal => x * y) ((congrArg (val_main_v2 (F := Ideal) x1) (funext fun a => ?_)).trans (k_eq x1 b k h e))
        ((congrArg (val_main_v1 (F := Ideal) x0) (funext fun a => ?_)).trans (q_eq x0 b q h e)) <;>
      · match a with
        | ⟨0, _⟩ => rfl
        | ⟨1, _⟩ => rfl
        | ⟨2, _⟩ => rfl
        | ⟨3, _⟩ => rfl
    · match a with
      | ⟨0, _⟩ => rfl
      | ⟨1, _⟩ => rfl
      | ⟨2, _⟩ => rfl
  rw [val_main_v46_apply, h1, h2, h3]
  unfold masked
  by_cases hs : Sees q.val k.val
  · rw [if_pos hs, if_pos hs]; rfl
  · rw [if_neg hs, if_neg hs]; rfl

theorem v47_eq (b : Fin 8) (h : Fin 12) (q : Fin 4096) :
    val_main_v47 (F := Ideal) x0 x1 x3 (ix3 b h q) = Finset.univ.sup (masked x0 x1 x3 b h q) := by
  unfold val_main_v47 val_main_cst_12
  refine (Host.reduce_eq_fold _ _ _ _ _ _).trans ((Shape.ReducesTo.fold_fiber_r4_a3 _ _ _ _ _).trans ?_)
  have hb : (constant S_ FTy.f32 4286578688#32 : FVec Ideal S_ .f32) (Shape.Idx.first Gen.h_S_) = (⊥ : EReal) := bot_word
  rw [hb]
  show Finset.univ.sup _ = _
  refine Finset.sup_congr rfl fun k _ => ?_
  exact v46_eq x0 x1 x3 b h q k

theorem v49_eq (b : Fin 8) (h : Fin 12) (q : Fin 4096) :
    val_main_v49 (F := Ideal) x0 x1 x3 (ix3 b h q) = Finset.univ.sup (masked x0 x1 x3 b h q) := by
  have h1 : val_main_v48 (F := Ideal) (ix3 b h q) = (⊥ : EReal) := by rw [val_main_v48_apply]; exact bot_word
  rw [val_main_v49_apply, v47_eq, h1]
  exact max_eq_right bot_le

/-- The exponential of a masked score over the query's largest. -/
def expo (b : Fin 8) (h : Fin 12) (q k : Fin 4096) : EReal :=
  Ideal.exp (masked x0 x1 x3 b h q k - Finset.univ.sup (masked x0 x1 x3 b h q))

theorem v53_eq (b : Fin 8) (h : Fin 12) (q k : Fin 4096) : val_main_v53 (F := Ideal) x0 x1 x3 (ix4 b h q k) = expo x0 x1 x3 b h q k := by
  rw [val_main_v53_apply, val_main_v52_apply, val_main_v51_apply, val_main_v50_apply, v46_eq]
  refine congrArg (fun M : EReal => Ideal.exp (masked x0 x1 x3 b h q k - M))
    ((congrArg (val_main_v49 (F := Ideal) x0 x1 x3) (funext fun a => ?_)).trans (v49_eq x0 x1 x3 b h q))
  match a with
  | ⟨0, _⟩ => rfl
  | ⟨1, _⟩ => rfl
  | ⟨2, _⟩ => rfl

theorem v54_eq (b : Fin 8) (h : Fin 12) (q : Fin 4096) :
    val_main_v54 (F := Ideal) x0 x1 x3 (ix3 b h q) = ∑ k, expo x0 x1 x3 b h q k := by
  have h1 : (val_main_cst_14 (F := Ideal)) (Shape.Idx.first Gen.h_S_) = (0 : EReal) := Ideal.ofBits_zero .f32
  rw [val_main_v54_apply, h1, zero_add]
  refine Finset.sum_congr rfl fun k _ => ?_
  refine (congrArg (val_main_v53 (F := Ideal) x0 x1 x3) (funext fun a => ?_)).trans (v53_eq x0 x1 x3 b h q k)
  match a with
  | ⟨0, _⟩ => rfl
  | ⟨1, _⟩ => rfl
  | ⟨2, _⟩ => rfl
  | ⟨3, _⟩ => rfl

theorem v58_eq (b : Fin 8) (h : Fin 12) (q k : Fin 4096) : val_main_v58 (F := Ideal) x0 x1 x3 (ix4 b h q k)
    = Ideal.div (expo x0 x1 x3 b h q k) (∑ k, expo x0 x1 x3 b h q k) := by
  rw [val_main_v58_apply, val_main_v57_apply, v53_eq, val_main_v56_apply, val_main_v55_apply]
  refine congrArg (fun Z : EReal => Ideal.div (expo x0 x1 x3 b h q k) Z)
    ((congrArg (val_main_v54 (F := Ideal) x0 x1 x3) (funext fun a => ?_)).trans (v54_eq x0 x1 x3 b h q))
  match a with
  | ⟨0, _⟩ => rfl
  | ⟨1, _⟩ => rfl
  | ⟨2, _⟩ => rfl

theorem v59_eq (b : Fin 8) (h : Fin 12) (d : Fin 64) (q : Fin 4096) : val_main_v59 (F := Ideal) x0 x1 x2 x3 (ix4 b h d q)
    = ∑ k : Fin 4096, x2 (ix3 b ⟨64 * h.val + d.val, by omega⟩ k) * Ideal.div (expo x0 x1 x3 b h q k) (∑ k, expo x0 x1 x3 b h q k) := by
  rw [val_main_v59_apply]
  refine Finset.sum_congr rfl fun k _ => congrArg₂ (fun x y : EReal => x * y)
    ((congrArg (val_main_v4 (F := Ideal) x2) (funext fun a => ?_)).trans (v_eq x2 b k h d))
    ((congrArg (val_main_v58 (F := Ideal) x0 x1 x3) (funext fun a => ?_)).trans (v58_eq x0 x1 x3 b h q k)) <;>
  · match a with
    | ⟨0, _⟩ => rfl
    | ⟨1, _⟩ => rfl
    | ⟨2, _⟩ => rfl
    | ⟨3, _⟩ => rfl

/-- The reference's result at one feature of one query: the softmax over all keys, applied to the values. -/
theorem v63_eq (b : Fin 8) (j : Fin 16) (f : Fin 768) (c : Fin 256) : val_main_v63 (F := Ideal) x0 x1 x2 x3 (ix4 b j f c)
    = ∑ k : Fin 4096, x2 (ix3 b f k) * Ideal.div (expo x0 x1 x3 b ⟨f.val / 64, by omega⟩ ⟨256 * j.val + c.val, by omega⟩ k)
        (∑ k, expo x0 x1 x3 b ⟨f.val / 64, by omega⟩ ⟨256 * j.val + c.val, by omega⟩ k) := by
  rw [val_main_v63_apply, val_main_v62_apply, val_main_v61_apply, val_main_v60_apply]
  refine ((congrArg (val_main_v59 (F := Ideal) x0 x1 x2 x3) (funext fun a => Fin.ext ?_)).trans
    (v59_eq x0 x1 x2 x3 b ⟨f.val / 64, by omega⟩ ⟨f.val % 64, by omega⟩ ⟨256 * j.val + c.val, by omega⟩)).trans ?_
  · match a with
    | ⟨0, _⟩ => show (((b.val * 16 + j.val) * 256 + c.val) * 768 + f.val) / 3145728 = b.val; omega
    | ⟨1, _⟩ => show (((b.val * 16 + j.val) * 256 + c.val) * 768 + f.val) / 64 % 12 = f.val / 64; omega
    | ⟨2, _⟩ => show (((b.val * 16 + j.val) * 256 + c.val) * 768 + f.val) % 64 = f.val % 64; omega
    | ⟨3, _⟩ => show (((b.val * 16 + j.val) * 256 + c.val) * 768 + f.val) / 768 % 4096 = 256 * j.val + c.val; omega
  · have e : (⟨64 * (f.val / 64) + f.val % 64, by omega⟩ : Fin 768) = f := Fin.ext (by show 64 * (f.val / 64) + f.val % 64 = f.val; omega)
    simp only [e]

end Cert.ReferenceIdeal.Read

end
-- ==== Proof.Meet.lean ====
/-
  The precondition read at an index, and under it the reference's result as the function of the four arrays the kernel
  computes: keys outside a query's window score −∞ and weigh nothing, so the softmax over all keys is the one over the window.
-/
module

public import proofs.«01_k».proof.Defs
public import proofs.«01_k».proof.Proof.Spec
public import proofs.«01_k».proof.Proof.Softmax
public import proofs.«01_k».proof.Proof.RefValue

@[expose] public section

set_option maxRecDepth 16384

noncomputable section

namespace Cert.Proof

open Idealize.ShloMosaic Idealize.ShloMosaic.WordCmp
open Cert.ReferenceIdeal (S8x16x768x256 S8x4096x768 S8x768x4096 S12x1152x128)
open Cert.ReferenceIdeal.Read Cert.KernelIdeal.Pair

/-- The shape relations of the precondition's own operations. -/
instance facts_pre : Cert.Pre_finite_scores.Facts where
  bcast_S_S1152x128 := by decide
  bcast_S_S8x16x768x256 := by decide
  bcast_S_S8x4096x768 := by decide
  bcast_S_S12x1152x128 := by decide
  bcast_S1152x128_S1x1152x128_1_2 := by decide
  bcast_S1x1152x128_S12x1152x128_0_1_2 := by decide

/-- What the precondition says: queries and keys are finite, no bias is +∞, and a query's bias for its own key is not −∞. -/
structure Fit (x0 : S8x16x768x256.Idx → EReal) (x1 : S8x4096x768.Idx → EReal) (x3 : S12x1152x128.Idx → EReal) : Prop where
  queries : ∀ i, ∃ r : ℝ, x0 i = r
  keys : ∀ i, ∃ r : ℝ, x1 i = r
  top : ∀ i, x3 i ≠ ⊤
  own : ∀ (h : Fin 12) (l : Fin 128), x3 (ix3 h ⟨512 + l.val, by omega⟩ l) ≠ ⊥

theorem inf_bf16 : Ideal.ofBits FTy.bf16 0x7F80#16 = ⊤ := by simp [Ideal.ofBits, Ideal.ieee]

theorem inf_f32 : Ideal.ofBits FTy.f32 0x7F800000#32 = ⊤ := by simp [Ideal.ofBits, Ideal.ieee]

/-- A magnitude below +∞ is that of a real. -/
theorem real_of_abs {x : EReal} (h : BitVec.ofBool (decide (max x (-x) < ⊤)) = 1#1) : ∃ r : ℝ, x = r := by
  have h' : max x (-x) < ⊤ := by
    by_contra hc
    rw [decide_eq_false hc] at h
    exact absurd h (by decide)
  have h1 : x ≠ ⊤ := fun e => by rw [e] at h'; simp at h'
  have h2 : x ≠ ⊥ := fun e => by rw [e] at h'; simp at h'
  exact ⟨x.toReal, (EReal.coe_toReal h1 h2).symm⟩

theorem fit_of_pre (x0 : FVec Ideal S8x16x768x256 .bf16) (x1 : FVec Ideal S8x4096x768 .bf16) (x2 : FVec Ideal S8x768x4096 .bf16)
    (x3 : FVec Ideal S12x1152x128 .f32)
    (h0 : (Cert.Pre_finite_scores.fn (F := Ideal) x0 x1 x2 x3).1 = fun _ => 1#1)
    (h1 : (Cert.Pre_finite_scores.fn (F := Ideal) x0 x1 x2 x3).2.1 = fun _ => 1#1)
    (h2 : (Cert.Pre_finite_scores.fn (F := Ideal) x0 x1 x2 x3).2.2.1 = fun _ => 1#1)
    (h3 : (Cert.Pre_finite_scores.fn (F := Ideal) x0 x1 x2 x3).2.2.2 = fun _ => 1#1) : Fit x0 x1 x3 where
  queries i := by
    have e : BitVec.ofBool (decide (max (x0 i) (-(x0 i)) < Ideal.ofBits FTy.bf16 0x7F80#16)) = 1#1 := congrFun h0 i
    rw [inf_bf16] at e
    exact real_of_abs e
  keys i := by
    have e : BitVec.ofBool (decide (max (x1 i) (-(x1 i)) < Ideal.ofBits FTy.bf16 0x7F80#16)) = 1#1 := congrFun h1 i
    rw [inf_bf16] at e
    exact real_of_abs e
  top i := by
    have e : BitVec.ofBool (decide (x3 i < Ideal.ofBits FTy.f32 0x7F800000#32)) = 1#1 := congrFun h2 i
    rw [inf_f32] at e
    intro hc
    rw [hc, decide_eq_false (lt_irrefl _)] at e
    exact absurd e (by decide)
  own h l := by
    have hl : 512 + l.val < 1152 := by omega
    have e : BitVec.ofBool (decide (Ideal.ofBits FTy.f32 0xFF800000#32 < x3 (ix3 h ⟨512 + l.val, hl⟩ l)))
        ||| ~~~ BitVec.ofBool (BitVec.ofNat 32 (512 + l.val) == BitVec.ofNat 32 l.val + 512#32) = 1#1 :=
      congrFun h3 (ix3 h ⟨512 + l.val, hl⟩ l)
    have hw : (BitVec.ofNat 32 (512 + l.val) == BitVec.ofNat 32 l.val + 512#32) = true := by
      rw [beq_iff_eq, add_comm 512, BitVec.ofNat_add]
    rw [hw] at e
    have hb : Ideal.ofBits FTy.f32 0xFF800000#32 = ⊥ := bot_word
    intro hc
    rw [hc, hb, decide_eq_false (lt_irrefl _)] at e
    exact absurd e (by decide)

/-- A sum of products of reals is real. -/
theorem sum_real {n : ℕ} (x y : Fin n → EReal) (hx : ∀ e, ∃ r : ℝ, x e = r) (hy : ∀ e, ∃ r : ℝ, y e = r) :
    ∃ r : ℝ, ∑ e, x e * y e = r := by
  choose a ha using hx
  choose b hb using hy
  refine ⟨∑ e, a e * b e, ?_⟩
  have h1 : ∀ e, x e * y e = ((a e * b e : ℝ) : EReal) := fun e => by rw [ha, hb, EReal.coe_mul]
  rw [Finset.sum_congr rfl fun e _ => h1 e]
  exact (map_sum (⟨⟨Real.toEReal, rfl⟩, EReal.coe_add⟩ : ℝ →+ EReal) _ Finset.univ).symm

theorem reference_eq (x0 : S8x16x768x256.Idx → EReal) (x1 : S8x4096x768.Idx → EReal) (x2 : S8x768x4096.Idx → EReal)
    (x3 : S12x1152x128.Idx → EReal) (hf : Fit x0 x1 x3) (b : Fin 8) (j : Fin 16) (f : Fin 768) (c : Fin 256) :
    val_main_v63 (F := Ideal) x0 x1 x2 x3 (ix4 b j f c) = spec x0 x1 x2 x3 b j f c := by
  have hs := start_le j.isLt c.isLt
  have hfirst : firstKey (256 * j.val + c.val) = start j.val c.val := by unfold firstKey start; omega
  have hown : ∃ r0 : Fin 640, start j.val c.val + r0.val = 128 * (2 * j.val + c.val / 128) + c.val % 128 :=
    ⟨⟨128 * (2 * j.val + c.val / 128) + c.val % 128 - start j.val c.val, by unfold start; omega⟩, by
      show start j.val c.val + (128 * (2 * j.val + c.val / 128) + c.val % 128 - start j.val c.val) = _
      unfold start; omega⟩
  obtain ⟨r0, hr0⟩ := hown
  have hreal : ∀ r : Fin 640, ∃ y : ℝ, scoreAt x0 x1 x3 b j f c r
      = (y : EReal) + x3 (ix3 ⟨f.val / 64, by omega⟩ ⟨brow j.val c.val + r.val, by have := brow_le j.val c.val; omega⟩ ⟨c.val % 128, by omega⟩) := by
    intro r
    obtain ⟨y, hy⟩ := sum_real
      (fun e : Fin 64 => x1 (ix3 b ⟨start j.val c.val + r.val, by omega⟩ ⟨64 * (f.val / 64) + e.val, by omega⟩))
      (fun e : Fin 64 => x0 (ix4 b j ⟨64 * (f.val / 64) + e.val, by omega⟩ c)) (fun e => hf.keys _) (fun e => hf.queries _)
    exact ⟨y, congrArg (fun z : EReal => z + _) hy⟩
  rw [v63_eq]
  refine softmax_window (start j.val c.val) (by omega) (Cert.ReferenceIdeal.Read.masked x0 x1 x3 b ⟨f.val / 64, by omega⟩ ⟨256 * j.val + c.val, by omega⟩)
    (fun k => x2 (ix3 b f k)) (scoreAt x0 x1 x3 b j f c) _ ?_ ?_ (fun r => rfl) ?_ r0 ?_
  · intro r
    have hsee : Sees (256 * j.val + c.val) (start j.val c.val + r.val) := by unfold Sees; rw [hfirst]; omega
    have hrow : biasRow (256 * j.val + c.val) (start j.val c.val + r.val) = brow j.val c.val + r.val := by
      unfold biasRow; rw [if_pos hsee]; unfold brow start; omega
    unfold Cert.ReferenceIdeal.Read.masked
    rw [if_pos hsee]
    unfold refScore scoreAt
    refine congrArg₂ (fun x y : EReal => x + y) (Finset.sum_congr rfl fun e _ => congrArg (fun y : EReal => _ * y) (congrArg x0 (funext fun a => Fin.ext ?_)))
      (congrArg x3 (ix3_congr rfl (Fin.ext hrow) (Fin.ext ?_)))
    · match a with
      | ⟨0, _⟩ => rfl
      | ⟨1, _⟩ => show (256 * j.val + c.val) / 256 = j.val; omega
      | ⟨2, _⟩ => rfl
      | ⟨3, _⟩ => show (256 * j.val + c.val) % 256 = c.val; omega
    · show (256 * j.val + c.val) % 128 = c.val % 128; omega
  · intro k hk
    have hsee : ¬ Sees (256 * j.val + c.val) k.val := by unfold Sees; rw [hfirst]; exact hk
    unfold Cert.ReferenceIdeal.Read.masked
    exact if_neg hsee
  · intro r
    obtain ⟨y, hy⟩ := hreal r
    rw [hy]
    exact EReal.add_ne_top (EReal.coe_ne_top y) (hf.top _)
  · obtain ⟨y, hy⟩ := hreal r0
    rw [hy]
    refine EReal.add_ne_bot_iff.mpr ⟨EReal.coe_ne_bot y, ?_⟩
    have e := hf.own ⟨f.val / 64, by omega⟩ ⟨c.val % 128, by omega⟩
    have hb : 512 + c.val % 128 = brow j.val c.val + r0.val := by unfold brow; unfold start at hr0 ⊢; omega
    exact fun hc => e ((congrArg x3 (ix3_congr rfl (Fin.ext hb) rfl)).trans hc)

end Cert.Proof

end
-- ==== Proof.MixerReal.lean ====
/-
  With finite arrays every value up to the convolved gate is real: a softmax weight is then an exponential over the sum, and
  the gate times half of one plus the hyperbolic tangent of its half is the gate times its sigmoid.
-/
module

public import proofs.«01_k».proof.Proof.MixerSpec
public import proofs.«01_k».proof.Proof.Meet

@[expose] public section

set_option maxRecDepth 16384

noncomputable section

namespace Cert.Kernel2Ideal.Tile

open Idealize.ShloMosaic

/-- Neither infinity. -/
def IsReal (x : EReal) : Prop := ∃ r : ℝ, x = r

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.ne_top {x : EReal} (hx : IsReal x) : x ≠ ⊤ := by
  obtain ⟨a, rfl⟩ := hx
  exact EReal.coe_ne_top a

theorem IsReal.ne_bot {x : EReal} (hx : IsReal x) : x ≠ ⊥ := by
  obtain ⟨a, rfl⟩ := hx
  exact EReal.coe_ne_bot a

theorem div_of_pos (x : EReal) {z : ℝ} (hz : 0 < z) : Ideal.div x z = x * ((z⁻¹ : ℝ) : EReal) := by
  have h : (z : EReal) ≠ 0 := fun e => hz.ne' (EReal.coe_eq_zero.mp e)
  unfold Ideal.div
  rw [if_neg h, EReal.coe_inv]

/-- The softmax of real scores: real, and the exponential over the sum of the exponentials. -/
theorem soft_real (s : Fin 256 → EReal) (hs : ∀ r, IsReal (s r)) (r : Fin 256) :
    IsReal (soft s r) ∧ soft s r = Ideal.div (Ideal.exp (s r - Finset.univ.sup s)) (∑ r, Ideal.exp (s r - Finset.univ.sup s)) := by
  have hM1 : Finset.univ.sup s ≠ ⊤ := ((Finset.sup_lt_iff bot_lt_top).mpr fun r _ => lt_top_iff_ne_top.mpr (hs r).ne_top).ne
  have hM0 : Finset.univ.sup s ≠ ⊥ := ((bot_lt_iff_ne_bot.mpr (hs 0).ne_bot).trans_le (Finset.le_sup (Finset.mem_univ 0))).ne'
  obtain ⟨M, hM⟩ : IsReal (Finset.univ.sup s) := ⟨_, (EReal.coe_toReal hM1 hM0).symm⟩
  obtain ⟨Z, hZ, hz⟩ := Cert.KernelIdeal.Pair.total_real s (fun r => (hs r).ne_top) 0 (hs 0).ne_bot
  obtain ⟨e, _, he, _⟩ := Cert.KernelIdeal.Pair.exp_real (s r) (hs r).ne_top M
  unfold soft
  rw [hz, hM, he, div_of_pos _ hZ, div_of_pos _ hZ, one_mul]
  exact ⟨⟨e * Z⁻¹, (EReal.coe_mul e Z⁻¹).symm⟩, rfl⟩

theorem thousand : Ideal.ofBits FTy.f32 0x44800000#32 = ((1024 : ℝ) : EReal) := by
  simp [Ideal.ofBits, Ideal.ieee]
  norm_num
  rw [← EReal.coe_mul]
  norm_num

theorem epsilon : ∃ r : ℝ, 0 < r ∧ Ideal.ofBits FTy.f32 0x358637BD#32 = (r : EReal) := by
  refine ⟨8796093 / 8796093022208, by positivity, ?_⟩
  simp [Ideal.ofBits, Ideal.ieee]
  norm_num
  rw [← EReal.coe_mul]
  norm_num

theorem half : Ideal.ofBits FTy.f32 0x3F000000#32 = ((1 / 2 : ℝ) : EReal) := by
  simp [Ideal.ofBits, Ideal.ieee]
  norm_num
  rw [← EReal.coe_mul]
  norm_num

theorem scale_real (x : Fin 1024 → EReal) (hx : ∀ e, IsReal (x e)) : IsReal (scale x) := by
  choose a ha using hx
  obtain ⟨ε, hε, he⟩ := epsilon
  have h1 : ∀ e, x e * x e = ((a e * a e : ℝ) : EReal) := fun e => by rw [ha, EReal.coe_mul]
  have h2 : ∑ e, x e * x e = ((∑ e, a e * a e : ℝ) : EReal) := by
    rw [Finset.sum_congr rfl fun e _ => h1 e]
    exact (map_sum (⟨⟨Real.toEReal, rfl⟩, EReal.coe_add⟩ : ℝ →+ EReal) _ Finset.univ).symm
  have h3 : 0 ≤ ∑ e, a e * a e := Finset.sum_nonneg fun e _ => mul_self_nonneg _
  have h4 : 0 < (∑ e, a e * a e) * (1024 : ℝ)⁻¹ + ε := add_pos_of_nonneg_of_pos (mul_nonneg h3 (by norm_num)) hε
  unfold scale
  rw [h2, thousand, he, div_of_pos _ (by norm_num), ← EReal.coe_mul, ← EReal.coe_add, Ideal.rsqrt_coe, if_neg (not_lt.mpr h4.le), if_neg h4.ne']
  exact ⟨_, rfl⟩

/-- A real gate times its sigmoid. -/
theorem swish_eq {y : EReal} (hy : IsReal y) : swish y = y * Ideal.div 1 (1 + Ideal.exp (-y)) := by
  obtain ⟨r, rfl⟩ := hy
  have h1 : (1 : EReal) + Ideal.exp (-(r : EReal)) = ((1 + Real.exp (-r) : ℝ) : EReal) := by
    rw [EReal.coe_add]; rfl
  unfold swish
  dsimp only
  rw [h1, div_of_pos _ (by positivity), one_mul, half, ← EReal.coe_mul, ← EReal.coe_mul, Ideal.tanh_coe, ← EReal.coe_mul, ← EReal.coe_add]
  refine congrArg Real.toEReal ?_
  have h2 : Real.exp (-r) = Real.exp (-(1 / 2 * r)) * Real.exp (-(1 / 2 * r)) := by rw [← Real.exp_add]; congr 1; ring
  have h3 : Real.exp (-(1 / 2 * r)) = (Real.exp (1 / 2 * r))⁻¹ := Real.exp_neg _
  rw [Real.tanh_eq_sinh_div_cosh, Real.sinh_eq, Real.cosh_eq, h2, h3]
  have h4 := Real.exp_pos (1 / 2 * r)
  generalize Real.exp (1 / 2 * r) = E at h4 ⊢
  field_simp
  ring

/-- The arrays the gate is computed from are finite. -/
structure Finite (A : Arrays) : Prop where
  x : ∀ i, IsReal (A.x i)
  mix : ∀ i, IsReal (A.mix i)
  q : ∀ i, IsReal (A.q i)
  k : ∀ i, IsReal (A.k i)
  v : ∀ i, IsReal (A.v i)
  wup : ∀ i, IsReal (A.wup i)
  wout : ∀ i, IsReal (A.wout i)
  g : ∀ i, IsReal (A.g i)
  taps : ∀ i, IsReal (A.taps i)
  bias : ∀ i, IsReal (A.bias i)

namespace Finite

variable {A : Arrays} (h : Finite A) (ly : Fin 2) (b : Fin 8) (p : Fin 4096)
include h

theorem score (c : Fin 1024) : IsReal (A.score ly b p c) := Cert.Proof.sum_real _ _ (fun e => h.q _) fun e => h.k _

theorem prob (c : Fin 1024) : IsReal (A.prob ly b p c) := (soft_real _ (fun r => h.score ly b p _) _).1

theorem mem (e : Fin 256) : IsReal (A.mem ly b p e) := Cert.Proof.sum_real _ _ (h.prob ly b p) fun c => h.v _

theorem mid (d : Fin 1024) : IsReal (A.mid ly b p d) :=
  (h.x _).add (IsReal.add (Cert.Proof.sum_real _ _ (h.mem ly b p) fun e => h.wout _) (Cert.Proof.sum_real _ _ (fun f => h.mix _) fun f => h.wout _))

theorem hid (d : Fin 1024) : IsReal (A.hid ly b p d) :=
  ((h.mid ly b p d).mul (scale_real _ (h.mid ly b p))).mul (h.g _)

theorem first (n : Fin 5632) : IsReal (A.first ly b p n) := Cert.Proof.sum_real _ _ (h.hid ly b p) fun d => h.wup _

theorem prev (n : ℕ) (f : Fin 2816) : IsReal (A.prev ly b p n f) := by
  unfold Arrays.prev
  by_cases hn : n ≤ p.val
  · rw [dif_pos hn]; exact h.first ly b _ _
  · rw [dif_neg hn]; exact ⟨0, rfl⟩

theorem conv (f : Fin 2816) : IsReal (A.conv ly b p f) :=
  ((((h.taps _).mul (h.first ly b p _)).add ((h.taps _).mul (h.prev ly b p 1 f))).add ((h.taps _).mul (h.prev ly b p 2 f))).add (h.bias _)

end Finite

end Cert.Kernel2Ideal.Tile

end
-- ==== Proof.MixerRef.lean ====
/-
  The plain reference of what follows the mixers, read at one token: the function of the whole arrays that the kernel computes.
-/
module

public import proofs.«01_k».proof.Proof.Gen.Reference2Ideal.Read
public import proofs.«01_k».proof.Proof.MixerReal

@[expose] public section

set_option maxRecDepth 16384

noncomputable section

namespace Cert.Reference2Ideal.Read

open Cert.Reference2Ideal Cert.Reference2Ideal.Facts Idealize.ShloMosaic
open Cert.Kernel2Ideal.Tile (Arrays Finite rms scale soft soft_real swish swish_eq)

theorem ix4_congr {n0 n1 n2 n3 : ℕ} {a a' : Fin n0} {b b' : Fin n1} {c c' : Fin n2} {d d' : Fin n3} (ha : a = a') (hb : b = b') (hc : c = c')
    (hd : d = d') : ix4 a b c d = ix4 a' b' c' d' := by
  rw [ha, hb, hc, hd]

section weights

variable (x1 : (⟨S8x16x768x256, .bf16⟩ : BufTy).Contents (Elt Ideal)) (x3 : (⟨S2x8x256x1024, .bf16⟩ : BufTy).Contents (Elt Ideal))
  (x4 : (⟨S2x8x1024x256, .bf16⟩ : BufTy).Contents (Elt Ideal)) (x5 : (⟨S2x1024x5632, .bf16⟩ : BufTy).Contents (Elt Ideal))
  (x6 : (⟨S2x2816x1024, .bf16⟩ : BufTy).Contents (Elt Ideal)) (x9 : (⟨S3x2816, .f32⟩ : BufTy).Contents (Elt Ideal))

theorem keys_eq (b : Fin 8) (e : Fin 256) (c : Fin 1024) : val_main_v12 (F := Ideal) x3 (ix3 b e c) = x3 (ix4 1 b e c) := by
  rw [val_main_v12_apply, val_main_v1_apply, val_main_v0_apply]
  refine congrArg x3 (funext fun a => Fin.ext ?_)
  match a with
  | ⟨0, _⟩ => rfl
  | ⟨1, _⟩ => show ((b.val * 256 + e.val) * 1024 + c.val) / 262144 % 8 = b.val; omega
  | ⟨2, _⟩ => show ((b.val * 256 + e.val) * 1024 + c.val) / 1024 % 256 = e.val; omega
  | ⟨3, _⟩ => show ((b.val * 256 + e.val) * 1024 + c.val) % 1024 = c.val; omega

theorem values_eq (b : Fin 8) (c : Fin 1024) (e : Fin 256) : val_main_v27 (F := Ideal) x4 (ix3 b c e) = x4 (ix4 1 b c e) := by
  rw [val_main_v27_apply, val_main_v3_apply, val_main_v2_apply]
  refine congrArg x4 (funext fun a => Fin.ext ?_)
  match a with
  | ⟨0, _⟩ => rfl
  | ⟨1, _⟩ => show ((b.val * 1024 + c.val) * 256 + e.val) / 262144 % 8 = b.val; omega
  | ⟨2, _⟩ => show ((b.val * 1024 + c.val) * 256 + e.val) / 256 % 1024 = c.val; omega
  | ⟨3, _⟩ => show ((b.val * 1024 + c.val) * 256 + e.val) % 256 = e.val; omega

theorem wup_eq (d : Fin 1024) (n : Fin 5632) : val_main_v47 (F := Ideal) x5 (ix2 d n) = x5 (ix3 1 d n) := by
  rw [val_main_v47_apply, val_main_v5_apply, val_main_v4_apply]
  refine congrArg x5 (funext fun a => Fin.ext ?_)
  match a with
  | ⟨0, _⟩ => rfl
  | ⟨1, _⟩ => show (d.val * 5632 + n.val) / 5632 % 1024 = d.val; omega
  | ⟨2, _⟩ => show (d.val * 5632 + n.val) % 5632 = n.val; omega

theorem wdown_eq (f : Fin 2816) (d : Fin 1024) : val_main_v78 (F := Ideal) x6 (ix2 f d) = x6 (ix3 1 f d) := by
  rw [val_main_v78_apply, val_main_v7_apply, val_main_v6_apply]
  refine congrArg x6 (funext fun a => Fin.ext ?_)
  match a with
  | ⟨0, _⟩ => rfl
  | ⟨1, _⟩ => show (f.val * 1024 + d.val) / 1024 % 2816 = f.val; omega
  | ⟨2, _⟩ => show (f.val * 1024 + d.val) % 1024 = d.val; omega

theorem mix_eq (b : Fin 8) (p : Fin 4096) (f : Fin 768) :
    val_main_v10 (F := Ideal) x1 (ix3 b p f) = x1 (ix4 b ⟨p.val / 256, by omega⟩ f ⟨p.val % 256, by omega⟩) := by
  rw [val_main_v10_apply, val_main_v9_apply, val_main_v8_apply]
  refine congrArg x1 (funext fun a => Fin.ext ?_)
  match a with
  | ⟨0, _⟩ => show ((b.val * 4096 + p.val) * 768 + f.val) / 3145728 = b.val; omega
  | ⟨1, _⟩ => show ((b.val * 4096 + p.val) * 768 + f.val) / 196608 % 16 = p.val / 256; omega
  | ⟨2, _⟩ => show ((b.val * 4096 + p.val) * 768 + f.val) % 768 = f.val; omega
  | ⟨3, _⟩ => show ((b.val * 4096 + p.val) * 768 + f.val) / 768 % 256 = p.val % 256; omega

theorem tap0 (b : Fin 8) (p : Fin 4096) (f : Fin 2816) : val_main_v57 (F := Ideal) x9 (ix3 b p f) = x9 (ix2 0 f) := by
  rw [val_main_v57_apply, val_main_v56_apply, val_main_v55_apply, val_main_v54_apply]
  refine congrArg x9 (funext fun a => Fin.ext ?_)
  match a with
  | ⟨0, _⟩ => rfl
  | ⟨1, _⟩ => show f.val % 2816 = f.val; omega

theorem tap1 (b : Fin 8) (p : Fin 4096) (f : Fin 2816) : val_main_v63 (F := Ideal) x9 (ix3 b p f) = x9 (ix2 1 f) := by
  rw [val_main_v63_apply, val_main_v62_apply, val_main_v61_apply, val_main_v60_apply]
  refine congrArg x9 (funext fun a => Fin.ext ?_)
  match a with
  | ⟨0, _⟩ => rfl
  | ⟨1, _⟩ => show f.val % 2816 = f.val; omega

theorem tap2 (b : Fin 8) (p : Fin 4096) (f : Fin 2816) : val_main_v70 (F := Ideal) x9 (ix3 b p f) = x9 (ix2 2 f) := by
  rw [val_main_v70_apply, val_main_v69_apply, val_main_v68_apply, val_main_v67_apply]
  refine congrArg x9 (funext fun a => Fin.ext ?_)
  match a with
  | ⟨0, _⟩ => rfl
  | ⟨1, _⟩ => show f.val % 2816 = f.val; omega

end weights

variable (A : Arrays) (b : Fin 8) (p : Fin 4096)

theorem score_eq (c : Fin 1024) : val_main_v13 (F := Ideal) A.q A.k (ix3 b p c) = A.score 1 b p c := by
  rw [val_main_v13_apply]
  unfold Arrays.score
  refine Finset.sum_congr rfl fun e _ => congrArg₂ (fun x y : EReal => x * y) (congrArg A.q (funext fun a => ?_))
    ((congrArg (val_main_v12 (F := Ideal) A.k) (funext fun a => ?_)).trans (keys_eq A.k b e c)) <;>
  · match a with
    | ⟨0, _⟩ => rfl
    | ⟨1, _⟩ => rfl
    | ⟨2, _⟩ => rfl

/-- A head's scores. -/
abbrev inHead (h : Fin 4) (r : Fin 256) : EReal := A.score 1 b p ⟨256 * h.val + r.val, by omega⟩

theorem split_eq (h : Fin 4) (r : Fin 256) : val_main_v14 (F := Ideal) A.q A.k (ix4 b p h r) = inHead A b p h r := by
  rw [val_main_v14_apply]
  refine (congrArg (val_main_v13 (F := Ideal) A.q A.k) (funext fun a => Fin.ext ?_)).trans (score_eq A b p ⟨256 * h.val + r.val, by omega⟩)
  match a with
  | ⟨0, _⟩ => show (((b.val * 4096 + p.val) * 4 + h.val) * 256 + r.val) / 4194304 = b.val; omega
  | ⟨1, _⟩ => show (((b.val * 4096 + p.val) * 4 + h.val) * 256 + r.val) / 1024 % 4096 = p.val; omega
  | ⟨2, _⟩ => show (((b.val * 4096 + p.val) * 4 + h.val) * 256 + r.val) % 1024 = 256 * h.val + r.val; omega

theorem largest_eq (h : Fin 4) : val_main_v17 (F := Ideal) A.q A.k (ix3 b p h) = Finset.univ.sup (inHead A b p h) := by
  have h0 : val_main_v16 (F := Ideal) (ix3 b p h) = (⊥ : EReal) := by
    rw [val_main_v16_apply]; exact Cert.ReferenceIdeal.Read.bot_word
  have h1 : val_main_v15 (F := Ideal) A.q A.k (ix3 b p h) = Finset.univ.sup (inHead A b p h) := by
    unfold val_main_v15 val_main_cst
    refine (Host.reduce_eq_fold _ _ _ _ _ _).trans ((Shape.ReducesTo.fold_fiber_r4_a3 _ _ _ _ _).trans ?_)
    have hb : (constant S_ FTy.f32 4286578688#32 : FVec Ideal S_ .f32) (Shape.Idx.first Gen.h_S_) = (⊥ : EReal) := Cert.ReferenceIdeal.Read.bot_word
    rw [hb]
    show Finset.univ.sup _ = _
    refine Finset.sup_congr rfl fun k _ => ?_
    exact split_eq A b p h k
  rw [val_main_v17_apply, h0, h1]
  exact max_eq_right bot_le

/-- The exponential of a score over its head's largest. -/
abbrev expo (h : Fin 4) (r : Fin 256) : EReal := Ideal.exp (inHead A b p h r - Finset.univ.sup (inHead A b p h))

theorem expo_eq (h : Fin 4) (r : Fin 256) : val_main_v21 (F := Ideal) A.q A.k (ix4 b p h r) = expo A b p h r := by
  rw [val_main_v21_apply, val_main_v20_apply, val_main_v19_apply, val_main_v18_apply, split_eq]
  refine congrArg (fun M : EReal => Ideal.exp (inHead A b p h r - M))
    ((congrArg (val_main_v17 (F := Ideal) A.q A.k) (funext fun a => ?_)).trans (largest_eq A b p h))
  match a with
  | ⟨0, _⟩ => rfl
  | ⟨1, _⟩ => rfl
  | ⟨2, _⟩ => rfl

theorem total_eq (h : Fin 4) : val_main_v22 (F := Ideal) A.q A.k (ix3 b p h) = ∑ r, expo A b p h r := by
  have h1 : (val_main_cst_1 (F := Ideal)) (Shape.Idx.first Gen.h_S_) = (0 : EReal) := Ideal.ofBits_zero .f32
  rw [val_main_v22_apply, h1, zero_add]
  refine Finset.sum_congr rfl fun r _ => ?_
  refine (congrArg (val_main_v21 (F := Ideal) A.q A.k) (funext fun a => ?_)).trans (expo_eq A b p h r)
  match a with
  | ⟨0, _⟩ => rfl
  | ⟨1, _⟩ => rfl
  | ⟨2, _⟩ => rfl
  | ⟨3, _⟩ => rfl

theorem weight_eq (h : Fin 4) (r : Fin 256) : val_main_v25 (F := Ideal) A.q A.k (ix4 b p h r)
    = Ideal.div (expo A b p h r) (∑ r, expo A b p h r) := by
  rw [val_main_v25_apply, val_main_v24_apply, expo_eq, val_main_v23_apply]
  refine congrArg (fun Z : EReal => Ideal.div (expo A b p h r) Z)
    ((congrArg (val_main_v22 (F := Ideal) A.q A.k) (funext fun a => ?_)).trans (total_eq A b p h))
  match a with
  | ⟨0, _⟩ => rfl
  | ⟨1, _⟩ => rfl
  | ⟨2, _⟩ => rfl

variable {A} (hA : Finite A)
include hA

theorem prob_eq (c : Fin 1024) : val_main_v26 (F := Ideal) A.q A.k (ix3 b p c) = A.prob 1 b p c := by
  rw [val_main_v26_apply]
  refine ((congrArg (val_main_v25 (F := Ideal) A.q A.k) (funext fun a => Fin.ext ?_)).trans
    (weight_eq A b p ⟨c.val / 256, by omega⟩ ⟨c.val % 256, by omega⟩)).trans ?_
  · match a with
    | ⟨0, _⟩ => show ((b.val * 4096 + p.val) * 1024 + c.val) / 4194304 = b.val; omega
    | ⟨1, _⟩ => show ((b.val * 4096 + p.val) * 1024 + c.val) / 1024 % 4096 = p.val; omega
    | ⟨2, _⟩ => show ((b.val * 4096 + p.val) * 1024 + c.val) / 256 % 4 = c.val / 256; omega
    | ⟨3, _⟩ => show ((b.val * 4096 + p.val) * 1024 + c.val) % 256 = c.val % 256; omega
  · exact (soft_real _ (fun r => hA.score 1 b p _) _).2.symm

theorem mem_eq (e : Fin 256) : val_main_v28 (F := Ideal) A.q A.k A.v (ix3 b p e) = A.mem 1 b p e := by
  rw [val_main_v28_apply]
  unfold Arrays.mem
  refine Finset.sum_congr rfl fun c _ => congrArg₂ (fun x y : EReal => x * y)
    ((congrArg (val_main_v26 (F := Ideal) A.q A.k) (funext fun a => ?_)).trans (prob_eq b p hA c))
    ((congrArg (val_main_v27 (F := Ideal) A.v) (funext fun a => ?_)).trans (values_eq A.v b c e)) <;>
  · match a with
    | ⟨0, _⟩ => rfl
    | ⟨1, _⟩ => rfl
    | ⟨2, _⟩ => rfl

theorem join_left (f : Fin 768) : val_main_v29 (F := Ideal) A.mix A.q A.k A.v (ix3 b p ⟨f.val, by omega⟩)
    = A.mix (ix4 b ⟨p.val / 256, by omega⟩ f ⟨p.val % 256, by omega⟩) := by
  unfold val_main_v29
  pointwise
  exact mix_eq A.mix b p f

theorem join_right (e : Fin 256) : val_main_v29 (F := Ideal) A.mix A.q A.k A.v (ix3 b p ⟨768 + e.val, by omega⟩) = A.mem 1 b p e := by
  unfold val_main_v29
  pointwise
  exact mem_eq b p hA e

theorem mid_eq (d : Fin 1024) : val_main_v32 (F := Ideal) A.x A.mix A.q A.k A.v A.wout (ix3 b p d) = A.mid 1 b p d := by
  have h : ∀ k : Fin 1024, val_main_v29 (F := Ideal) A.mix A.q A.k A.v (lidx_main_v31 (ix3 b p d) k) * val_main_v30 (F := Ideal) A.wout (ridx_main_v31 (ix3 b p d) k)
      = val_main_v29 (F := Ideal) A.mix A.q A.k A.v (ix3 b p k) * A.wout (ix2 k d) := fun k => by
    refine congrArg₂ (fun x y : EReal => x * y) (congrArg (val_main_v29 (F := Ideal) A.mix A.q A.k A.v) (funext fun a => ?_)) (congrArg A.wout (funext fun a => ?_))
    · match a with
      | ⟨0, _⟩ => rfl
      | ⟨1, _⟩ => rfl
      | ⟨2, _⟩ => rfl
    · match a with
      | ⟨0, _⟩ => rfl
      | ⟨1, _⟩ => rfl
  rw [val_main_v32_apply, val_main_v31_apply, Finset.sum_congr rfl fun k _ => h k]
  unfold Arrays.mid
  refine congrArg (fun y : EReal => A.x (ix3 b p d) + y) ?_
  rw [add_comm]
  refine (Fin.sum_univ_add (a := 768) (b := 256) (fun k : Fin 1024 => val_main_v29 (F := Ideal) A.mix A.q A.k A.v (ix3 b p k) * A.wout (ix2 k d))).trans ?_
  refine congrArg₂ (fun x y : EReal => x + y) (Finset.sum_congr rfl fun f _ => congrArg (fun y : EReal => y * A.wout (ix2 ⟨f.val, by omega⟩ d)) (join_left b p hA f))
    (Finset.sum_congr rfl fun e _ => congrArg (fun y : EReal => y * A.wout (ix2 ⟨768 + e.val, by omega⟩ d)) (join_right b p hA e))

theorem hid_eq (d : Fin 1024) : val_main_v46 (F := Ideal) A.x A.mix A.q A.k A.v A.wout A.g (ix3 b p d) = A.hid 1 b p d := by
  have h1 : val_main_v42 (F := Ideal) A.x A.mix A.q A.k A.v A.wout (ix3 b p d) = scale (A.mid 1 b p) := by
    have h0 : (val_main_cst_2 (F := Ideal)) (Shape.Idx.first Gen.h_S_) = (0 : EReal) := Ideal.ofBits_zero .f32
    rw [val_main_v42_apply, val_main_v41_apply, val_main_v40_apply, val_main_v38_apply, val_main_v36_apply, val_main_v35_apply, h0, zero_add]
    unfold scale
    refine congrArg (fun y : EReal => Ideal.rsqrt (Ideal.div y (Ideal.ofBits .f32 0x44800000#32) + Ideal.ofBits .f32 0x358637BD#32)) (Finset.sum_congr rfl fun e _ => ?_)
    refine (congrArg (val_main_v34 (F := Ideal) A.x A.mix A.q A.k A.v A.wout) (funext fun a => ?_ : _ = ix3 b p e)).trans ?_
    · match a with
      | ⟨0, _⟩ => rfl
      | ⟨1, _⟩ => rfl
      | ⟨2, _⟩ => rfl
    · rw [val_main_v34_apply, mid_eq b p hA]; rfl
  have h2 : val_main_v45 (F := Ideal) A.g (ix3 b p d) = A.g (ix2 0 d) := by
    rw [val_main_v45_apply, val_main_v44_apply, val_main_v33_apply]
    refine congrArg A.g (funext fun a => Fin.ext ?_)
    match a with
    | ⟨0, _⟩ => rfl
    | ⟨1, _⟩ => show d.val % 1024 = d.val; omega
  rw [val_main_v46_apply, val_main_v43_apply, h1, h2, mid_eq b p hA]
  rfl

theorem first_eq (n : Fin 5632) : val_main_v48 (F := Ideal) A.x A.mix A.q A.k A.v A.wup A.wout A.g (ix3 b p n) = A.first 1 b p n := by
  rw [val_main_v48_apply]
  unfold Arrays.first
  refine Finset.sum_congr rfl fun d _ => congrArg₂ (fun x y : EReal => x * y)
    ((congrArg (val_main_v46 (F := Ideal) A.x A.mix A.q A.k A.v A.wout A.g) (funext fun a => ?_)).trans (hid_eq b p hA d))
    ((congrArg (val_main_v47 (F := Ideal) A.wup) (funext fun a => ?_)).trans (wup_eq A.wup d n))
  · match a with
    | ⟨0, _⟩ => rfl
    | ⟨1, _⟩ => rfl
    | ⟨2, _⟩ => rfl
  · match a with
    | ⟨0, _⟩ => rfl
    | ⟨1, _⟩ => rfl

theorem raw_eq (f : Fin 2816) : val_main_v50 (F := Ideal) A.x A.mix A.q A.k A.v A.wup A.wout A.g (ix3 b p f) = A.raw 1 b p f := by
  rw [val_main_v50_apply]
  refine (congrArg (val_main_v48 (F := Ideal) A.x A.mix A.q A.k A.v A.wup A.wout A.g) (funext fun a => ?_)).trans (first_eq b p hA ⟨2816 + f.val, by omega⟩)
  match a with
  | ⟨0, _⟩ => rfl
  | ⟨1, _⟩ => rfl
  | ⟨2, _⟩ => rfl

/-- The padded gate, `n` tokens before the one two places on. -/
theorem padded_eq (n : ℕ) (hn : n ≤ 2) (f : Fin 2816) :
    val_main_v52 (F := Ideal) A.x A.mix A.q A.k A.v A.wup A.wout A.g (ix3 b ⟨2 - n + p.val, by omega⟩ f) = A.prev 1 b p n f := by
  unfold val_main_v52 Arrays.prev
  by_cases hp : n ≤ p.val
  · rw [dif_pos hp]
    refine (pad_apply_of_inside _ _ _ _ _ _ _ _ (ix3 b ⟨p.val - n, by omega⟩ f) fun a => ?_).trans (raw_eq b ⟨p.val - n, by omega⟩ hA f)
    match a with
    | ⟨0, _⟩ => show b.val = 0 + b.val * 1; omega
    | ⟨1, _⟩ => show 2 - n + p.val = 2 + (p.val - n) * 1; omega
    | ⟨2, _⟩ => show f.val = 0 + f.val * 1; omega
  · rw [dif_neg hp]
    refine (pad_apply_of_not_inside _ _ _ _ _ _ _ _ 1 ?_).trans ?_
    · show ¬(2 ≤ 2 - n + p.val ∧ _)
      exact fun hc => by omega
    · show (((0#32).toInt : ℝ) : EReal) = 0
      simp

theorem conv_eq (f : Fin 2816) : val_main_v75 (F := Ideal) A.x A.mix A.q A.k A.v A.wup A.wout A.g A.taps A.bias (ix3 b p f) = A.conv 1 b p f := by
  have h0 : val_main_v53 (F := Ideal) A.x A.mix A.q A.k A.v A.wup A.wout A.g (ix3 b p f) = A.prev 1 b p 2 f := by
    rw [val_main_v53_apply]
    refine (congrArg (val_main_v52 (F := Ideal) A.x A.mix A.q A.k A.v A.wup A.wout A.g) (funext fun a => Fin.ext ?_)).trans (padded_eq b p hA 2 (by omega) f)
    match a with
    | ⟨0, _⟩ => rfl
    | ⟨1, _⟩ => show p.val = 2 - 2 + p.val; omega
    | ⟨2, _⟩ => rfl
  have h1 : val_main_v59 (F := Ideal) A.x A.mix A.q A.k A.v A.wup A.wout A.g (ix3 b p f) = A.prev 1 b p 1 f := by
    rw [val_main_v59_apply]
    refine (congrArg (val_main_v52 (F := Ideal) A.x A.mix A.q A.k A.v A.wup A.wout A.g) (funext fun a => Fin.ext ?_)).trans (padded_eq b p hA 1 (by omega) f)
    match a with
    | ⟨0, _⟩ => rfl
    | ⟨1, _⟩ => rfl
    | ⟨2, _⟩ => rfl
  have h2 : val_main_v66 (F := Ideal) A.x A.mix A.q A.k A.v A.wup A.wout A.g (ix3 b p f) = A.raw 1 b p f := by
    rw [val_main_v66_apply]
    refine ((congrArg (val_main_v52 (F := Ideal) A.x A.mix A.q A.k A.v A.wup A.wout A.g) (funext fun a => Fin.ext ?_)).trans (padded_eq b p hA 0 (by omega) f)).trans ?_
    · match a with
      | ⟨0, _⟩ => rfl
      | ⟨1, _⟩ => rfl
      | ⟨2, _⟩ => rfl
    · unfold Arrays.prev
      rw [dif_pos (Nat.zero_le _)]
      rfl
  have h3 : val_main_v74 (F := Ideal) A.bias (ix3 b p f) = A.bias (ix2 0 f) := by
    rw [val_main_v74_apply, val_main_v73_apply, val_main_v51_apply]
    refine congrArg A.bias (funext fun a => Fin.ext ?_)
    match a with
    | ⟨0, _⟩ => rfl
    | ⟨1, _⟩ => show f.val % 2816 = f.val; omega
  rw [val_main_v75_apply, val_main_v72_apply, val_main_v65_apply, val_main_v58_apply, val_main_v64_apply, val_main_v71_apply, h0, h1, h2, h3, tap0, tap1, tap2]
  unfold Arrays.conv
  show A.prev 1 b p 2 f * A.taps (ix2 0 f) + A.prev 1 b p 1 f * A.taps (ix2 1 f) + A.raw 1 b p f * A.taps (ix2 2 f) + A.bias (ix2 0 f) = _
  rw [mul_comm (A.prev 1 b p 2 f), mul_comm (A.prev 1 b p 1 f), mul_comm (A.raw 1 b p f), add_comm (A.taps (ix2 0 f) * _), add_assoc (A.taps (ix2 1 f) * _),
    add_comm (A.taps (ix2 1 f) * _), add_comm (A.taps (ix2 0 f) * _), add_assoc (A.taps (ix2 2 f) * _), add_assoc (A.taps (ix2 2 f) * _), add_comm (A.taps (ix2 0 f) * _), ← add_assoc, ← add_assoc]

theorem gated_eq (f : Fin 2816) : val_main_v77 (F := Ideal) A.x A.mix A.q A.k A.v A.wup A.wout A.g A.taps A.bias (ix3 b p f) = A.gated 1 b p f := by
  have h1 : val_main_v76 (F := Ideal) A.x A.mix A.q A.k A.v A.wup A.wout A.g A.taps A.bias (ix3 b p f) = swish (A.conv 1 b p f) := by
    rw [swish_eq (hA.conv 1 b p f), val_main_v76_apply, val_main_call1_v5_apply, val_main_call1_v3_apply, val_main_call1_v1_apply, val_main_call1_v0_apply,
      val_main_call1_v4_apply, val_main_call1_v2_apply, conv_eq b p hA]
    show A.conv 1 b p f * Ideal.div (Ideal.ofBits .f32 0x3F800000#32) (Ideal.ofBits .f32 0x3F800000#32 + Ideal.exp (-(A.conv 1 b p f))) = _
    rw [Ideal.ofBits_one_f32]
  have h2 : val_main_v49 (F := Ideal) A.x A.mix A.q A.k A.v A.wup A.wout A.g (ix3 b p f) = A.first 1 b p ⟨f.val, by omega⟩ := by
    rw [val_main_v49_apply]
    refine (congrArg (val_main_v48 (F := Ideal) A.x A.mix A.q A.k A.v A.wup A.wout A.g) (funext fun a => ?_)).trans (first_eq b p hA ⟨f.val, by omega⟩)
    match a with
    | ⟨0, _⟩ => rfl
    | ⟨1, _⟩ => rfl
    | ⟨2, _⟩ => rfl
  rw [val_main_v77_apply, h1, h2]
  rfl

theorem out_eq (d : Fin 1024) : val_main_v80 (F := Ideal) A.x A.mix A.q A.k A.v A.wup A.wdown A.wout A.g A.taps A.bias (ix3 b p d) = A.out 1 b p d := by
  rw [val_main_v80_apply, mid_eq b p hA, val_main_v79_apply]
  unfold Arrays.out
  refine congrArg (fun y : EReal => A.mid 1 b p d + y) (Finset.sum_congr rfl fun f _ => congrArg₂ (fun x y : EReal => x * y)
    ((congrArg (val_main_v77 (F := Ideal) A.x A.mix A.q A.k A.v A.wup A.wout A.g A.taps A.bias) (funext fun a => ?_)).trans (gated_eq b p hA f))
    ((congrArg (val_main_v78 (F := Ideal) A.wdown) (funext fun a => ?_)).trans (wdown_eq A.wdown f d)))
  · match a with
    | ⟨0, _⟩ => rfl
    | ⟨1, _⟩ => rfl
    | ⟨2, _⟩ => rfl
  · match a with
    | ⟨0, _⟩ => rfl
    | ⟨1, _⟩ => rfl

/-- The reference's result at one entry. -/
theorem final_eq (d : Fin 1024) :
    val_main_v94 (F := Ideal) A.x A.mix A.q A.k A.v A.wup A.wdown A.wout A.g A.taps A.bias A.gl (ix3 b p d) = A.final 1 b p d := by
  have h1 : val_main_v90 (F := Ideal) A.x A.mix A.q A.k A.v A.wup A.wdown A.wout A.g A.taps A.bias (ix3 b p d) = scale (A.out 1 b p) := by
    have h0 : (val_main_cst_5 (F := Ideal)) (Shape.Idx.first Gen.h_S_) = (0 : EReal) := Ideal.ofBits_zero .f32
    rw [val_main_v90_apply, val_main_v89_apply, val_main_v88_apply, val_main_v86_apply, val_main_v84_apply, val_main_v83_apply, h0, zero_add]
    unfold scale
    refine congrArg (fun y : EReal => Ideal.rsqrt (Ideal.div y (Ideal.ofBits .f32 0x44800000#32) + Ideal.ofBits .f32 0x358637BD#32)) (Finset.sum_congr rfl fun e _ => ?_)
    refine (congrArg (val_main_v82 (F := Ideal) A.x A.mix A.q A.k A.v A.wup A.wdown A.wout A.g A.taps A.bias) (funext fun a => ?_ : _ = ix3 b p e)).trans ?_
    · match a with
      | ⟨0, _⟩ => rfl
      | ⟨1, _⟩ => rfl
      | ⟨2, _⟩ => rfl
    · rw [val_main_v82_apply, out_eq b p hA]; rfl
  have h2 : val_main_v93 (F := Ideal) A.gl (ix3 b p d) = A.gl (ix2 0 d) := by
    rw [val_main_v93_apply, val_main_v92_apply, val_main_v81_apply]
    refine congrArg A.gl (funext fun a => Fin.ext ?_)
    match a with
    | ⟨0, _⟩ => rfl
    | ⟨1, _⟩ => show d.val % 1024 = d.val; omega
  rw [val_main_v94_apply, val_main_v91_apply, h1, h2, out_eq b p hA]
  rfl

end Cert.Reference2Ideal.Read

end
-- ==== Proof.MixerMeet.lean ====
/-
  The second precondition read at an index: the arrays the gate is computed from are finite.
-/
module

public import proofs.«01_k».proof.Proof.MixerReal

@[expose] public section

set_option maxRecDepth 16384

noncomputable section

namespace Cert.Proof

open Idealize.ShloMosaic Cert.Kernel2Ideal.Tile

/-- The shape relations of the second precondition's own operations. -/
instance facts_pre2 : Cert.Pre_finite_inputs.Facts where
  bcast_S_S8x4096x1024 := by decide
  bcast_S_S8x16x768x256 := by decide
  bcast_S_S8x4096x256 := by decide
  bcast_S_S2x8x256x1024 := by decide
  bcast_S_S2x8x1024x256 := by decide
  bcast_S_S2x1024x5632 := by decide
  bcast_S_S1024x1024 := by decide
  bcast_S_S1x1024 := by decide
  bcast_S_S3x2816 := by decide
  bcast_S_S1x2816 := by decide

theorem finite_f32 {x : EReal} (h : BitVec.ofBool (decide (max x (-x) < Ideal.ofBits FTy.f32 0x7F800000#32)) = 1#1) : IsReal x := by
  rw [inf_f32] at h
  exact real_of_abs h

theorem finite_bf16 {x : EReal} (h : BitVec.ofBool (decide (max x (-x) < Ideal.ofBits FTy.bf16 0x7F80#16)) = 1#1) : IsReal x := by
  rw [inf_bf16] at h
  exact real_of_abs h

theorem finite_of_pre (A : Arrays)
    (h0 : (Cert.Pre_finite_inputs.fn (F := Ideal) A.x A.mix A.q A.k A.v A.wup A.wdown A.wout A.g A.taps A.bias A.gl).1 = fun _ => 1#1)
    (h1 : (Cert.Pre_finite_inputs.fn (F := Ideal) A.x A.mix A.q A.k A.v A.wup A.wdown A.wout A.g A.taps A.bias A.gl).2.1 = fun _ => 1#1)
    (h2 : (Cert.Pre_finite_inputs.fn (F := Ideal) A.x A.mix A.q A.k A.v A.wup A.wdown A.wout A.g A.taps A.bias A.gl).2.2.1 = fun _ => 1#1)
    (h3 : (Cert.Pre_finite_inputs.fn (F := Ideal) A.x A.mix A.q A.k A.v A.wup A.wdown A.wout A.g A.taps A.bias A.gl).2.2.2.1 = fun _ => 1#1)
    (h4 : (Cert.Pre_finite_inputs.fn (F := Ideal) A.x A.mix A.q A.k A.v A.wup A.wdown A.wout A.g A.taps A.bias A.gl).2.2.2.2.1 = fun _ => 1#1)
    (h5 : (Cert.Pre_finite_inputs.fn (F := Ideal) A.x A.mix A.q A.k A.v A.wup A.wdown A.wout A.g A.taps A.bias A.gl).2.2.2.2.2.1 = fun _ => 1#1)
    (h6 : (Cert.Pre_finite_inputs.fn (F := Ideal) A.x A.mix A.q A.k A.v A.wup A.wdown A.wout A.g A.taps A.bias A.gl).2.2.2.2.2.2.1 = fun _ => 1#1)
    (h7 : (Cert.Pre_finite_inputs.fn (F := Ideal) A.x A.mix A.q A.k A.v A.wup A.wdown A.wout A.g A.taps A.bias A.gl).2.2.2.2.2.2.2.1 = fun _ => 1#1)
    (h8 : (Cert.Pre_finite_inputs.fn (F := Ideal) A.x A.mix A.q A.k A.v A.wup A.wdown A.wout A.g A.taps A.bias A.gl).2.2.2.2.2.2.2.2.1 = fun _ => 1#1)
    (h9 : (Cert.Pre_finite_inputs.fn (F := Ideal) A.x A.mix A.q A.k A.v A.wup A.wdown A.wout A.g A.taps A.bias A.gl).2.2.2.2.2.2.2.2.2 = fun _ => 1#1) : Finite A where
  x i := finite_f32 (congrFun h0 i)
  mix i := finite_bf16 (congrFun h1 i)
  q i := finite_bf16 (congrFun h2 i)
  k i := finite_bf16 (congrFun h3 i)
  v i := finite_bf16 (congrFun h4 i)
  wup i := finite_bf16 (congrFun h5 i)
  wout i := finite_bf16 (congrFun h6 i)
  g i := finite_f32 (congrFun h7 i)
  taps i := finite_f32 (congrFun h8 i)
  bias i := finite_f32 (congrFun h9 i)

end Cert.Proof

end
-- ==== Proof.FirstRef.lean ====
/-
  The plain reference of the call after the first mixer. Up to the stream after the gated layer and its norm it is the reference
  of the call after the last mixer, given the first layer's weights in place of the last's: node by node the same function. From
  there on it is read at an index.
-/
module

public import proofs.«01_k».proof.Proof.Gen.Reference3Ideal.Read
public import proofs.«01_k».proof.Proof.MixerRef
public import proofs.«01_k».proof.Proof.FirstVocab

@[expose] public section

set_option maxRecDepth 16384

noncomputable section

namespace Cert.Reference3Ideal.Read

open Cert.Reference3Ideal Cert.Reference3Ideal.Facts Idealize.ShloMosaic
open Cert.Kernel2Ideal.Tile (Arrays Finite)
open Cert.Kernel3Ideal.Tile (Next nextRow keyAt valueAt queryAt memQueryAt)

/-- The arrays with the first layer's weights in place of the last's. -/
def alone (A : Arrays) : Arrays :=
  { A with
    k := fun i => A.k (ix4 0 (i 1) (i 2) (i 3))
    v := fun i => A.v (ix4 0 (i 1) (i 2) (i 3))
    wup := fun i => A.wup (ix3 0 (i 1) (i 2))
    wdown := fun i => A.wdown (ix3 0 (i 1) (i 2)) }

variable (A : Arrays)

theorem alone_finite (hA : Finite A) : Finite (alone A) :=
  { hA with
    k := fun i => hA.k _
    v := fun i => hA.v _
    wup := fun i => hA.wup _ }

theorem alone_out (b : Fin 8) (p : Fin 4096) (d : Fin 1024) : (alone A).out 1 b p d = A.out 0 b p d := rfl

theorem same12 : val_main_v12 (F := Ideal) A.k = Cert.Reference2Ideal.Read.val_main_v12 (F := Ideal) (alone A).k := by
  funext i
  obtain ⟨b, e, c, rfl⟩ : ∃ b e c, i = ix3 b e c := ⟨i 0, i 1, i 2, eq_ix3 i⟩
  refine Eq.trans ?_ (Cert.Reference2Ideal.Read.keys_eq (alone A).k b e c).symm
  rw [val_main_v12_apply, val_main_v1_apply, val_main_v0_apply]
  refine congrArg A.k (funext fun a => Fin.ext ?_)
  match a with
  | ⟨0, _⟩ => rfl
  | ⟨1, _⟩ => show ((b.val * 256 + e.val) * 1024 + c.val) / 262144 % 8 = b.val; omega
  | ⟨2, _⟩ => show ((b.val * 256 + e.val) * 1024 + c.val) / 1024 % 256 = e.val; omega
  | ⟨3, _⟩ => show ((b.val * 256 + e.val) * 1024 + c.val) % 1024 = c.val; omega

theorem same27 : val_main_v27 (F := Ideal) A.v = Cert.Reference2Ideal.Read.val_main_v27 (F := Ideal) (alone A).v := by
  funext i
  obtain ⟨b, c, e, rfl⟩ : ∃ b c e, i = ix3 b c e := ⟨i 0, i 1, i 2, eq_ix3 i⟩
  refine Eq.trans ?_ (Cert.Reference2Ideal.Read.values_eq (alone A).v b c e).symm
  rw [val_main_v27_apply, val_main_v3_apply, val_main_v2_apply]
  refine congrArg A.v (funext fun a => Fin.ext ?_)
  match a with
  | ⟨0, _⟩ => rfl
  | ⟨1, _⟩ => show ((b.val * 1024 + c.val) * 256 + e.val) / 262144 % 8 = b.val; omega
  | ⟨2, _⟩ => show ((b.val * 1024 + c.val) * 256 + e.val) / 256 % 1024 = c.val; omega
  | ⟨3, _⟩ => show ((b.val * 1024 + c.val) * 256 + e.val) % 256 = e.val; omega

theorem same47 : val_main_v47 (F := Ideal) A.wup = Cert.Reference2Ideal.Read.val_main_v47 (F := Ideal) (alone A).wup := by
  funext i
  obtain ⟨d, n, rfl⟩ : ∃ d n, i = ix2 d n := ⟨i 0, i 1, eq_ix2 i⟩
  refine Eq.trans ?_ (Cert.Reference2Ideal.Read.wup_eq (alone A).wup d n).symm
  rw [val_main_v47_apply, val_main_v5_apply, val_main_v4_apply]
  refine congrArg A.wup (funext fun a => Fin.ext ?_)
  match a with
  | ⟨0, _⟩ => rfl
  | ⟨1, _⟩ => show (d.val * 5632 + n.val) / 5632 % 1024 = d.val; omega
  | ⟨2, _⟩ => show (d.val * 5632 + n.val) % 5632 = n.val; omega

theorem same78 : val_main_v78 (F := Ideal) A.wdown = Cert.Reference2Ideal.Read.val_main_v78 (F := Ideal) (alone A).wdown := by
  funext i
  obtain ⟨f, d, rfl⟩ : ∃ f d, i = ix2 f d := ⟨i 0, i 1, eq_ix2 i⟩
  refine Eq.trans ?_ (Cert.Reference2Ideal.Read.wdown_eq (alone A).wdown f d).symm
  rw [val_main_v78_apply, val_main_v7_apply, val_main_v6_apply]
  refine congrArg A.wdown (funext fun a => Fin.ext ?_)
  match a with
  | ⟨0, _⟩ => rfl
  | ⟨1, _⟩ => show (f.val * 1024 + d.val) / 1024 % 2816 = f.val; omega
  | ⟨2, _⟩ => show (f.val * 1024 + d.val) % 1024 = d.val; omega

theorem same14 : val_main_v14 (F := Ideal) A.q A.k = Cert.Reference2Ideal.Read.val_main_v14 (F := Ideal) (alone A).q (alone A).k := by
  unfold val_main_v14 val_main_v13
  rw [same12]
  rfl

theorem same21 : val_main_v21 (F := Ideal) A.q A.k = Cert.Reference2Ideal.Read.val_main_v21 (F := Ideal) (alone A).q (alone A).k := by
  unfold val_main_v21 val_main_v20 val_main_v19 val_main_v18 val_main_v17 val_main_v15
  rw [same14]
  rfl

theorem same28 : val_main_v28 (F := Ideal) A.q A.k A.v
    = Cert.Reference2Ideal.Read.val_main_v28 (F := Ideal) (alone A).q (alone A).k (alone A).v := by
  unfold val_main_v28 val_main_v26 val_main_v25 val_main_v24 val_main_v23 val_main_v22
  rw [same21, same27]
  rfl

theorem same32 : val_main_v32 (F := Ideal) A.x A.mix A.q A.k A.v A.wout
    = Cert.Reference2Ideal.Read.val_main_v32 (F := Ideal) (alone A).x (alone A).mix (alone A).q (alone A).k (alone A).v (alone A).wout := by
  unfold val_main_v32 val_main_v31 val_main_v29
  rw [same28]
  rfl

theorem same48 : val_main_v48 (F := Ideal) A.x A.mix A.q A.k A.v A.wup A.wout A.g
    = Cert.Reference2Ideal.Read.val_main_v48 (F := Ideal) (alone A).x (alone A).mix (alone A).q (alone A).k (alone A).v (alone A).wup (alone A).wout (alone A).g := by
  unfold val_main_v48 val_main_v46 val_main_v43 val_main_v42 val_main_v41 val_main_v40 val_main_v38 val_main_v36 val_main_v35 val_main_v34
  rw [same32, same47]
  rfl

theorem same75 : val_main_v75 (F := Ideal) A.x A.mix A.q A.k A.v A.wup A.wout A.g A.taps A.bias
    = Cert.Reference2Ideal.Read.val_main_v75 (F := Ideal) (alone A).x (alone A).mix (alone A).q (alone A).k (alone A).v (alone A).wup (alone A).wout (alone A).g (alone A).taps (alone A).bias := by
  unfold val_main_v75 val_main_v72 val_main_v71 val_main_v66 val_main_v65 val_main_v64 val_main_v59 val_main_v58 val_main_v53 val_main_v52 val_main_v50
  rw [same48]
  rfl

theorem same77 : val_main_v77 (F := Ideal) A.x A.mix A.q A.k A.v A.wup A.wout A.g A.taps A.bias
    = Cert.Reference2Ideal.Read.val_main_v77 (F := Ideal) (alone A).x (alone A).mix (alone A).q (alone A).k (alone A).v (alone A).wup (alone A).wout (alone A).g (alone A).taps (alone A).bias := by
  unfold val_main_v77 val_main_v76 val_main_v49 val_main_call1_v5 val_main_call1_v3 val_main_call1_v1 val_main_call1_v0
  rw [same75, same48]
  rfl

theorem same80 : val_main_v80 (F := Ideal) A.x A.mix A.q A.k A.v A.wup A.wdown A.wout A.g A.taps A.bias
    = Cert.Reference2Ideal.Read.val_main_v80 (F := Ideal) (alone A).x (alone A).mix (alone A).q (alone A).k (alone A).v (alone A).wup (alone A).wdown (alone A).wout (alone A).g (alone A).taps (alone A).bias := by
  unfold val_main_v80 val_main_v79
  rw [same32, same77, same78]
  rfl

theorem same94 : val_main_v94 (F := Ideal) A.x A.mix A.q A.k A.v A.wup A.wdown A.wout A.g A.taps A.bias A.gl
    = Cert.Reference2Ideal.Read.val_main_v94 (F := Ideal) (alone A).x (alone A).mix (alone A).q (alone A).k (alone A).v (alone A).wup (alone A).wdown (alone A).wout (alone A).g (alone A).taps (alone A).bias (alone A).gl := by
  unfold val_main_v94 val_main_v91 val_main_v90 val_main_v89 val_main_v88 val_main_v86 val_main_v84 val_main_v83 val_main_v82
  rw [same80]
  rfl

theorem same108 (g : S1x1024.Idx → EReal) : val_main_v108 (F := Ideal) A.x A.mix A.q A.k A.v A.wup A.wdown A.wout A.g A.taps A.bias g
    = val_main_v94 (F := Ideal) A.x A.mix A.q A.k A.v A.wup A.wdown A.wout A.g A.taps A.bias g := rfl

variable {A} (hA : Finite A) (N : Next Ideal) (b : Fin 8) (p : Fin 4096)
include hA

theorem out_eq (d : Fin 1024) :
    val_main_v80 (F := Ideal) A.x A.mix A.q A.k A.v A.wup A.wdown A.wout A.g A.taps A.bias (ix3 b p d) = A.out 0 b p d := by
  rw [same80]
  exact (Cert.Reference2Ideal.Read.out_eq b p (alone_finite A hA) d).trans (alone_out A b p d)

theorem final_eq (d : Fin 1024) :
    val_main_v94 (F := Ideal) A.x A.mix A.q A.k A.v A.wup A.wdown A.wout A.g A.taps A.bias A.gl (ix3 b p d) = A.final 0 b p d := by
  rw [same94]
  exact Cert.Reference2Ideal.Read.final_eq b p (alone_finite A hA) d

theorem next_eq (d : Fin 1024) :
    val_main_v108 (F := Ideal) A.x A.mix A.q A.k A.v A.wup A.wdown A.wout A.g A.taps A.bias N.gn (ix3 b p d) = nextRow A N b p d := by
  rw [same108]
  exact final_eq (A := { A with gl := N.gn }) { hA with } b p d

theorem key_eq (f : Fin 768) :
    val_main_v111 (F := Ideal) A.x A.mix A.q A.k A.v A.wup A.wdown A.wout A.g A.taps A.bias A.gl N.wk (ix3 b p f) = keyAt A N b p f := by
  rw [val_main_v111_apply]
  show val_main_v110 (F := Ideal) A.x A.mix A.q A.k A.v A.wup A.wdown A.wout A.g A.taps A.bias A.gl N.wk (ix3 b p f) = _
  rw [val_main_v110_apply]
  unfold keyAt
  refine Finset.sum_congr rfl fun d _ => congrArg₂ (fun x y : EReal => x * y)
    ((congrArg (val_main_v94 (F := Ideal) A.x A.mix A.q A.k A.v A.wup A.wdown A.wout A.g A.taps A.bias A.gl) (funext fun a => ?_)).trans (final_eq hA b p d))
    (congrArg N.wk (funext fun a => ?_))
  · match a with
    | ⟨0, _⟩ => rfl
    | ⟨1, _⟩ => rfl
    | ⟨2, _⟩ => rfl
  · match a with
    | ⟨0, _⟩ => rfl
    | ⟨1, _⟩ => rfl

theorem value_eq (f : Fin 768) :
    val_main_v116 (F := Ideal) A.x A.mix A.q A.k A.v A.wup A.wdown A.wout A.g A.taps A.bias A.gl N.wvt (ix3 b f p) = valueAt A N b p f := by
  rw [val_main_v116_apply, val_main_v115_apply]
  show val_main_v114 (F := Ideal) A.x A.mix A.q A.k A.v A.wup A.wdown A.wout A.g A.taps A.bias A.gl N.wvt (idx_main_v116 (ix3 b f p)) = _
  rw [val_main_v114_apply]
  unfold valueAt
  refine Finset.sum_congr rfl fun d _ => ?_
  rw [mul_comm (N.wvt _), val_main_v113_apply]
  refine congrArg₂ (fun x y : EReal => x * y)
    ((congrArg (val_main_v94 (F := Ideal) A.x A.mix A.q A.k A.v A.wup A.wdown A.wout A.g A.taps A.bias A.gl) (funext fun a => ?_)).trans (final_eq hA b p d))
    (congrArg N.wvt (funext fun a => ?_))
  · match a with
    | ⟨0, _⟩ => rfl
    | ⟨1, _⟩ => rfl
    | ⟨2, _⟩ => rfl
  · match a with
    | ⟨0, _⟩ => rfl
    | ⟨1, _⟩ => rfl

theorem query_row (f : Fin 768) :
    val_main_v120 (F := Ideal) A.x A.mix A.q A.k A.v A.wup A.wdown A.wout A.g A.taps A.bias N.gn N.wqt (ix3 b p f) = queryAt A N b p f := by
  rw [val_main_v120_apply]
  show val_main_v119 (F := Ideal) A.x A.mix A.q A.k A.v A.wup A.wdown A.wout A.g A.taps A.bias N.gn N.wqt (ix3 b p f) = _
  rw [val_main_v119_apply]
  unfold queryAt
  refine Finset.sum_congr rfl fun d _ => ?_
  rw [mul_comm (N.wqt _), val_main_v118_apply]
  refine congrArg₂ (fun x y : EReal => x * y)
    ((congrArg (val_main_v108 (F := Ideal) A.x A.mix A.q A.k A.v A.wup A.wdown A.wout A.g A.taps A.bias N.gn) (funext fun a => ?_)).trans (next_eq hA N b p d))
    (congrArg N.wqt (funext fun a => ?_))
  · match a with
    | ⟨0, _⟩ => rfl
    | ⟨1, _⟩ => rfl
    | ⟨2, _⟩ => rfl
  · match a with
    | ⟨0, _⟩ => rfl
    | ⟨1, _⟩ => rfl

theorem query_eq (j : Fin 16) (f : Fin 768) (l : Fin 256) :
    val_main_v122 (F := Ideal) A.x A.mix A.q A.k A.v A.wup A.wdown A.wout A.g A.taps A.bias N.gn N.wqt (ix4 b j f l)
      = queryAt A N b ⟨256 * j.val + l.val, by omega⟩ f := by
  rw [val_main_v122_apply, val_main_v121_apply]
  refine (congrArg (val_main_v120 (F := Ideal) A.x A.mix A.q A.k A.v A.wup A.wdown A.wout A.g A.taps A.bias N.gn N.wqt) (funext fun a => Fin.ext ?_)).trans
    (query_row hA N b ⟨256 * j.val + l.val, by omega⟩ f)
  match a with
  | ⟨0, _⟩ => show (((b.val * 16 + j.val) * 256 + l.val) * 768 + f.val) / 3145728 = b.val; omega
  | ⟨1, _⟩ => show (((b.val * 16 + j.val) * 256 + l.val) * 768 + f.val) / 768 % 4096 = 256 * j.val + l.val; omega
  | ⟨2, _⟩ => show (((b.val * 16 + j.val) * 256 + l.val) * 768 + f.val) % 768 = f.val; omega

theorem memQuery_eq (n : Fin 256) :
    val_main_v125 (F := Ideal) A.x A.mix A.q A.k A.v A.wup A.wdown A.wout A.g A.taps A.bias N.gn N.wqmem (ix3 b p n) = memQueryAt A N b p n := by
  rw [val_main_v125_apply]
  show val_main_v124 (F := Ideal) A.x A.mix A.q A.k A.v A.wup A.wdown A.wout A.g A.taps A.bias N.gn N.wqmem (ix3 b p n) = _
  rw [val_main_v124_apply]
  unfold memQueryAt
  refine Finset.sum_congr rfl fun d _ => congrArg₂ (fun x y : EReal => x * y)
    ((congrArg (val_main_v108 (F := Ideal) A.x A.mix A.q A.k A.v A.wup A.wdown A.wout A.g A.taps A.bias N.gn) (funext fun a => ?_)).trans (next_eq hA N b p d))
    (congrArg N.wqmem (funext fun a => ?_))
  · match a with
    | ⟨0, _⟩ => rfl
    | ⟨1, _⟩ => rfl
    | ⟨2, _⟩ => rfl
  · match a with
    | ⟨0, _⟩ => rfl
    | ⟨1, _⟩ => rfl

end Cert.Reference3Ideal.Read

end
-- ==== Proof.FirstMeet.lean ====
/-
  The third precondition read at an index: it asks of the call after the first mixer what the second asks of the last call.
-/
module

public import proofs.«01_k».proof.Proof.MixerMeet
public import proofs.«01_k».proof.Proof.FirstVocab

@[expose] public section

set_option maxRecDepth 16384

noncomputable section

namespace Cert.Proof

open Idealize.ShloMosaic Cert.Kernel2Ideal.Tile Cert.Kernel3Ideal.Tile

/-- The shape relations of the third precondition's own operations. -/
instance facts_pre3 : Cert.Pre_finite_inputs_first.Facts where
  bcast_S_S8x4096x1024 := by decide
  bcast_S_S8x16x768x256 := by decide
  bcast_S_S8x4096x256 := by decide
  bcast_S_S2x8x256x1024 := by decide
  bcast_S_S2x8x1024x256 := by decide
  bcast_S_S2x1024x5632 := by decide
  bcast_S_S1024x1024 := by decide
  bcast_S_S1x1024 := by decide
  bcast_S_S3x2816 := by decide
  bcast_S_S1x2816 := by decide

theorem finite_of_pre3 (A : Arrays) (N : Next Ideal)
    (h0 : (Cert.Pre_finite_inputs_first.fn (F := Ideal) A.x A.mix A.q A.k A.v A.wup A.wdown A.wout A.g A.taps A.bias A.gl N.wk N.wvt N.gn N.wqt N.wqmem).1 = fun _ => 1#1)
    (h1 : (Cert.Pre_finite_inputs_first.fn (F := Ideal) A.x A.mix A.q A.k A.v A.wup A.wdown A.wout A.g A.taps A.bias A.gl N.wk N.wvt N.gn N.wqt N.wqmem).2.1 = fun _ => 1#1)
    (h2 : (Cert.Pre_finite_inputs_first.fn (F := Ideal) A.x A.mix A.q A.k A.v A.wup A.wdown A.wout A.g A.taps A.bias A.gl N.wk N.wvt N.gn N.wqt N.wqmem).2.2.1 = fun _ => 1#1)
    (h3 : (Cert.Pre_finite_inputs_first.fn (F := Ideal) A.x A.mix A.q A.k A.v A.wup A.wdown A.wout A.g A.taps A.bias A.gl N.wk N.wvt N.gn N.wqt N.wqmem).2.2.2.1 = fun _ => 1#1)
    (h4 : (Cert.Pre_finite_inputs_first.fn (F := Ideal) A.x A.mix A.q A.k A.v A.wup A.wdown A.wout A.g A.taps A.bias A.gl N.wk N.wvt N.gn N.wqt N.wqmem).2.2.2.2.1 = fun _ => 1#1)
    (h5 : (Cert.Pre_finite_inputs_first.fn (F := Ideal) A.x A.mix A.q A.k A.v A.wup A.wdown A.wout A.g A.taps A.bias A.gl N.wk N.wvt N.gn N.wqt N.wqmem).2.2.2.2.2.1 = fun _ => 1#1)
    (h6 : (Cert.Pre_finite_inputs_first.fn (F := Ideal) A.x A.mix A.q A.k A.v A.wup A.wdown A.wout A.g A.taps A.bias A.gl N.wk N.wvt N.gn N.wqt N.wqmem).2.2.2.2.2.2.1 = fun _ => 1#1)
    (h7 : (Cert.Pre_finite_inputs_first.fn (F := Ideal) A.x A.mix A.q A.k A.v A.wup A.wdown A.wout A.g A.taps A.bias A.gl N.wk N.wvt N.gn N.wqt N.wqmem).2.2.2.2.2.2.2.1 = fun _ => 1#1)
    (h8 : (Cert.Pre_finite_inputs_first.fn (F := Ideal) A.x A.mix A.q A.k A.v A.wup A.wdown A.wout A.g A.taps A.bias A.gl N.wk N.wvt N.gn N.wqt N.wqmem).2.2.2.2.2.2.2.2.1 = fun _ => 1#1)
    (h9 : (Cert.Pre_finite_inputs_first.fn (F := Ideal) A.x A.mix A.q A.k A.v A.wup A.wdown A.wout A.g A.taps A.bias A.gl N.wk N.wvt N.gn N.wqt N.wqmem).2.2.2.2.2.2.2.2.2 = fun _ => 1#1) : Finite A :=
  finite_of_pre A h0 h1 h2 h3 h4 h5 h6 h7 h8 h9

end Cert.Proof

end
-- ==== Proof.lean ====
/-
  The claims: the kernel, its idealized form and the idealized reference run and leave their arguments as they were; the
  idealized kernel differs from the printed one only by the named mask; and under the precondition the idealized kernel and
  the idealized reference end with the same attention. The same for the kernel after the last mixer, which ends with the
  layer's result, and for the one after the first mixer, which ends with the stream and what the next mixers read; there the
  idealized kernels are the printed ones.
-/
module

public import proofs.«01_k».proof.Defs
public import proofs.«01_k».proof.Proof.KernelFrame
public import proofs.«01_k».proof.Proof.Result
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.MemoryRef
public import proofs.«01_k».proof.Proof.Meet
public import proofs.«01_k».proof.Proof.MixerResult
public import proofs.«01_k».proof.Proof.MixerRef
public import proofs.«01_k».proof.Proof.MixerMeet
public import proofs.«01_k».proof.Proof.FirstResult
public import proofs.«01_k».proof.Proof.FirstRef
public import proofs.«01_k».proof.Proof.FirstMeet
public import proofs.«01_k».proof.Proof.Gen.ReferenceIdeal
public import proofs.«01_k».proof.Proof.Gen.ReferenceIdeal.Run
public import proofs.«01_k».proof.Proof.Gen.ReferenceIdeal.Read

@[expose] public section

noncomputable section

namespace Cert.Proof

open Idealize.ShloMosaic Idealize.SL.Sem

/-- The reference runs and leaves its arguments as they were; it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Under the precondition the kernel and the reference end with the same attention. -/
theorem algebraic : Cert.algebraic_KernelIdeal_ReferenceIdeal_pre_finite_scores (hPre_finite_scores := facts_pre) := by
  intro m ρ m' ρ' hpre hargs
  refine ⟨_, Cert.KernelIdeal.Value.run_blocks m ρ, (θ_run Cert.ReferenceIdeal.defs _ _).mono (fun r h c => ⟨?_, (h c).2⟩)
    (Cert.ReferenceIdeal.Value.run (F := Ideal) m' ρ')⟩
  obtain ⟨a0, a1, a2, a3⟩ := hargs c
  obtain ⟨p0, p1, p2, p3⟩ := hpre c
  refine (h c).1.trans ((Cert.ReferenceIdeal.Read.val_main_v63_eq m' c).trans ?_)
  rw [a0, a1, a2, a3]
  funext i
  rw [eq_ix4 i]
  exact (reference_eq _ _ _ _ (fit_of_pre _ _ _ _ p0 p1 p2 p3) _ _ _ _).trans
    (Cert.KernelIdeal.Pair.array_eq m c _ _ _ _).symm

/-- The second reference runs and leaves its arguments as they were; it declares no semaphore. -/
theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- Under the second precondition the kernel after the mixers and its reference end with the same stream. -/
theorem algebraic2 : Cert.algebraic_Kernel2Ideal_Reference2Ideal_pre_finite_inputs (hPre_finite_inputs := facts_pre2) := by
  intro m ρ m' ρ' hpre hargs
  refine ⟨_, Cert.Kernel2Ideal.Value.run_blocks m ρ, (θ_run Cert.Reference2Ideal.defs _ _).mono (fun r h c => ⟨?_, (h c).2⟩)
    (Cert.Reference2Ideal.Value.run (F := Ideal) m' ρ')⟩
  obtain ⟨a0, a1, a2, a3, a4, a5, a6, a7, a8, a9, a10, a11⟩ := hargs c
  obtain ⟨p0, p1, p2, p3, p4, p5, p6, p7, p8, p9⟩ := hpre c
  have hA := finite_of_pre (Cert.Kernel2Ideal.Tile.arrays m c) p0 p1 p2 p3 p4 p5 p6 p7 p8 p9
  refine (h c).1.trans ((Cert.Reference2Ideal.Read.val_main_v94_eq _).trans ?_)
  refine Eq.trans (b := Cert.Reference2Ideal.Read.val_main_v94 (F := Ideal)
    (m' ((c.tc : Thread Cert.Reference2Ideal.nD Cert.Reference2Ideal.τ).loc Cert.Reference2Ideal.main_arg0))
    (m' ((c.tc : Thread Cert.Reference2Ideal.nD Cert.Reference2Ideal.τ).loc Cert.Reference2Ideal.main_arg1))
    (m' ((c.tc : Thread Cert.Reference2Ideal.nD Cert.Reference2Ideal.τ).loc Cert.Reference2Ideal.main_arg2))
    (m' ((c.tc : Thread Cert.Reference2Ideal.nD Cert.Reference2Ideal.τ).loc Cert.Reference2Ideal.main_arg3))
    (m' ((c.tc : Thread Cert.Reference2Ideal.nD Cert.Reference2Ideal.τ).loc Cert.Reference2Ideal.main_arg4))
    (m' ((c.tc : Thread Cert.Reference2Ideal.nD Cert.Reference2Ideal.τ).loc Cert.Reference2Ideal.main_arg5))
    (m' ((c.tc : Thread Cert.Reference2Ideal.nD Cert.Reference2Ideal.τ).loc Cert.Reference2Ideal.main_arg6))
    (m' ((c.tc : Thread Cert.Reference2Ideal.nD Cert.Reference2Ideal.τ).loc Cert.Reference2Ideal.main_arg7))
    (m' ((c.tc : Thread Cert.Reference2Ideal.nD Cert.Reference2Ideal.τ).loc Cert.Reference2Ideal.main_arg8))
    (m' ((c.tc : Thread Cert.Reference2Ideal.nD Cert.Reference2Ideal.τ).loc Cert.Reference2Ideal.main_arg9))
    (m' ((c.tc : Thread Cert.Reference2Ideal.nD Cert.Reference2Ideal.τ).loc Cert.Reference2Ideal.main_arg10))
    (m' ((c.tc : Thread Cert.Reference2Ideal.nD Cert.Reference2Ideal.τ).loc Cert.Reference2Ideal.main_arg11))) rfl ?_
  rw [a0, a1, a2, a3, a4, a5, a6, a7, a8, a9, a10, a11]
  funext i
  rw [eq_ix3 i]
  exact (Cert.Reference2Ideal.Read.final_eq _ _ hA _).trans (Cert.Kernel2Ideal.Tile.array_eq m c _ _ _).symm

/-- The third reference runs and leaves its arguments as they were; it declares no semaphore. -/
theorem frame_reference3 : Cert.quiescent_Reference3Ideal := fun m ρ _ =>
  (θ_run Cert.Reference3Ideal.defs _ _).mono (fun r h => ⟨fun c => (h c).2.2.2.2.2, sem_eq_zero_of_no_sems (by decide) r.2⟩)
    (Cert.Reference3Ideal.Value.run (F := Ideal) m ρ)

/-- Under the third precondition the call after the first mixer and its reference end with the same five results. -/
theorem algebraic3 : Cert.algebraic_Kernel3Ideal_Reference3Ideal_pre_finite_inputs_first (hPre_finite_inputs_first := facts_pre3) := by
  intro m ρ m' ρ' hpre hargs
  refine ⟨_, _, _, _, _, Cert.Kernel3Ideal.Value.run_blocks m ρ, (θ_run Cert.Reference3Ideal.defs _ _).mono
    (fun r h c => ?_) (Cert.Reference3Ideal.Value.run (F := Ideal) m' ρ')⟩
  obtain ⟨a0, a1, a2, a3, a4, a5, a6, a7, a8, a9, a10, a11, a12, a13, a14, a15, a16⟩ := hargs c
  obtain ⟨p0, p1, p2, p3, p4, p5, p6, p7, p8, p9⟩ := hpre c
  have hA := finite_of_pre3 (Cert.Kernel3Ideal.Tile.arrays m c) (Cert.Kernel3Ideal.Tile.next m c) p0 p1 p2 p3 p4 p5 p6 p7 p8 p9
  obtain ⟨h0, h1, h2, h3, h4, hrest⟩ := h c
  let V0 := StableHlo.launchContents m' c
  have b0 : V0 (Proc.devRef .tc Cert.Reference3Ideal.main_arg0) = (Cert.Kernel3Ideal.Tile.arrays m c).x := a0
  have b1 : V0 (Proc.devRef .tc Cert.Reference3Ideal.main_arg1) = (Cert.Kernel3Ideal.Tile.arrays m c).mix := a1
  have b2 : V0 (Proc.devRef .tc Cert.Reference3Ideal.main_arg2) = (Cert.Kernel3Ideal.Tile.arrays m c).q := a2
  have b3 : V0 (Proc.devRef .tc Cert.Reference3Ideal.main_arg3) = (Cert.Kernel3Ideal.Tile.arrays m c).k := a3
  have b4 : V0 (Proc.devRef .tc Cert.Reference3Ideal.main_arg4) = (Cert.Kernel3Ideal.Tile.arrays m c).v := a4
  have b5 : V0 (Proc.devRef .tc Cert.Reference3Ideal.main_arg5) = (Cert.Kernel3Ideal.Tile.arrays m c).wup := a5
  have b6 : V0 (Proc.devRef .tc Cert.Reference3Ideal.main_arg6) = (Cert.Kernel3Ideal.Tile.arrays m c).wdown := a6
  have b7 : V0 (Proc.devRef .tc Cert.Reference3Ideal.main_arg7) = (Cert.Kernel3Ideal.Tile.arrays m c).wout := a7
  have b8 : V0 (Proc.devRef .tc Cert.Reference3Ideal.main_arg8) = (Cert.Kernel3Ideal.Tile.arrays m c).g := a8
  have b9 : V0 (Proc.devRef .tc Cert.Reference3Ideal.main_arg9) = (Cert.Kernel3Ideal.Tile.arrays m c).taps := a9
  have b10 : V0 (Proc.devRef .tc Cert.Reference3Ideal.main_arg10) = (Cert.Kernel3Ideal.Tile.arrays m c).bias := a10
  have b11 : V0 (Proc.devRef .tc Cert.Reference3Ideal.main_arg11) = (Cert.Kernel3Ideal.Tile.arrays m c).gl := a11
  have b12 : V0 (Proc.devRef .tc Cert.Reference3Ideal.main_arg12) = (Cert.Kernel3Ideal.Tile.next m c).wk := a12
  have b13 : V0 (Proc.devRef .tc Cert.Reference3Ideal.main_arg13) = (Cert.Kernel3Ideal.Tile.next m c).wvt := a13
  have b14 : V0 (Proc.devRef .tc Cert.Reference3Ideal.main_arg14) = (Cert.Kernel3Ideal.Tile.next m c).gn := a14
  have b15 : V0 (Proc.devRef .tc Cert.Reference3Ideal.main_arg15) = (Cert.Kernel3Ideal.Tile.next m c).wqt := a15
  have b16 : V0 (Proc.devRef .tc Cert.Reference3Ideal.main_arg16) = (Cert.Kernel3Ideal.Tile.next m c).wqmem := a16
  refine ⟨h0.trans ((Cert.Reference3Ideal.Read.val_main_v80_eq V0).trans ?_), h1.trans ((Cert.Reference3Ideal.Read.val_main_v111_eq V0).trans ?_),
    h2.trans ((Cert.Reference3Ideal.Read.val_main_v116_eq V0).trans ?_), h3.trans ((Cert.Reference3Ideal.Read.val_main_v122_eq V0).trans ?_),
    h4.trans ((Cert.Reference3Ideal.Read.val_main_v125_eq V0).trans ?_), hrest⟩
  · rw [b0, b1, b2, b3, b4, b5, b6, b7, b8, b9, b10]
    funext i
    rw [eq_ix3 i]
    exact (Cert.Reference3Ideal.Read.out_eq hA _ _ _).trans (Cert.Kernel3Ideal.Tile.stream_eq m c _ _ _).symm
  · rw [b0, b1, b2, b3, b4, b5, b6, b7, b8, b9, b10, b11, b12]
    funext i
    rw [eq_ix3 i]
    exact (Cert.Reference3Ideal.Read.key_eq hA _ _ _ _).trans (Cert.Kernel3Ideal.Tile.keys_eq m c _ _ _).symm
  · rw [b0, b1, b2, b3, b4, b5, b6, b7, b8, b9, b10, b11, b13]
    funext i
    rw [eq_ix3 i]
    exact (Cert.Reference3Ideal.Read.value_eq hA _ _ _ _).trans (Cert.Kernel3Ideal.Tile.values_eq m c _ _ _).symm
  · rw [b0, b1, b2, b3, b4, b5, b6, b7, b8, b9, b10, b14, b15]
    funext i
    rw [eq_ix4 i]
    exact (Cert.Reference3Ideal.Read.query_eq hA _ _ _ _ _).trans (Cert.Kernel3Ideal.Tile.queries_eq m c _ _ _ _).symm
  · rw [b0, b1, b2, b3, b4, b5, b6, b7, b8, b9, b10, b14, b16]
    funext i
    rw [eq_ix3 i]
    exact (Cert.Reference3Ideal.Read.memQuery_eq hA _ _ _ _).trans (Cert.Kernel3Ideal.Tile.memQueries_eq m c _ _ _).symm

/-- The fourth reference runs and leaves its arguments as they were; it declares no semaphore. -/
theorem frame_reference4 : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

/-- The call that lays out the memory's keys and values and its reference end with the same two results. -/
theorem algebraic4 : Cert.algebraic_Kernel4Ideal_Reference4Ideal := by
  intro m ρ m' ρ' _ hargs
  refine ⟨_, _, Cert.Kernel4Ideal.Value.run_blocks m ρ, (θ_run Cert.Reference4Ideal.defs _ _).mono
    (fun r h c => ?_) (Cert.Reference4Ideal.Value.run (F := Ideal) m' ρ')⟩
  obtain ⟨a0, a1⟩ := hargs c
  obtain ⟨h0, h1, hrest⟩ := h c
  refine ⟨h0.trans ((Cert.Reference4Ideal.Read.val_main_v19_eq _ _).trans ?_),
    h1.trans ((Cert.Reference4Ideal.Read.val_main_v21_eq _ _).trans ?_), hrest⟩
  · rw [a0, a1]
    funext i
    rw [eq_ix4 i]
    exact (Cert.Reference4Ideal.Read.key_eq _ _ _ _ _ _).trans (Cert.Kernel4Ideal.Tile.keys_eq m c _ _ _ _).symm
  · rw [a0, a1]
    funext i
    rw [eq_ix4 i]
    exact (Cert.Reference4Ideal.Read.value_eq _ _ _ _ _ _).trans (Cert.Kernel4Ideal.Tile.values_eq m c _ _ _ _).symm

/-- Everything that is claimed. -/
theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts, facts_pre, facts_pre2, facts_pre3,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.Kernel2.Gen.frame m ρ, fun m ρ _ => Cert.Kernel2Ideal.Gen.frame m ρ, fun m ρ _ => Cert.Kernel2Ideal.Gen.frame m ρ,
  frame_reference2, fun m ρ _ => frame_reference2 m ρ trivial,
  fun m ρ _ => Cert.Kernel3.Gen.frame m ρ, fun m ρ _ => Cert.Kernel3Ideal.Gen.frame m ρ, fun m ρ _ => Cert.Kernel3Ideal.Gen.frame m ρ,
  frame_reference3, fun m ρ _ => frame_reference3 m ρ trivial,
  fun m ρ _ => Cert.Kernel4.Gen.frame m ρ, fun m ρ _ => Cert.Kernel4Ideal.Gen.frame m ρ, frame_reference4,
  IdealRules.named_const.statement Cert.KernelIdeal.κ "mask" .f32 0xF149F2CA#32 ⊥ rfl, algebraic, trivial, algebraic2,
  trivial, algebraic3, trivial, algebraic4⟩

end Cert.Proof

end
